-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelKvd (m : (ℓ : Loc Cert.KernelKvd.nD Cert.KernelKvd.τ Cert.KernelKvd.sig) → Buf (Elt Bits) ℓ) : Prop :=
  True

def Pre_KernelKvdIdeal (m : (ℓ : Loc Cert.KernelKvdIdeal.nD Cert.KernelKvdIdeal.τ Cert.KernelKvdIdeal.sig) → Buf (Elt Ideal) ℓ) : Prop :=
  True

def Pre_ReferenceKvdIdeal (m : (ℓ : Loc Cert.ReferenceKvdIdeal.nD Cert.ReferenceKvdIdeal.τ Cert.ReferenceKvdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4)
      ∧ r.2.mem ((c.tc : Thread Cert.KernelLast.nD Cert.KernelLast.τ).loc Cert.KernelLast.main_arg5) = m ((c.tc : Thread Cert.KernelLast.nD Cert.KernelLast.τ).loc Cert.KernelLast.main_arg5)
      ∧ r.2.mem ((c.tc : Thread Cert.KernelLast.nD Cert.KernelLast.τ).loc Cert.KernelLast.main_arg6) = m ((c.tc : Thread Cert.KernelLast.nD Cert.KernelLast.τ).loc Cert.KernelLast.main_arg6)
      ∧ r.2.mem ((c.tc : Thread Cert.KernelLast.nD Cert.KernelLast.τ).loc Cert.KernelLast.main_arg7) = m ((c.tc : Thread Cert.KernelLast.nD Cert.KernelLast.τ).loc Cert.KernelLast.main_arg7)
      ∧ r.2.mem ((c.tc : Thread Cert.KernelLast.nD Cert.KernelLast.τ).loc Cert.KernelLast.main_arg8) = m ((c.tc : Thread Cert.KernelLast.nD Cert.KernelLast.τ).loc Cert.KernelLast.main_arg8)
      ∧ r.2.mem ((c.tc : Thread Cert.KernelLast.nD Cert.KernelLast.τ).loc Cert.KernelLast.main_arg9) = m ((c.tc : Thread Cert.KernelLast.nD Cert.KernelLast.τ).loc Cert.KernelLast.main_arg9))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
      ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
      ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
      ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7)
      ∧ r.2.mem ((c.tc : Thread Cert.KernelLastIdeal.nD Cert.KernelLastIdeal.τ).loc Cert.KernelLastIdeal.main_arg8) = m ((c.tc : Thread Cert.KernelLastIdeal.nD Cert.KernelLastIdeal.τ).loc Cert.KernelLastIdeal.main_arg8)
      ∧ r.2.mem ((c.tc : Thread Cert.KernelLastIdeal.nD Cert.KernelLastIdeal.τ).loc Cert.KernelLastIdeal.main_arg9) = m ((c.tc : Thread Cert.KernelLastIdeal.nD Cert.KernelLastIdeal.τ).loc Cert.KernelLastIdeal.main_arg9))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5)
      ∧ r.2.mem ((c.tc : Thread Cert.ReferenceLastIdeal.nD Cert.ReferenceLastIdeal.τ).loc Cert.ReferenceLastIdeal.main_arg6) = m ((c.tc : Thread Cert.ReferenceLastIdeal.nD Cert.ReferenceLastIdeal.τ).loc Cert.ReferenceLastIdeal.main_arg6)
      ∧ r.2.mem ((c.tc : Thread Cert.ReferenceLastIdeal.nD Cert.ReferenceLastIdeal.τ).loc Cert.ReferenceLastIdeal.main_arg7) = m ((c.tc : Thread Cert.ReferenceLastIdeal.nD Cert.ReferenceLastIdeal.τ).loc Cert.ReferenceLastIdeal.main_arg7)
      ∧ r.2.mem ((c.tc : Thread Cert.ReferenceLastIdeal.nD Cert.ReferenceLastIdeal.τ).loc Cert.ReferenceLastIdeal.main_arg8) = m ((c.tc : Thread Cert.ReferenceLastIdeal.nD Cert.ReferenceLastIdeal.τ).loc Cert.ReferenceLastIdeal.main_arg8)
      ∧ r.2.mem ((c.tc : Thread Cert.ReferenceLastIdeal.nD Cert.ReferenceLastIdeal.τ).loc Cert.ReferenceLastIdeal.main_arg9) = m ((c.tc : Thread Cert.ReferenceLastIdeal.nD Cert.ReferenceLastIdeal.τ).loc Cert.ReferenceLastIdeal.main_arg9))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2)
      ∧ r.2.mem ((c.tc : Thread Cert.KernelRes.nD Cert.KernelRes.τ).loc Cert.KernelRes.main_arg3) = m ((c.tc : Thread Cert.KernelRes.nD Cert.KernelRes.τ).loc Cert.KernelRes.main_arg3)
      ∧ r.2.mem ((c.tc : Thread Cert.KernelRes.nD Cert.KernelRes.τ).loc Cert.KernelRes.main_arg4) = m ((c.tc : Thread Cert.KernelRes.nD Cert.KernelRes.τ).loc Cert.KernelRes.main_arg4))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
      ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
      ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2)
      ∧ r.2.mem ((c.tc : Thread Cert.ReferenceResIdeal.nD Cert.ReferenceResIdeal.τ).loc Cert.ReferenceResIdeal.main_arg3) = m ((c.tc : Thread Cert.ReferenceResIdeal.nD Cert.ReferenceResIdeal.τ).loc Cert.ReferenceResIdeal.main_arg3)
      ∧ r.2.mem ((c.tc : Thread Cert.ReferenceResIdeal.nD Cert.ReferenceResIdeal.τ).loc Cert.ReferenceResIdeal.main_arg4) = m ((c.tc : Thread Cert.ReferenceResIdeal.nD Cert.ReferenceResIdeal.τ).loc Cert.ReferenceResIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4)
      ∧ r.2.mem ((c.tc : Thread Cert.KernelAttn.nD Cert.KernelAttn.τ).loc Cert.KernelAttn.main_arg5) = m ((c.tc : Thread Cert.KernelAttn.nD Cert.KernelAttn.τ).loc Cert.KernelAttn.main_arg5))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def quiescent_KernelKvd [hKernelKvd : Cert.KernelKvd.Facts] : Prop :=
  ∀ (m : (ℓ : Loc Cert.KernelKvd.nD Cert.KernelKvd.τ Cert.KernelKvd.sig) → Buf (Elt Bits) ℓ) (g : Dev Cert.KernelKvd.nD → PrngReg), Pre_KernelKvd m →
    θ_run (Cert.KernelKvd.defs (F := Bits)) (onTc (τ := Cert.KernelKvd.τ) (Cert.KernelKvd.main (F := Bits))) ⟨m, fun _ => 0, g⟩ (fun r => (∀ c : Dev Cert.KernelKvd.nD,
      r.2.mem ((c.tc : Thread Cert.KernelKvd.nD Cert.KernelKvd.τ).loc Cert.KernelKvd.main_arg0) = m ((c.tc : Thread Cert.KernelKvd.nD Cert.KernelKvd.τ).loc Cert.KernelKvd.main_arg0))
      ∧ r.2.sem = fun _ => 0)

def quiescent_KernelKvdIdeal [hKernelKvdIdeal : Cert.KernelKvdIdeal.Facts] : Prop :=
  ∀ (m : (ℓ : Loc Cert.KernelKvdIdeal.nD Cert.KernelKvdIdeal.τ Cert.KernelKvdIdeal.sig) → Buf (Elt Ideal) ℓ) (g : Dev Cert.KernelKvdIdeal.nD → PrngReg), Pre_KernelKvdIdeal m →
    θ_run (Cert.KernelKvdIdeal.defs (F := Ideal)) (onTc (τ := Cert.KernelKvdIdeal.τ) (Cert.KernelKvdIdeal.main (F := Ideal))) ⟨m, fun _ => 0, g⟩ (fun r => (∀ c : Dev Cert.KernelKvdIdeal.nD,
      r.2.mem ((c.tc : Thread Cert.KernelKvdIdeal.nD Cert.KernelKvdIdeal.τ).loc Cert.KernelKvdIdeal.main_arg0) = m ((c.tc : Thread Cert.KernelKvdIdeal.nD Cert.KernelKvdIdeal.τ).loc Cert.KernelKvdIdeal.main_arg0))
      ∧ r.2.sem = fun _ => 0)

def quiescent_ReferenceKvdIdeal [hReferenceKvdIdeal : Cert.ReferenceKvdIdeal.Facts] : Prop :=
  ∀ (m : (ℓ : Loc Cert.ReferenceKvdIdeal.nD Cert.ReferenceKvdIdeal.τ Cert.ReferenceKvdIdeal.sig) → Buf (Elt Ideal) ℓ) (g : Dev Cert.ReferenceKvdIdeal.nD → PrngReg), Pre_ReferenceKvdIdeal m →
    θ_run (Cert.ReferenceKvdIdeal.defs (F := Ideal)) (onTc (τ := Cert.ReferenceKvdIdeal.τ) (Cert.ReferenceKvdIdeal.main (F := Ideal))) ⟨m, fun _ => 0, g⟩ (fun r => (∀ c : Dev Cert.ReferenceKvdIdeal.nD,
      r.2.mem ((c.tc : Thread Cert.ReferenceKvdIdeal.nD Cert.ReferenceKvdIdeal.τ).loc Cert.ReferenceKvdIdeal.main_arg0) = m ((c.tc : Thread Cert.ReferenceKvdIdeal.nD Cert.ReferenceKvdIdeal.τ).loc Cert.ReferenceKvdIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v2) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v124) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v1) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v52) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)
      ∧ m' ((c.tc : Thread Cert.ReferenceLastIdeal.nD Cert.ReferenceLastIdeal.τ).loc Cert.ReferenceLastIdeal.main_arg5) = m ((c.tc : Thread Cert.KernelLastIdeal.nD Cert.KernelLastIdeal.τ).loc Cert.KernelLastIdeal.main_arg5)
      ∧ m' ((c.tc : Thread Cert.ReferenceLastIdeal.nD Cert.ReferenceLastIdeal.τ).loc Cert.ReferenceLastIdeal.main_arg6) = m ((c.tc : Thread Cert.KernelLastIdeal.nD Cert.KernelLastIdeal.τ).loc Cert.KernelLastIdeal.main_arg6)
      ∧ m' ((c.tc : Thread Cert.ReferenceLastIdeal.nD Cert.ReferenceLastIdeal.τ).loc Cert.ReferenceLastIdeal.main_arg7) = m ((c.tc : Thread Cert.KernelLastIdeal.nD Cert.KernelLastIdeal.τ).loc Cert.KernelLastIdeal.main_arg7)
      ∧ m' ((c.tc : Thread Cert.ReferenceLastIdeal.nD Cert.ReferenceLastIdeal.τ).loc Cert.ReferenceLastIdeal.main_arg8) = m ((c.tc : Thread Cert.KernelLastIdeal.nD Cert.KernelLastIdeal.τ).loc Cert.KernelLastIdeal.main_arg8)
      ∧ m' ((c.tc : Thread Cert.ReferenceLastIdeal.nD Cert.ReferenceLastIdeal.τ).loc Cert.ReferenceLastIdeal.main_arg9) = m ((c.tc : Thread Cert.KernelLastIdeal.nD Cert.KernelLastIdeal.τ).loc Cert.KernelLastIdeal.main_arg9)) →
    ∃ (v0 : (c : Dev Cert.KernelLastIdeal.nD) → Buf (Elt Ideal) ((c.tc : Thread Cert.KernelLastIdeal.nD Cert.KernelLastIdeal.τ).loc Cert.KernelLastIdeal.main_v3_0)) (v1 : (c : Dev Cert.KernelLastIdeal.nD) → Buf (Elt Ideal) ((c.tc : Thread Cert.KernelLastIdeal.nD Cert.KernelLastIdeal.τ).loc Cert.KernelLastIdeal.main_v3_1)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v3_0) = v0 c
          ∧ r.2.mem ((c.tc : Thread Cert.KernelLastIdeal.nD Cert.KernelLastIdeal.τ).loc Cert.KernelLastIdeal.main_v3_1) = v1 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
          ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5)
          ∧ r.2.mem ((c.tc : Thread Cert.KernelLastIdeal.nD Cert.KernelLastIdeal.τ).loc Cert.KernelLastIdeal.main_arg6) = m ((c.tc : Thread Cert.KernelLastIdeal.nD Cert.KernelLastIdeal.τ).loc Cert.KernelLastIdeal.main_arg6)
          ∧ r.2.mem ((c.tc : Thread Cert.KernelLastIdeal.nD Cert.KernelLastIdeal.τ).loc Cert.KernelLastIdeal.main_arg7) = m ((c.tc : Thread Cert.KernelLastIdeal.nD Cert.KernelLastIdeal.τ).loc Cert.KernelLastIdeal.main_arg7)
          ∧ r.2.mem ((c.tc : Thread Cert.KernelLastIdeal.nD Cert.KernelLastIdeal.τ).loc Cert.KernelLastIdeal.main_arg8) = m ((c.tc : Thread Cert.KernelLastIdeal.nD Cert.KernelLastIdeal.τ).loc Cert.KernelLastIdeal.main_arg8)
          ∧ r.2.mem ((c.tc : Thread Cert.KernelLastIdeal.nD Cert.KernelLastIdeal.τ).loc Cert.KernelLastIdeal.main_arg9) = m ((c.tc : Thread Cert.KernelLastIdeal.nD Cert.KernelLastIdeal.τ).loc Cert.KernelLastIdeal.main_arg9))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v135) = v0 c
          ∧ r.2.mem ((c.tc : Thread Cert.ReferenceLastIdeal.nD Cert.ReferenceLastIdeal.τ).loc Cert.ReferenceLastIdeal.main_v149) = v1 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4)
          ∧ r.2.mem ((c.tc : Thread Cert.ReferenceLastIdeal.nD Cert.ReferenceLastIdeal.τ).loc Cert.ReferenceLastIdeal.main_arg5) = m' ((c.tc : Thread Cert.ReferenceLastIdeal.nD Cert.ReferenceLastIdeal.τ).loc Cert.ReferenceLastIdeal.main_arg5)
          ∧ r.2.mem ((c.tc : Thread Cert.ReferenceLastIdeal.nD Cert.ReferenceLastIdeal.τ).loc Cert.ReferenceLastIdeal.main_arg6) = m' ((c.tc : Thread Cert.ReferenceLastIdeal.nD Cert.ReferenceLastIdeal.τ).loc Cert.ReferenceLastIdeal.main_arg6)
          ∧ r.2.mem ((c.tc : Thread Cert.ReferenceLastIdeal.nD Cert.ReferenceLastIdeal.τ).loc Cert.ReferenceLastIdeal.main_arg7) = m' ((c.tc : Thread Cert.ReferenceLastIdeal.nD Cert.ReferenceLastIdeal.τ).loc Cert.ReferenceLastIdeal.main_arg7)
          ∧ r.2.mem ((c.tc : Thread Cert.ReferenceLastIdeal.nD Cert.ReferenceLastIdeal.τ).loc Cert.ReferenceLastIdeal.main_arg8) = m' ((c.tc : Thread Cert.ReferenceLastIdeal.nD Cert.ReferenceLastIdeal.τ).loc Cert.ReferenceLastIdeal.main_arg8)
          ∧ r.2.mem ((c.tc : Thread Cert.ReferenceLastIdeal.nD Cert.ReferenceLastIdeal.τ).loc Cert.ReferenceLastIdeal.main_arg9) = m' ((c.tc : Thread Cert.ReferenceLastIdeal.nD Cert.ReferenceLastIdeal.τ).loc Cert.ReferenceLastIdeal.main_arg9))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)) →
    ∃ (v0 : (c : Dev Cert.KernelQkvIdeal.nD) → Buf (Elt Ideal) ((c.tc : Thread Cert.KernelQkvIdeal.nD Cert.KernelQkvIdeal.τ).loc Cert.KernelQkvIdeal.main_v1)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v1) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v51) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)) →
    ∃ (v0 : (c : Dev Cert.KernelGateIdeal.nD) → Buf (Elt Ideal) ((c.tc : Thread Cert.KernelGateIdeal.nD Cert.KernelGateIdeal.τ).loc Cert.KernelGateIdeal.main_v1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v59) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6))

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)
      ∧ m' ((c.tc : Thread Cert.ReferenceResIdeal.nD Cert.ReferenceResIdeal.τ).loc Cert.ReferenceResIdeal.main_arg3) = m ((c.tc : Thread Cert.KernelResIdeal.nD Cert.KernelResIdeal.τ).loc Cert.KernelResIdeal.main_arg3)
      ∧ m' ((c.tc : Thread Cert.ReferenceResIdeal.nD Cert.ReferenceResIdeal.τ).loc Cert.ReferenceResIdeal.main_arg4) = m ((c.tc : Thread Cert.KernelResIdeal.nD Cert.KernelResIdeal.τ).loc Cert.KernelResIdeal.main_arg4)) →
    ∃ (v0 : (c : Dev Cert.KernelResIdeal.nD) → Buf (Elt Ideal) ((c.tc : Thread Cert.KernelResIdeal.nD Cert.KernelResIdeal.τ).loc Cert.KernelResIdeal.main_v0)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v0) = v0 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
          ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3)
          ∧ r.2.mem ((c.tc : Thread Cert.KernelResIdeal.nD Cert.KernelResIdeal.τ).loc Cert.KernelResIdeal.main_arg4) = m ((c.tc : Thread Cert.KernelResIdeal.nD Cert.KernelResIdeal.τ).loc Cert.KernelResIdeal.main_arg4))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v21) = v0 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2)
          ∧ r.2.mem ((c.tc : Thread Cert.ReferenceResIdeal.nD Cert.ReferenceResIdeal.τ).loc Cert.ReferenceResIdeal.main_arg3) = m' ((c.tc : Thread Cert.ReferenceResIdeal.nD Cert.ReferenceResIdeal.τ).loc Cert.ReferenceResIdeal.main_arg3)
          ∧ r.2.mem ((c.tc : Thread Cert.ReferenceResIdeal.nD Cert.ReferenceResIdeal.τ).loc Cert.ReferenceResIdeal.main_arg4) = m' ((c.tc : Thread Cert.ReferenceResIdeal.nD Cert.ReferenceResIdeal.τ).loc Cert.ReferenceResIdeal.main_arg4))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)
      ∧ m' ((c.tc : Thread Cert.ReferenceAttnIdeal.nD Cert.ReferenceAttnIdeal.τ).loc Cert.ReferenceAttnIdeal.main_arg5) = m ((c.tc : Thread Cert.KernelAttnIdeal.nD Cert.KernelAttnIdeal.τ).loc Cert.KernelAttnIdeal.main_arg5)) →
    ∃ (v0 : (c : Dev Cert.KernelAttnIdeal.nD) → Buf (Elt Ideal) ((c.tc : Thread Cert.KernelAttnIdeal.nD Cert.KernelAttnIdeal.τ).loc Cert.KernelAttnIdeal.main_v1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v1) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
          ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v49) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4)
          ∧ r.2.mem ((c.tc : Thread Cert.ReferenceAttnIdeal.nD Cert.ReferenceAttnIdeal.τ).loc Cert.ReferenceAttnIdeal.main_arg5) = m' ((c.tc : Thread Cert.ReferenceAttnIdeal.nD Cert.ReferenceAttnIdeal.τ).loc Cert.ReferenceAttnIdeal.main_arg5))

def preserves_KernelKvd_KernelKvdIdeal : Prop :=
  True

def algebraic_KernelKvdIdeal_ReferenceKvdIdeal [hKernelKvdIdeal : Cert.KernelKvdIdeal.Facts] [hReferenceKvdIdeal : Cert.ReferenceKvdIdeal.Facts] : Prop :=
  ∀ (m : (ℓ : Loc Cert.KernelKvdIdeal.nD Cert.KernelKvdIdeal.τ Cert.KernelKvdIdeal.sig) → Buf (Elt Ideal) ℓ) (g : Dev Cert.KernelKvdIdeal.nD → PrngReg)
    (m' : (ℓ : Loc Cert.ReferenceKvdIdeal.nD Cert.ReferenceKvdIdeal.τ Cert.ReferenceKvdIdeal.sig) → Buf (Elt Ideal) ℓ) (g' : Dev Cert.ReferenceKvdIdeal.nD → PrngReg), Pre_KernelKvdIdeal m →
    (∀ c : Dev Cert.KernelKvdIdeal.nD,
      m' ((c.tc : Thread Cert.ReferenceKvdIdeal.nD Cert.ReferenceKvdIdeal.τ).loc Cert.ReferenceKvdIdeal.main_arg0) = m ((c.tc : Thread Cert.KernelKvdIdeal.nD Cert.KernelKvdIdeal.τ).loc Cert.KernelKvdIdeal.main_arg0)) →
    ∃ (v0 : (c : Dev Cert.KernelKvdIdeal.nD) → Buf (Elt Ideal) ((c.tc : Thread Cert.KernelKvdIdeal.nD Cert.KernelKvdIdeal.τ).loc Cert.KernelKvdIdeal.main_v0_0)) (v1 : (c : Dev Cert.KernelKvdIdeal.nD) → Buf (Elt Ideal) ((c.tc : Thread Cert.KernelKvdIdeal.nD Cert.KernelKvdIdeal.τ).loc Cert.KernelKvdIdeal.main_v0_1)) (v2 : (c : Dev Cert.KernelKvdIdeal.nD) → Buf (Elt Ideal) ((c.tc : Thread Cert.KernelKvdIdeal.nD Cert.KernelKvdIdeal.τ).loc Cert.KernelKvdIdeal.main_v0_2)) (v3 : (c : Dev Cert.KernelKvdIdeal.nD) → Buf (Elt Ideal) ((c.tc : Thread Cert.KernelKvdIdeal.nD Cert.KernelKvdIdeal.τ).loc Cert.KernelKvdIdeal.main_v0_3)),
      θ_run (Cert.KernelKvdIdeal.defs (F := Ideal)) (onTc (τ := Cert.KernelKvdIdeal.τ) (Cert.KernelKvdIdeal.main (F := Ideal))) ⟨m, fun _ => 0, g⟩ (fun r => ∀ c : Dev Cert.KernelKvdIdeal.nD,
          r.2.mem ((c.tc : Thread Cert.KernelKvdIdeal.nD Cert.KernelKvdIdeal.τ).loc Cert.KernelKvdIdeal.main_v0_0) = v0 c
          ∧ r.2.mem ((c.tc : Thread Cert.KernelKvdIdeal.nD Cert.KernelKvdIdeal.τ).loc Cert.KernelKvdIdeal.main_v0_1) = v1 c
          ∧ r.2.mem ((c.tc : Thread Cert.KernelKvdIdeal.nD Cert.KernelKvdIdeal.τ).loc Cert.KernelKvdIdeal.main_v0_2) = v2 c
          ∧ r.2.mem ((c.tc : Thread Cert.KernelKvdIdeal.nD Cert.KernelKvdIdeal.τ).loc Cert.KernelKvdIdeal.main_v0_3) = v3 c
          ∧ r.2.mem ((c.tc : Thread Cert.KernelKvdIdeal.nD Cert.KernelKvdIdeal.τ).loc Cert.KernelKvdIdeal.main_arg0) = m ((c.tc : Thread Cert.KernelKvdIdeal.nD Cert.KernelKvdIdeal.τ).loc Cert.KernelKvdIdeal.main_arg0))
      ∧ θ_run (Cert.ReferenceKvdIdeal.defs (F := Ideal)) (onTc (τ := Cert.ReferenceKvdIdeal.τ) (Cert.ReferenceKvdIdeal.main (F := Ideal))) ⟨m', fun _ => 0, g'⟩ (fun r => ∀ c : Dev Cert.ReferenceKvdIdeal.nD,
          r.2.mem ((c.tc : Thread Cert.ReferenceKvdIdeal.nD Cert.ReferenceKvdIdeal.τ).loc Cert.ReferenceKvdIdeal.main_v6) = v0 c
          ∧ r.2.mem ((c.tc : Thread Cert.ReferenceKvdIdeal.nD Cert.ReferenceKvdIdeal.τ).loc Cert.ReferenceKvdIdeal.main_v8) = v1 c
          ∧ r.2.mem ((c.tc : Thread Cert.ReferenceKvdIdeal.nD Cert.ReferenceKvdIdeal.τ).loc Cert.ReferenceKvdIdeal.main_v9) = v2 c
          ∧ r.2.mem ((c.tc : Thread Cert.ReferenceKvdIdeal.nD Cert.ReferenceKvdIdeal.τ).loc Cert.ReferenceKvdIdeal.main_v10) = v3 c
          ∧ r.2.mem ((c.tc : Thread Cert.ReferenceKvdIdeal.nD Cert.ReferenceKvdIdeal.τ).loc Cert.ReferenceKvdIdeal.main_arg0) = m' ((c.tc : Thread Cert.ReferenceKvdIdeal.nD Cert.ReferenceKvdIdeal.τ).loc Cert.ReferenceKvdIdeal.main_arg0))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelLast : Cert.KernelLast.Facts) (hKernelLastIdeal : Cert.KernelLastIdeal.Facts) (hReferenceLastIdeal : Cert.ReferenceLastIdeal.Facts) (hKernelQkv : Cert.KernelQkv.Facts) (hKernelQkvIdeal : Cert.KernelQkvIdeal.Facts) (hReferenceQkvIdeal : Cert.ReferenceQkvIdeal.Facts) (hKernelGate : Cert.KernelGate.Facts) (hKernelGateIdeal : Cert.KernelGateIdeal.Facts) (hReferenceGateIdeal : Cert.ReferenceGateIdeal.Facts) (hKernelRes : Cert.KernelRes.Facts) (hKernelResIdeal : Cert.KernelResIdeal.Facts) (hReferenceResIdeal : Cert.ReferenceResIdeal.Facts) (hKernelAttn : Cert.KernelAttn.Facts) (hKernelAttnIdeal : Cert.KernelAttnIdeal.Facts) (hReferenceAttnIdeal : Cert.ReferenceAttnIdeal.Facts) (hKernelKvd : Cert.KernelKvd.Facts) (hKernelKvdIdeal : Cert.KernelKvdIdeal.Facts) (hReferenceKvdIdeal : Cert.ReferenceKvdIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelKvd (hKernelKvd := hKernelKvd)
    ∧ quiescent_KernelKvdIdeal (hKernelKvdIdeal := hKernelKvdIdeal)
    ∧ quiescent_ReferenceKvdIdeal (hReferenceKvdIdeal := hReferenceKvdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelLast_KernelLastIdeal
    ∧ algebraic_KernelLastIdeal_ReferenceLastIdeal (hKernelLastIdeal := hKernelLastIdeal) (hReferenceLastIdeal := hReferenceLastIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelGate_KernelGateIdeal
    ∧ algebraic_KernelGateIdeal_ReferenceGateIdeal (hKernelGateIdeal := hKernelGateIdeal) (hReferenceGateIdeal := hReferenceGateIdeal)
    ∧ preserves_KernelRes_KernelResIdeal
    ∧ algebraic_KernelResIdeal_ReferenceResIdeal (hKernelResIdeal := hKernelResIdeal) (hReferenceResIdeal := hReferenceResIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelKvd_KernelKvdIdeal
    ∧ algebraic_KernelKvdIdeal_ReferenceKvdIdeal (hKernelKvdIdeal := hKernelKvdIdeal) (hReferenceKvdIdeal := hReferenceKvdIdeal)
-- ==== Pre_finite.lean ====
abbrev S16384x6144 : Shape := ⟨2, ![16384, 6144]⟩
abbrev S2x4 : Shape := ⟨2, ![2, 4]⟩
abbrev S8192x4096 : Shape := ⟨2, ![8192, 4096]⟩
abbrev S_ : Shape := ⟨0, ![]⟩

class Facts : Prop where
  slices_S16384x6144_S8192x4096_0_0 : S16384x6144.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S16384x6144 .bf16) (main_arg1 : FVec F S2x4 .f32) : IVec S_ 1 :=
  let main_v0 : FVec F S8192x4096 .bf16 := (extractStridedSlice S8192x4096 ![0, 0] · slices_S16384x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  main_v5
-- ==== Kernel.lean ====
abbrev S16384x6144 : Shape := ⟨2, ![16384, 6144]⟩
abbrev S2x4 : Shape := ⟨2, ![2, 4]⟩
abbrev S8192x2048 : Shape := ⟨2, ![8192, 2048]⟩
abbrev S32x2x4x256x512 : Shape := ⟨5, ![32, 2, 4, 256, 512]⟩
abbrev S256x1024 : Shape := ⟨2, ![256, 1024]⟩
abbrev S256x2048 : Shape := ⟨2, ![256, 2048]⟩
abbrev S1x2x4x256x512 : Shape := ⟨5, ![1, 2, 4, 256, 512]⟩
abbrev S256x1 : Shape := ⟨2, ![256, 1]⟩
abbrev S1x1 : Shape := ⟨2, ![1, 1]⟩
abbrev S256x256 : Shape := ⟨2, ![256, 256]⟩
abbrev S256x512 : Shape := ⟨2, ![256, 512]⟩
abbrev S1x1x1x256x512 : Shape := ⟨5, ![1, 1, 1, 256, 512]⟩

abbrev nBuf : Space → Nat
  | .hbm => 4
  | .vmem => 10
  | .smem => 1
  | _ => 0

abbrev bufTy : (tb : Table) → Fin (tcTables nBuf tb) → BufTy
  | .hbm, ⟨0, _⟩ => ⟨S16384x6144, .bf16⟩
  | .hbm, ⟨1, _⟩ => ⟨S2x4, .f32⟩
  | .hbm, ⟨2, _⟩ => ⟨S8192x2048, .f32⟩
  | .hbm, ⟨3, _⟩ => ⟨S32x2x4x256x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2x4x256x512, .f32⟩
  | .local _ .vmem, ⟨9, _⟩ => ⟨S1x2x4x256x512, .f32⟩
  | .local _ .smem, ⟨0, _⟩ => ⟨S2x4, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x6144 : Shape := ⟨2, ![16384, 6144]⟩
abbrev S2x4 : Shape := ⟨2, ![2, 4]⟩
abbrev S8192x6144 : Shape := ⟨2, ![8192, 6144]⟩
abbrev S8192x1024 : Shape := ⟨2, ![8192, 1024]⟩
abbrev S32x256x4x256 : Shape := ⟨4, ![32, 256, 4, 256]⟩
abbrev S_ : Shape := ⟨0, ![]⟩
abbrev S8192x2048 : Shape := ⟨2, ![8192, 2048]⟩
abbrev S32x256x4x512 : Shape := ⟨4, ![32, 256, 4, 512]⟩
abbrev S32x4x256x512 : Shape := ⟨4, ![32, 4, 256, 512]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S128x4 : Shape := ⟨2, ![128, 4]⟩
abbrev S32x128x4x256 : Shape := ⟨4, ![32, 128, 4, 256]⟩
abbrev S32x128x4x512 : Shape := ⟨4, ![32, 128, 4, 512]⟩
abbrev S32x4x128x128 : Shape := ⟨4, ![32, 4, 128, 128]⟩
abbrev S1x4x128x128 : Shape := ⟨4, ![1, 4, 128, 128]⟩
abbrev S32x4x512x128 : Shape := ⟨4, ![32, 4, 512, 128]⟩
abbrev S1x128x4x1 : Shape := ⟨4, ![1, 128, 4, 1]⟩
abbrev S1x4x1x1 : Shape := ⟨4, ![1, 4, 1, 1]⟩
abbrev S32x1x4x256x512 : Shape := ⟨5, ![32, 1, 4, 256, 512]⟩
abbrev S32x2x4x256x512 : Shape := ⟨5, ![32, 2, 4, 256, 512]⟩

abbrev nBuf : Space → Nat
  | .hbm => 218
  | .vmem => 0
  | .smem => 0
  | _ => 0

abbrev hbmTy0_0 (i : Nat) : BufTy := match i % 128 with
  | 0 => ⟨S16384x6144, .bf16⟩
  | 1 => ⟨S2x4, .f32⟩
  | 2 => ⟨S8192x6144, .bf16⟩
  | 3 => ⟨S8192x6144, .f32⟩
  | 4 => ⟨S8192x1024, .f32⟩
  | 5 => ⟨S32x256x4x256, .f32⟩
  | 6 => ⟨S8192x1024, .f32⟩
  | 7 => ⟨S32x256x4x256, .f32⟩
  | 8 => ⟨S_, .f32⟩
  | 9 => ⟨S32x256x4x256, .f32⟩
  | 10 => ⟨S32x256x4x256, .f32⟩
  | 11 => ⟨S8192x2048, .f32⟩
  | 12 => ⟨S32x256x4x512, .f32⟩
  | 13 => ⟨S2x4, .f32⟩
  | 14 => ⟨S2x4, .f32⟩
  | 15 => ⟨S_, .f32⟩
  | 16 => ⟨S32x4x256x512, .f32⟩
  | 17 => ⟨S1x4, .f32⟩
  | 18 => ⟨S4, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .i1⟩
  | 28 => ⟨S1x128x128, .i1⟩
  | 29 => ⟨S_, .f32⟩
  | 30 => ⟨S_, .f32⟩
  | 31 => ⟨S128x128, .f32⟩
  | 32 => ⟨S128x128, .f32⟩
  | 33 => ⟨S1x128x128, .f32⟩
  | 34 => ⟨S4x1x1, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S_, .f32⟩
  | 45 => ⟨S128, .f32⟩
  | 46 => ⟨S128, .f32⟩
  | 47 => ⟨S128x1, .f32⟩
  | 48 => ⟨S1x4, .f32⟩
  | 49 => ⟨S128x4, .f32⟩
  | 50 => ⟨S128x4, .f32⟩
  | 51 => ⟨S128x4, .f32⟩
  | 52 => ⟨S128x4, .f32⟩
  | 53 => ⟨S_, .f32⟩
  | 54 => ⟨S128, .f32⟩
  | 55 => ⟨S128, .f32⟩
  | 56 => ⟨S128x1, .f32⟩
  | 57 => ⟨S1x4, .f32⟩
  | 58 => ⟨S128x4, .f32⟩
  | 59 => ⟨S128x4, .f32⟩
  | 60 => ⟨S128x4, .f32⟩
  | 61 => ⟨S128x4, .f32⟩
  | 62 => ⟨S_, .f32⟩
  | 63 => ⟨S4, .f32⟩
  | 64 => ⟨S4, .f32⟩
  | 65 => ⟨S4, .f32⟩
  | 66 => ⟨S32x128x4x256, .f32⟩
  | 67 => ⟨S32x128x4x256, .f32⟩
  | 68 => ⟨S32x128x4x512, .f32⟩
  | 69 => ⟨S32x4x128x128, .f32⟩
  | 70 => ⟨S1x4x128x128, .f32⟩
  | 71 => ⟨S32x4x128x128, .f32⟩
  | 72 => ⟨S32x4x128x128, .f32⟩
  | 73 => ⟨S32x4x512x128, .f32⟩
  | 74 => ⟨S32x128x4x512, .f32⟩
  | 75 => ⟨S32x4x512x128, .f32⟩
  | 76 => ⟨S32x128x4x512, .f32⟩
  | 77 => ⟨S1x128x4x1, .f32⟩
  | 78 => ⟨S32x128x4x512, .f32⟩
  | 79 => ⟨S32x128x4x512, .f32⟩
  | 80 => ⟨S32x128x4x512, .f32⟩
  | 81 => ⟨S1x4x1x1, .f32⟩
  | 82 => ⟨S32x4x256x512, .f32⟩
  | 83 => ⟨S32x4x256x512, .f32⟩
  | 84 => ⟨S1x128x4x1, .f32⟩
  | 85 => ⟨S32x128x4x256, .f32⟩
  | 86 => ⟨S32x128x4x256, .f32⟩
  | 87 => ⟨S32x4x256x512, .f32⟩
  | 88 => ⟨S32x4x256x512, .f32⟩
  | 89 => ⟨S32x128x4x256, .f32⟩
  | 90 => ⟨S32x128x4x256, .f32⟩
  | 91 => ⟨S32x128x4x512, .f32⟩
  | 92 => ⟨S32x4x128x128, .f32⟩
  | 93 => ⟨S1x4x128x128, .f32⟩
  | 94 => ⟨S32x4x128x128, .f32⟩
  | 95 => ⟨S32x4x128x128, .f32⟩
  | 96 => ⟨S32x4x512x128, .f32⟩
  | 97 => ⟨S32x128x4x512, .f32⟩
  | 98 => ⟨S32x4x512x128, .f32⟩
  | 99 => ⟨S32x128x4x512, .f32⟩
  | 100 => ⟨S1x128x4x1, .f32⟩
  | 101 => ⟨S32x128x4x512, .f32⟩
  | 102 => ⟨S32x128x4x512, .f32⟩
  | 103 => ⟨S32x128x4x512, .f32⟩
  | 104 => ⟨S1x4x1x1, .f32⟩
  | 105 => ⟨S32x4x256x512, .f32⟩
  | 106 => ⟨S32x4x256x512, .f32⟩
  | 107 => ⟨S1x128x4x1, .f32⟩
  | 108 => ⟨S32x128x4x256, .f32⟩
  | 109 => ⟨S32x128x4x256, .f32⟩
  | 110 => ⟨S32x4x256x512, .f32⟩
  | 111 => ⟨S32x4x256x512, .f32⟩
  | 112 => ⟨S32x256x4x512, .f32⟩
  | 113 => ⟨S32x256x4x256, .f32⟩
  | 114 => ⟨S32x256x4x256, .f32⟩
  | 115 => ⟨S32x256x4x512, .f32⟩
  | 116 => ⟨S1x4, .f32⟩
  | 117 => ⟨S4, .f32⟩
  | 118 => ⟨S128, .f32⟩
  | 119 => ⟨S128x1, .f32⟩
  | 120 => ⟨S1x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .i1⟩
  | 127 => ⟨S1x128x128, .i1⟩
  | _ => ⟨S16384x6144, .bf16⟩

abbrev hbmTy0_1 (i : Nat) : BufTy := match i % 128 with
  | 0 => ⟨S_, .f32⟩
  | 1 => ⟨S_, .f32⟩
  | 2 => ⟨S128x128, .f32⟩
  | 3 => ⟨S128x128, .f32⟩
  | 4 => ⟨S1x128x128, .f32⟩
  | 5 => ⟨S4x1x1, .f32⟩
  | 6 => ⟨S4x128x128, .f32⟩
  | 7 => ⟨S4x128x128, .f32⟩
  | 8 => ⟨S4x128x128, .f32⟩
  | 9 => ⟨S4x128x128, .f32⟩
  | 10 => ⟨S_, .f32⟩
  | 11 => ⟨S_, .f32⟩
  | 12 => ⟨S4x128x128, .i1⟩
  | 13 => ⟨S4x128x128, .f32⟩
  | 14 => ⟨S4x128x128, .f32⟩
  | 15 => ⟨S_, .f32⟩
  | 16 => ⟨S128, .f32⟩
  | 17 => ⟨S128, .f32⟩
  | 18 => ⟨S128x1, .f32⟩
  | 19 => ⟨S1x4, .f32⟩
  | 20 => ⟨S128x4, .f32⟩
  | 21 => ⟨S128x4, .f32⟩
  | 22 => ⟨S128x4, .f32⟩
  | 23 => ⟨S128x4, .f32⟩
  | 24 => ⟨S_, .f32⟩
  | 25 => ⟨S128, .f32⟩
  | 26 => ⟨S128, .f32⟩
  | 27 => ⟨S128x1, .f32⟩
  | 28 => ⟨S1x4, .f32⟩
  | 29 => ⟨S128x4, .f32⟩
  | 30 => ⟨S128x4, .f32⟩
  | 31 => ⟨S128x4, .f32⟩
  | 32 => ⟨S128x4, .f32⟩
  | 33 => ⟨S_, .f32⟩
  | 34 => ⟨S4, .f32⟩
  | 35 => ⟨S4, .f32⟩
  | 36 => ⟨S4, .f32⟩
  | 37 => ⟨S32x128x4x256, .f32⟩
  | 38 => ⟨S32x128x4x256, .f32⟩
  | 39 => ⟨S32x128x4x512, .f32⟩
  | 40 => ⟨S32x4x128x128, .f32⟩
  | 41 => ⟨S1x4x128x128, .f32⟩
  | 42 => ⟨S32x4x128x128, .f32⟩
  | 43 => ⟨S32x4x128x128, .f32⟩
  | 44 => ⟨S32x4x512x128, .f32⟩
  | 45 => ⟨S32x128x4x512, .f32⟩
  | 46 => ⟨S32x4x512x128, .f32⟩
  | 47 => ⟨S32x128x4x512, .f32⟩
  | 48 => ⟨S1x128x4x1, .f32⟩
  | 49 => ⟨S32x128x4x512, .f32⟩
  | 50 => ⟨S32x128x4x512, .f32⟩
  | 51 => ⟨S32x128x4x512, .f32⟩
  | 52 => ⟨S1x4x1x1, .f32⟩
  | 53 => ⟨S32x4x256x512, .f32⟩
  | 54 => ⟨S32x4x256x512, .f32⟩
  | 55 => ⟨S1x128x4x1, .f32⟩
  | 56 => ⟨S32x128x4x256, .f32⟩
  | 57 => ⟨S32x128x4x256, .f32⟩
  | 58 => ⟨S32x4x256x512, .f32⟩
  | 59 => ⟨S32x4x256x512, .f32⟩
  | 60 => ⟨S32x128x4x256, .f32⟩
  | 61 => ⟨S32x128x4x256, .f32⟩
  | 62 => ⟨S32x128x4x512, .f32⟩
  | 63 => ⟨S32x4x128x128, .f32⟩
  | 64 => ⟨S1x4x128x128, .f32⟩
  | 65 => ⟨S32x4x128x128, .f32⟩
  | 66 => ⟨S32x4x128x128, .f32⟩
  | 67 => ⟨S32x4x512x128, .f32⟩
  | 68 => ⟨S32x128x4x512, .f32⟩
  | 69 => ⟨S32x4x512x128, .f32⟩
  | 70 => ⟨S32x128x4x512, .f32⟩
  | 71 => ⟨S1x128x4x1, .f32⟩
  | 72 => ⟨S32x128x4x512, .f32⟩
  | 73 => ⟨S32x128x4x512, .f32⟩
  | 74 => ⟨S32x128x4x512, .f32⟩
  | 75 => ⟨S1x4x1x1, .f32⟩
  | 76 => ⟨S32x4x256x512, .f32⟩
  | 77 => ⟨S32x4x256x512, .f32⟩
  | 78 => ⟨S1x128x4x1, .f32⟩
  | 79 => ⟨S32x128x4x256, .f32⟩
  | 80 => ⟨S32x128x4x256, .f32⟩
  | 81 => ⟨S32x4x256x512, .f32⟩
  | 82 => ⟨S32x4x256x512, .f32⟩
  | 83 => ⟨S32x256x4x512, .f32⟩
  | 84 => ⟨S32x256x4x512, .f32⟩
  | 85 => ⟨S32x256x4x512, .f32⟩
  | 86 => ⟨S8192x2048, .f32⟩
  | 87 => ⟨S32x1x4x256x512, .f32⟩
  | 88 => ⟨S32x1x4x256x512, .f32⟩
  | 89 => ⟨S32x2x4x256x512, .f32⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_7 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_8 : Ref sig .tc := ⟨.hbm, 128, rfl⟩
abbrev main_call2_v0 : Ref sig .tc := ⟨.hbm, 129, rfl⟩
abbrev main_call2_v1 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_9 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v119 : Ref sig .tc := ⟨.hbm, 142, rfl⟩
abbrev main_cst_10 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_11 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_cst_12 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S8x1x1024 : Shape := ⟨3, ![8, 1, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S1x5632 : Shape := ⟨2, ![1, 5632]⟩
abbrev S1x1024 : Shape := ⟨2, ![1, 1024]⟩
abbrev S16x1024 : Shape := ⟨2, ![16, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S16 : Shape := ⟨1, ![16]⟩
abbrev S16x1 : Shape := ⟨2, ![16, 1]⟩
abbrev S1024x1 : Shape := ⟨2, ![1024, 1]⟩
abbrev S1056x1024 : Shape := ⟨2, ![1056, 1024]⟩
abbrev S1x1024x256 : Shape := ⟨3, ![1, 1024, 256]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩
abbrev S8x1 : Shape := ⟨2, ![8, 1]⟩
abbrev S8x256 : Shape := ⟨2, ![8, 256]⟩
abbrev S248x256 : Shape := ⟨2, ![248, 256]⟩
abbrev S1024x2816 : Shape := ⟨2, ![1024, 2816]⟩
abbrev S2816x1024 : Shape := ⟨2, ![2816, 1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S4x1024x5632, .bf16⟩
  | .hbm, ⟨6, _⟩ => ⟨S3x5632, .f32⟩
  | .hbm, ⟨7, _⟩ => ⟨S5632, .f32⟩
  | .hbm, ⟨8, _⟩ => ⟨S4x2816x1024, .bf16⟩
  | .hbm, ⟨9, _⟩ => ⟨S1x5632, .f32⟩
  | .hbm, ⟨10, _⟩ => ⟨S1x1024, .f32⟩
  | .hbm, ⟨11, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x5632, .bf16⟩
  | .local _ .vmem, ⟨14, _⟩ => ⟨S3x5632, .f32⟩
  | .local _ .vmem, ⟨15, _⟩ => ⟨S1x5632, .f32⟩
  | .local _ .vmem, ⟨16, _⟩ => ⟨S1x2816x1024, .bf16⟩
  | .local _ .vmem, ⟨17, _⟩ => ⟨S1024x1024, .f32⟩
  | .local _ .vmem, ⟨18, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceFfnIdeal.lean ====
abbrev S16384x1024 : Shape := ⟨2, ![16384, 1024]⟩
abbrev S1024 : Shape := ⟨1, ![1024]⟩
abbrev S8x1x1024 : Shape := ⟨3, ![8, 1, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8192x1024 : Shape := ⟨2, ![8192, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x258x5632 : Shape := ⟨3, ![32, 258, 5632]⟩
abbrev S1x5632 : Shape := ⟨2, ![1, 5632]⟩
abbrev S1x1x5632 : Shape := ⟨3, ![1, 1, 5632]⟩
abbrev S32x256x2816 : Shape := ⟨3, ![32, 256, 2816]⟩
abbrev S2x4096x1024 : Shape := ⟨3, ![2, 4096, 1024]⟩
abbrev S2x1x1024 : Shape := ⟨3, ![2, 1, 1024]⟩
abbrev S2x4096 : Shape := ⟨2, ![2, 4096]⟩
abbrev S2x4096x1 : Shape := ⟨3, ![2, 4096, 1]⟩
abbrev S2x4096x5632 : Shape := ⟨3, ![2, 4096, 5632]⟩
abbrev S2x4098x5632 : Shape := ⟨3, ![2, 4098, 5632]⟩
abbrev S2x4096x2816 : Shape := ⟨3, ![2, 4096, 2816]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S1024, .f32⟩
  | 2 => ⟨S8x1x1024, .f32⟩
  | 3 => ⟨S8x1x1024, .f32⟩
  | 4 => ⟨S8x1x1024, .f32⟩
  | 5 => ⟨S4x1024x5632, .bf16⟩
  | 6 => ⟨S3x5632, .f32⟩
  | 7 => ⟨S5632, .f32⟩
  | 8 => ⟨S4x2816x1024, .bf16⟩
  | 9 => ⟨S1x1024x5632, .bf16⟩
  | 10 => ⟨S1024x5632, .bf16⟩
  | 11 => ⟨S1x2816x1024, .bf16⟩
  | 12 => ⟨S2816x1024, .bf16⟩
  | 13 => ⟨S8192x1024, .f32⟩
  | 14 => ⟨S32x256x1024, .f32⟩
  | 15 => ⟨S1x1x1024, .f32⟩
  | 16 => ⟨S1x1x1024, .f32⟩
  | 17 => ⟨S1x1x1024, .f32⟩
  | 18 => ⟨S32x256x1024, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S_, .f32⟩
  | 26 => ⟨S32x256x1, .f32⟩
  | 27 => ⟨S32x256x1, .f32⟩
  | 28 => ⟨S32x256x1, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S_, .f32⟩
  | 35 => ⟨S1x1x1024, .f32⟩
  | 36 => ⟨S1x1x1024, .f32⟩
  | 37 => ⟨S32x256x1024, .f32⟩
  | 38 => ⟨S32x256x1024, .f32⟩
  | 39 => ⟨S32x256x1024, .f32⟩
  | 40 => ⟨S32x256x1024, .f32⟩
  | 41 => ⟨S1024x5632, .f32⟩
  | 42 => ⟨S32x256x5632, .f32⟩
  | 43 => ⟨S_, .i32⟩
  | 44 => ⟨S_, .f32⟩
  | 45 => ⟨S32x258x5632, .f32⟩
  | 46 => ⟨S32x256x5632, .f32⟩
  | 47 => ⟨S1x5632, .f32⟩
  | 48 => ⟨S5632, .f32⟩
  | 49 => ⟨S1x1x5632, .f32⟩
  | 50 => ⟨S32x256x5632, .f32⟩
  | 51 => ⟨S32x256x5632, .f32⟩
  | 52 => ⟨S32x256x5632, .f32⟩
  | 53 => ⟨S1x5632, .f32⟩
  | 54 => ⟨S5632, .f32⟩
  | 55 => ⟨S1x1x5632, .f32⟩
  | 56 => ⟨S32x256x5632, .f32⟩
  | 57 => ⟨S32x256x5632, .f32⟩
  | 58 => ⟨S32x256x5632, .f32⟩
  | 59 => ⟨S32x256x5632, .f32⟩
  | 60 => ⟨S1x5632, .f32⟩
  | 61 => ⟨S5632, .f32⟩
  | 62 => ⟨S1x1x5632, .f32⟩
  | 63 => ⟨S32x256x5632, .f32⟩
  | 64 => ⟨S32x256x5632, .f32⟩
  | 65 => ⟨S32x256x5632, .f32⟩
  | 66 => ⟨S1x1x5632, .f32⟩
  | 67 => ⟨S32x256x5632, .f32⟩
  | 68 => ⟨S32x256x5632, .f32⟩
  | 69 => ⟨S32x256x2816, .f32⟩
  | 70 => ⟨S32x256x2816, .f32⟩
  | 71 => ⟨S32x256x2816, .f32⟩
  | 72 => ⟨S32x256x2816, .f32⟩
  | 73 => ⟨S_, .f32⟩
  | 74 => ⟨S32x256x2816, .f32⟩
  | 75 => ⟨S32x256x2816, .f32⟩
  | 76 => ⟨S_, .f32⟩
  | 77 => ⟨S32x256x2816, .f32⟩
  | 78 => ⟨S32x256x2816, .f32⟩
  | 79 => ⟨S32x256x2816, .f32⟩
  | 80 => ⟨S32x256x2816, .f32⟩
  | 81 => ⟨S2816x1024, .f32⟩
  | 82 => ⟨S32x256x1024, .f32⟩
  | 83 => ⟨S32x256x1024, .f32⟩
  | 84 => ⟨S32x256x1024, .f32⟩
  | 85 => ⟨S32x256x1024, .f32⟩
  | 86 => ⟨S8192x1024, .f32⟩
  | 87 => ⟨S2x4096x1024, .f32⟩
  | 88 => ⟨S2x1x1024, .f32⟩
  | 89 => ⟨S2x1x1024, .f32⟩
  | 90 => ⟨S2x1x1024, .f32⟩
  | 91 => ⟨S2x4096x1024, .f32⟩
  | 92 => ⟨S_, .f32⟩
  | 93 => ⟨S2x4096, .f32⟩
  | 94 => ⟨S2x4096x1, .f32⟩
  | 95 => ⟨S_, .f32⟩
  | 96 => ⟨S2x4096x1, .f32⟩
  | 97 => ⟨S2x4096x1, .f32⟩
  | 98 => ⟨S_, .f32⟩
  | 99 => ⟨S2x4096x1, .f32⟩
  | 100 => ⟨S2x4096x1, .f32⟩
  | 101 => ⟨S2x4096x1, .f32⟩
  | 102 => ⟨S2x4096x1024, .f32⟩
  | 103 => ⟨S2x4096x1024, .f32⟩
  | 104 => ⟨S1x1x1024, .f32⟩
  | 105 => ⟨S2x4096x1024, .f32⟩
  | 106 => ⟨S2x4096x1024, .f32⟩
  | 107 => ⟨S_, .f32⟩
  | 108 => ⟨S2x1x1024, .f32⟩
  | 109 => ⟨S2x1x1024, .f32⟩
  | 110 => ⟨S2x4096x1024, .f32⟩
  | 111 => ⟨S2x4096x1024, .f32⟩
  | 112 => ⟨S2x4096x1024, .f32⟩
  | 113 => ⟨S2x4096x1024, .f32⟩
  | 114 => ⟨S1024x5632, .f32⟩
  | 115 => ⟨S2x4096x5632, .f32⟩
  | 116 => ⟨S_, .i32⟩
  | 117 => ⟨S_, .f32⟩
  | 118 => ⟨S2x4098x5632, .f32⟩
  | 119 => ⟨S2x4096x5632, .f32⟩
  | 120 => ⟨S1x5632, .f32⟩
  | 121 => ⟨S5632, .f32⟩
  | 122 => ⟨S1x1x5632, .f32⟩
  | 123 => ⟨S2x4096x5632, .f32⟩
  | 124 => ⟨S2x4096x5632, .f32⟩
  | 125 => ⟨S2x4096x5632, .f32⟩
  | 126 => ⟨S1x5632, .f32⟩
  | 127 => ⟨S5632, .f32⟩
  | _ => ⟨S16384x1024, .f32⟩

abbrev hbmTy0_1 (i : Nat) : BufTy := match i % 128 with
  | 0 => ⟨S1x1x5632, .f32⟩
  | 1 => ⟨S2x4096x5632, .f32⟩
  | 2 => ⟨S2x4096x5632, .f32⟩
  | 3 => ⟨S2x4096x5632, .f32⟩
  | 4 => ⟨S2x4096x5632, .f32⟩
  | 5 => ⟨S1x5632, .f32⟩
  | 6 => ⟨S5632, .f32⟩
  | 7 => ⟨S1x1x5632, .f32⟩
  | 8 => ⟨S2x4096x5632, .f32⟩
  | 9 => ⟨S2x4096x5632, .f32⟩
  | 10 => ⟨S2x4096x5632, .f32⟩
  | 11 => ⟨S1x1x5632, .f32⟩
  | 12 => ⟨S2x4096x5632, .f32⟩
  | 13 => ⟨S2x4096x5632, .f32⟩
  | 14 => ⟨S2x4096x2816, .f32⟩
  | 15 => ⟨S2x4096x2816, .f32⟩
  | 16 => ⟨S2x4096x2816, .f32⟩
  | 17 => ⟨S2x4096x2816, .f32⟩
  | 18 => ⟨S_, .f32⟩
  | 19 => ⟨S2x4096x2816, .f32⟩
  | 20 => ⟨S2x4096x2816, .f32⟩
  | 21 => ⟨S_, .f32⟩
  | 22 => ⟨S2x4096x2816, .f32⟩
  | 23 => ⟨S2x4096x2816, .f32⟩
  | 24 => ⟨S2x4096x2816, .f32⟩
  | 25 => ⟨S2x4096x2816, .f32⟩
  | 26 => ⟨S2816x1024, .f32⟩
  | 27 => ⟨S2x4096x1024, .f32⟩
  | 28 => ⟨S2x4096x1024, .f32⟩
  | 29 => ⟨S2x4096x1024, .f32⟩
  | 30 => ⟨S2x4096x1024, .f32⟩
  | 31 => ⟨S8192x1024, .f32⟩
  | 32 => ⟨S8192x1024, .f32⟩
  | 33 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_3 : Ref sig .tc := ⟨.hbm, 92, rfl⟩
abbrev main_v69 : Ref sig .tc := ⟨.hbm, 93, rfl⟩
abbrev main_v70 : Ref sig .tc := ⟨.hbm, 94, rfl⟩
abbrev main_cst_4 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_6 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_7 : Ref sig .tc := ⟨.hbm, 116, rfl⟩
abbrev main_call2_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_call3_v0 : Ref sig .tc := ⟨.hbm, 144, rfl⟩
abbrev main_call3_v1 : Ref sig .tc := ⟨.hbm, 145, rfl⟩
abbrev main_call3_cst : Ref sig .tc := ⟨.hbm, 146, rfl⟩
abbrev main_call3_v2 : Ref sig .tc := ⟨.hbm, 147, rfl⟩
abbrev main_call3_v3 : Ref sig .tc := ⟨.hbm, 148, rfl⟩
abbrev main_call3_cst_0 : Ref sig .tc := ⟨.hbm, 149, rfl⟩
abbrev main_call3_v4 : Ref sig .tc := ⟨.hbm, 150, rfl⟩
abbrev main_call3_v5 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== KernelProj.lean ====
abbrev S16384x1024 : Shape := ⟨2, ![16384, 1024]⟩
abbrev S1024 : Shape := ⟨1, ![1024]⟩
abbrev S8x1x1024 : Shape := ⟨3, ![8, 1, 1024]⟩
abbrev S1024x6144 : Shape := ⟨2, ![1024, 6144]⟩
abbrev S1x1024 : Shape := ⟨2, ![1, 1024]⟩
abbrev S16384x6144 : Shape := ⟨2, ![16384, 6144]⟩
abbrev S512x1024 : Shape := ⟨2, ![512, 1024]⟩
abbrev S1x1x1024 : Shape := ⟨3, ![1, 1, 1024]⟩
abbrev S512x6144 : Shape := ⟨2, ![512, 6144]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6144, .bf16⟩
  | .hbm, ⟨5, _⟩ => ⟨S1x1024, .f32⟩
  | .hbm, ⟨6, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x6144, .bf16⟩
  | .local _ .vmem, ⟨10, _⟩ => ⟨S512x6144, .bf16⟩
  | .local _ .vmem, ⟨11, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 32 := Scalar.addi c16_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjIdeal.lean ====
abbrev S16384x1024 : Shape := ⟨2, ![16384, 1024]⟩
abbrev S1024 : Shape := ⟨1, ![1024]⟩
abbrev S8x1x1024 : Shape := ⟨3, ![8, 1, 1024]⟩
abbrev S1024x6144 : Shape := ⟨2, ![1024, 6144]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x6144 : Shape := ⟨3, ![32, 256, 6144]⟩
abbrev S2x4096x1024 : Shape := ⟨3, ![2, 4096, 1024]⟩
abbrev S2x4096 : Shape := ⟨2, ![2, 4096]⟩
abbrev S2x4096x1 : Shape := ⟨3, ![2, 4096, 1]⟩
abbrev S2x1x1024 : Shape := ⟨3, ![2, 1, 1024]⟩
abbrev S2x4096x6144 : Shape := ⟨3, ![2, 4096, 6144]⟩
abbrev S8192x6144 : Shape := ⟨2, ![8192, 6144]⟩
abbrev S16384x6144 : Shape := ⟨2, ![16384, 6144]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6144, .bf16⟩
  | .hbm, ⟨5, _⟩ => ⟨S1024x6144, .f32⟩
  | .hbm, ⟨6, _⟩ => ⟨S8192x1024, .f32⟩
  | .hbm, ⟨7, _⟩ => ⟨S32x256x1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S32x256x6144, .f32⟩
  | .hbm, ⟨34, _⟩ => ⟨S8192x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x1024, .f32⟩
  | .hbm, ⟨48, _⟩ => ⟨S2x4096x1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S2x1x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x1x1024, .f32⟩
  | .hbm, ⟨59, _⟩ => ⟨S2x4096x1024, .f32⟩
  | .hbm, ⟨60, _⟩ => ⟨S2x4096x1024, .f32⟩
  | .hbm, ⟨61, _⟩ => ⟨S2x4096x6144, .f32⟩
  | .hbm, ⟨62, _⟩ => ⟨S8192x6144, .f32⟩
  | .hbm, ⟨63, _⟩ => ⟨S8192x6144, .f32⟩
  | .hbm, ⟨64, _⟩ => ⟨S16384x6144, .f32⟩
  | .hbm, ⟨65, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== KernelLast.lean ====
abbrev S16384x1024 : Shape := ⟨2, ![16384, 1024]⟩
abbrev S1024 : Shape := ⟨1, ![1024]⟩
abbrev S8x1x1024 : Shape := ⟨3, ![8, 1, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S1x5632 : Shape := ⟨2, ![1, 5632]⟩
abbrev S1x1024 : Shape := ⟨2, ![1, 1024]⟩
abbrev S8192x1024 : Shape := ⟨2, ![8192, 1024]⟩
abbrev S16x1024 : Shape := ⟨2, ![16, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S16 : Shape := ⟨1, ![16]⟩
abbrev S16x1 : Shape := ⟨2, ![16, 1]⟩
abbrev S1024x1 : Shape := ⟨2, ![1024, 1]⟩
abbrev S1056x1024 : Shape := ⟨2, ![1056, 1024]⟩
abbrev S1x1024x256 : Shape := ⟨3, ![1, 1024, 256]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩
abbrev S8x1 : Shape := ⟨2, ![8, 1]⟩
abbrev S8x256 : Shape := ⟨2, ![8, 256]⟩
abbrev S248x256 : Shape := ⟨2, ![248, 256]⟩
abbrev S1024x2816 : Shape := ⟨2, ![1024, 2816]⟩
abbrev S2816x1024 : Shape := ⟨2, ![2816, 1024]⟩

abbrev nBuf : Space → Nat
  | .hbm => 15
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S4x1024x5632, .bf16⟩
  | .hbm, ⟨6, _⟩ => ⟨S3x5632, .f32⟩
  | .hbm, ⟨7, _⟩ => ⟨S5632, .f32⟩
  | .hbm, ⟨8, _⟩ => ⟨S4x2816x1024, .bf16⟩
  | .hbm, ⟨9, _⟩ => ⟨S1024, .f32⟩
  | .hbm, ⟨10, _⟩ => ⟨S1x5632, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x5632, .bf16⟩
  | .local _ .vmem, ⟨14, _⟩ => ⟨S3x5632, .f32⟩
  | .local _ .vmem, ⟨15, _⟩ => ⟨S1x5632, .f32⟩
  | .local _ .vmem, ⟨16, _⟩ => ⟨S1x2816x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v3324 : BitVec 1 := Scalar.cmpi .slt arg0 c8_i32
  let v3325 : BitVec 32 := Scalar.extui v3324
  let c0_i32_1237 : BitVec 32 := 0#32
  let v3326 : BitVec 1 := Scalar.cmpi .ne v3325 c0_i32_1237
  v3326

def k0_cond2 (i : grid0.Coords) : BitVec 1 :=
  let arg0 : BitVec 32 := BitVec.ofNat 32 (i 0).val
  let c8_i32 : BitVec 32 := 8#32
  let v3324 : BitVec 1 := Scalar.cmpi .slt arg0 c8_i32
  let v_true : BitVec 1 := 1#1
  let v3327 : BitVec 1 := Scalar.xori v3324 v_true
  let v3328 : BitVec 32 := Scalar.extui v3327
  let c0_i32_1238 : BitVec 32 := 0#32
  let v3329 : BitVec 1 := Scalar.cmpi .ne v3328 c0_i32_1238
  v3329

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceLastIdeal.lean ====
abbrev S16384x1024 : Shape := ⟨2, ![16384, 1024]⟩
abbrev S1024 : Shape := ⟨1, ![1024]⟩
abbrev S8x1x1024 : Shape := ⟨3, ![8, 1, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8192x1024 : Shape := ⟨2, ![8192, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x5632 : Shape := ⟨3, ![32, 256, 5632]⟩
abbrev S32x258x5632 : Shape := ⟨3, ![32, 258, 5632]⟩
abbrev S1x5632 : Shape := ⟨2, ![1, 5632]⟩
abbrev S1x1x5632 : Shape := ⟨3, ![1, 1, 5632]⟩
abbrev S32x256x2816 : Shape := ⟨3, ![32, 256, 2816]⟩
abbrev S2x4096x1024 : Shape := ⟨3, ![2, 4096, 1024]⟩
abbrev S2x1x1024 : Shape := ⟨3, ![2, 1, 1024]⟩
abbrev S2x4096 : Shape := ⟨2, ![2, 4096]⟩
abbrev S2x4096x1 : Shape := ⟨3, ![2, 4096, 1]⟩
abbrev S2x4096x5632 : Shape := ⟨3, ![2, 4096, 5632]⟩
abbrev S2x4098x5632 : Shape := ⟨3, ![2, 4098, 5632]⟩
abbrev S2x4096x2816 : Shape := ⟨3, ![2, 4096, 2816]⟩

abbrev nBuf : Space → Nat
  | .hbm => 194
  | .vmem => 0
  | .smem => 0
  | _ => 0

abbrev hbmTy0_0 (i : Nat) : BufTy := match i % 128 with
  | 0 => ⟨S16384x1024, .f32⟩
  | 1 => ⟨S1024, .f32⟩
  | 2 => ⟨S8x1x1024, .f32⟩
  | 3 => ⟨S8x1x1024, .f32⟩
  | 4 => ⟨S8x1x1024, .f32⟩
  | 5 => ⟨S4x1024x5632, .bf16⟩
  | 6 => ⟨S3x5632, .f32⟩
  | 7 => ⟨S5632, .f32⟩
  | 8 => ⟨S4x2816x1024, .bf16⟩
  | 9 => ⟨S1024, .f32⟩
  | 10 => ⟨S1x1024x5632, .bf16⟩
  | 11 => ⟨S1024x5632, .bf16⟩
  | 12 => ⟨S1x2816x1024, .bf16⟩
  | 13 => ⟨S2816x1024, .bf16⟩
  | 14 => ⟨S8192x1024, .f32⟩
  | 15 => ⟨S32x256x1024, .f32⟩
  | 16 => ⟨S1x1x1024, .f32⟩
  | 17 => ⟨S1x1x1024, .f32⟩
  | 18 => ⟨S1x1x1024, .f32⟩
  | 19 => ⟨S32x256x1024, .f32⟩
  | 20 => ⟨S_, .f32⟩
  | 21 => ⟨S32x256, .f32⟩
  | 22 => ⟨S32x256x1, .f32⟩
  | 23 => ⟨S_, .f32⟩
  | 24 => ⟨S32x256x1, .f32⟩
  | 25 => ⟨S32x256x1, .f32⟩
  | 26 => ⟨S_, .f32⟩
  | 27 => ⟨S32x256x1, .f32⟩
  | 28 => ⟨S32x256x1, .f32⟩
  | 29 => ⟨S32x256x1, .f32⟩
  | 30 => ⟨S32x256x1024, .f32⟩
  | 31 => ⟨S32x256x1024, .f32⟩
  | 32 => ⟨S1x1x1024, .f32⟩
  | 33 => ⟨S32x256x1024, .f32⟩
  | 34 => ⟨S32x256x1024, .f32⟩
  | 35 => ⟨S_, .f32⟩
  | 36 => ⟨S1x1x1024, .f32⟩
  | 37 => ⟨S1x1x1024, .f32⟩
  | 38 => ⟨S32x256x1024, .f32⟩
  | 39 => ⟨S32x256x1024, .f32⟩
  | 40 => ⟨S32x256x1024, .f32⟩
  | 41 => ⟨S32x256x1024, .f32⟩
  | 42 => ⟨S1024x5632, .f32⟩
  | 43 => ⟨S32x256x5632, .f32⟩
  | 44 => ⟨S_, .i32⟩
  | 45 => ⟨S_, .f32⟩
  | 46 => ⟨S32x258x5632, .f32⟩
  | 47 => ⟨S32x256x5632, .f32⟩
  | 48 => ⟨S1x5632, .f32⟩
  | 49 => ⟨S5632, .f32⟩
  | 50 => ⟨S1x1x5632, .f32⟩
  | 51 => ⟨S32x256x5632, .f32⟩
  | 52 => ⟨S32x256x5632, .f32⟩
  | 53 => ⟨S32x256x5632, .f32⟩
  | 54 => ⟨S1x5632, .f32⟩
  | 55 => ⟨S5632, .f32⟩
  | 56 => ⟨S1x1x5632, .f32⟩
  | 57 => ⟨S32x256x5632, .f32⟩
  | 58 => ⟨S32x256x5632, .f32⟩
  | 59 => ⟨S32x256x5632, .f32⟩
  | 60 => ⟨S32x256x5632, .f32⟩
  | 61 => ⟨S1x5632, .f32⟩
  | 62 => ⟨S5632, .f32⟩
  | 63 => ⟨S1x1x5632, .f32⟩
  | 64 => ⟨S32x256x5632, .f32⟩
  | 65 => ⟨S32x256x5632, .f32⟩
  | 66 => ⟨S32x256x5632, .f32⟩
  | 67 => ⟨S1x1x5632, .f32⟩
  | 68 => ⟨S32x256x5632, .f32⟩
  | 69 => ⟨S32x256x5632, .f32⟩
  | 70 => ⟨S32x256x2816, .f32⟩
  | 71 => ⟨S32x256x2816, .f32⟩
  | 72 => ⟨S32x256x2816, .f32⟩
  | 73 => ⟨S32x256x2816, .f32⟩
  | 74 => ⟨S_, .f32⟩
  | 75 => ⟨S32x256x2816, .f32⟩
  | 76 => ⟨S32x256x2816, .f32⟩
  | 77 => ⟨S_, .f32⟩
  | 78 => ⟨S32x256x2816, .f32⟩
  | 79 => ⟨S32x256x2816, .f32⟩
  | 80 => ⟨S32x256x2816, .f32⟩
  | 81 => ⟨S32x256x2816, .f32⟩
  | 82 => ⟨S2816x1024, .f32⟩
  | 83 => ⟨S32x256x1024, .f32⟩
  | 84 => ⟨S32x256x1024, .f32⟩
  | 85 => ⟨S32x256x1024, .f32⟩
  | 86 => ⟨S32x256x1024, .f32⟩
  | 87 => ⟨S8192x1024, .f32⟩
  | 88 => ⟨S2x4096x1024, .f32⟩
  | 89 => ⟨S2x1x1024, .f32⟩
  | 90 => ⟨S2x1x1024, .f32⟩
  | 91 => ⟨S2x1x1024, .f32⟩
  | 92 => ⟨S2x4096x1024, .f32⟩
  | 93 => ⟨S_, .f32⟩
  | 94 => ⟨S2x4096, .f32⟩
  | 95 => ⟨S2x4096x1, .f32⟩
  | 96 => ⟨S_, .f32⟩
  | 97 => ⟨S2x4096x1, .f32⟩
  | 98 => ⟨S2x4096x1, .f32⟩
  | 99 => ⟨S_, .f32⟩
  | 100 => ⟨S2x4096x1, .f32⟩
  | 101 => ⟨S2x4096x1, .f32⟩
  | 102 => ⟨S2x4096x1, .f32⟩
  | 103 => ⟨S2x4096x1024, .f32⟩
  | 104 => ⟨S2x4096x1024, .f32⟩
  | 105 => ⟨S1x1x1024, .f32⟩
  | 106 => ⟨S2x4096x1024, .f32⟩
  | 107 => ⟨S2x4096x1024, .f32⟩
  | 108 => ⟨S_, .f32⟩
  | 109 => ⟨S2x1x1024, .f32⟩
  | 110 => ⟨S2x1x1024, .f32⟩
  | 111 => ⟨S2x4096x1024, .f32⟩
  | 112 => ⟨S2x4096x1024, .f32⟩
  | 113 => ⟨S2x4096x1024, .f32⟩
  | 114 => ⟨S2x4096x1024, .f32⟩
  | 115 => ⟨S1024x5632, .f32⟩
  | 116 => ⟨S2x4096x5632, .f32⟩
  | 117 => ⟨S_, .i32⟩
  | 118 => ⟨S_, .f32⟩
  | 119 => ⟨S2x4098x5632, .f32⟩
  | 120 => ⟨S2x4096x5632, .f32⟩
  | 121 => ⟨S1x5632, .f32⟩
  | 122 => ⟨S5632, .f32⟩
  | 123 => ⟨S1x1x5632, .f32⟩
  | 124 => ⟨S2x4096x5632, .f32⟩
  | 125 => ⟨S2x4096x5632, .f32⟩
  | 126 => ⟨S2x4096x5632, .f32⟩
  | 127 => ⟨S1x5632, .f32⟩
  | _ => ⟨S16384x1024, .f32⟩

abbrev hbmTy0_1 (i : Nat) : BufTy := match i % 128 with
  | 0 => ⟨S5632, .f32⟩
  | 1 => ⟨S1x1x5632, .f32⟩
  | 2 => ⟨S2x4096x5632, .f32⟩
  | 3 => ⟨S2x4096x5632, .f32⟩
  | 4 => ⟨S2x4096x5632, .f32⟩
  | 5 => ⟨S2x4096x5632, .f32⟩
  | 6 => ⟨S1x5632, .f32⟩
  | 7 => ⟨S5632, .f32⟩
  | 8 => ⟨S1x1x5632, .f32⟩
  | 9 => ⟨S2x4096x5632, .f32⟩
  | 10 => ⟨S2x4096x5632, .f32⟩
  | 11 => ⟨S2x4096x5632, .f32⟩
  | 12 => ⟨S1x1x5632, .f32⟩
  | 13 => ⟨S2x4096x5632, .f32⟩
  | 14 => ⟨S2x4096x5632, .f32⟩
  | 15 => ⟨S2x4096x2816, .f32⟩
  | 16 => ⟨S2x4096x2816, .f32⟩
  | 17 => ⟨S2x4096x2816, .f32⟩
  | 18 => ⟨S2x4096x2816, .f32⟩
  | 19 => ⟨S_, .f32⟩
  | 20 => ⟨S2x4096x2816, .f32⟩
  | 21 => ⟨S2x4096x2816, .f32⟩
  | 22 => ⟨S_, .f32⟩
  | 23 => ⟨S2x4096x2816, .f32⟩
  | 24 => ⟨S2x4096x2816, .f32⟩
  | 25 => ⟨S2x4096x2816, .f32⟩
  | 26 => ⟨S2x4096x2816, .f32⟩
  | 27 => ⟨S2816x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S32x256x1024, .f32⟩
  | 33 => ⟨S_, .f32⟩
  | 34 => ⟨S32x256, .f32⟩
  | 35 => ⟨S32x256x1, .f32⟩
  | 36 => ⟨S_, .f32⟩
  | 37 => ⟨S32x256x1, .f32⟩
  | 38 => ⟨S32x256x1, .f32⟩
  | 39 => ⟨S_, .f32⟩
  | 40 => ⟨S32x256x1, .f32⟩
  | 41 => ⟨S32x256x1, .f32⟩
  | 42 => ⟨S32x256x1, .f32⟩
  | 43 => ⟨S32x256x1024, .f32⟩
  | 44 => ⟨S32x256x1024, .f32⟩
  | 45 => ⟨S1x1x1024, .f32⟩
  | 46 => ⟨S32x256x1024, .f32⟩
  | 47 => ⟨S32x256x1024, .f32⟩
  | 48 => ⟨S8192x1024, .f32⟩
  | 49 => ⟨S2x4096x1024, .f32⟩
  | 50 => ⟨S_, .f32⟩
  | 51 => ⟨S2x4096, .f32⟩
  | 52 => ⟨S2x4096x1, .f32⟩
  | 53 => ⟨S_, .f32⟩
  | 54 => ⟨S2x4096x1, .f32⟩
  | 55 => ⟨S2x4096x1, .f32⟩
  | 56 => ⟨S_, .f32⟩
  | 57 => ⟨S2x4096x1, .f32⟩
  | 58 => ⟨S2x4096x1, .f32⟩
  | 59 => ⟨S2x4096x1, .f32⟩
  | 60 => ⟨S2x4096x1024, .f32⟩
  | 61 => ⟨S2x4096x1024, .f32⟩
  | 62 => ⟨S1x1x1024, .f32⟩
  | 63 => ⟨S2x4096x1024, .f32⟩
  | 64 => ⟨S2x4096x1024, .f32⟩
  | 65 => ⟨S8192x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_3 : Ref sig .tc := ⟨.hbm, 93, rfl⟩
abbrev main_v69 : Ref sig .tc := ⟨.hbm, 94, rfl⟩
abbrev main_v70 : Ref sig .tc := ⟨.hbm, 95, rfl⟩
abbrev main_cst_4 : Ref sig .tc := ⟨.hbm, 96, rfl⟩
abbrev main_v71 : Ref sig .tc := ⟨.hbm, 97, rfl⟩
abbrev main_v72 : Ref sig .tc := ⟨.hbm, 98, rfl⟩
abbrev main_cst_5 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_6 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_7 : Ref sig .tc := ⟨.hbm, 117, rfl⟩
abbrev main_call2_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_call3_v0 : Ref sig .tc := ⟨.hbm, 145, rfl⟩
abbrev main_call3_v1 : Ref sig .tc := ⟨.hbm, 146, rfl⟩
abbrev main_call3_cst : Ref sig .tc := ⟨.hbm, 147, rfl⟩
abbrev main_call3_v2 : Ref sig .tc := ⟨.hbm, 148, rfl⟩
abbrev main_call3_v3 : Ref sig .tc := ⟨.hbm, 149, rfl⟩
abbrev main_call3_cst_0 : Ref sig .tc := ⟨.hbm, 150, rfl⟩
abbrev main_call3_v4 : Ref sig .tc := ⟨.hbm, 151, rfl⟩
abbrev main_call3_v5 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_8 : Ref sig .tc := ⟨.hbm, 161, rfl⟩
abbrev main_v123 : Ref sig .tc := ⟨.hbm, 162, rfl⟩
abbrev main_v124 : Ref sig .tc := ⟨.hbm, 163, rfl⟩
abbrev main_cst_9 : Ref sig .tc := ⟨.hbm, 164, rfl⟩
abbrev main_v125 : Ref sig .tc := ⟨.hbm, 165, rfl⟩
abbrev main_v126 : Ref sig .tc := ⟨.hbm, 166, rfl⟩
abbrev main_cst_10 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_11 : Ref sig .tc := ⟨.hbm, 178, rfl⟩
abbrev main_v137 : Ref sig .tc := ⟨.hbm, 179, rfl⟩
abbrev main_v138 : Ref sig .tc := ⟨.hbm, 180, rfl⟩
abbrev main_cst_12 : Ref sig .tc := ⟨.hbm, 181, rfl⟩
abbrev main_v139 : Ref sig .tc := ⟨.hbm, 182, rfl⟩
abbrev main_v140 : Ref sig .tc := ⟨.hbm, 183, rfl⟩
abbrev main_cst_13 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩

abbrev nD : Nat := 1
abbrev τ : Topo := Topo.v7x

variable {F : FTy → Type} [FloatOps F]
-- ==== KernelQkv.lean ====
abbrev S16384x1024 : Shape := ⟨2, ![16384, 1024]⟩
abbrev S1024 : Shape := ⟨1, ![1024]⟩
abbrev S8x1x1024 : Shape := ⟨3, ![8, 1, 1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1x1024, .f32⟩
  | .hbm, ⟨6, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x3072, .bf16⟩
  | .local _ .vmem, ⟨10, _⟩ => ⟨S512x3072, .f32⟩
  | .local _ .vmem, ⟨11, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 32 := Scalar.addi c16_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceQkvIdeal.lean ====
abbrev S16384x1024 : Shape := ⟨2, ![16384, 1024]⟩
abbrev S1024 : Shape := ⟨1, ![1024]⟩
abbrev S8x1x1024 : Shape := ⟨3, ![8, 1, 1024]⟩
abbrev S1024x3072 : Shape := ⟨2, ![1024, 3072]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x3072 : Shape := ⟨3, ![32, 256, 3072]⟩
abbrev S2x4096x1024 : Shape := ⟨3, ![2, 4096, 1024]⟩
abbrev S2x4096 : Shape := ⟨2, ![2, 4096]⟩
abbrev S2x4096x1 : Shape := ⟨3, ![2, 4096, 1]⟩
abbrev S2x1x1024 : Shape := ⟨3, ![2, 1, 1024]⟩
abbrev S2x4096x3072 : Shape := ⟨3, ![2, 4096, 3072]⟩
abbrev S8192x3072 : Shape := ⟨2, ![8192, 3072]⟩
abbrev S16384x3072 : Shape := ⟨2, ![16384, 3072]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S1024x3072, .f32⟩
  | .hbm, ⟨6, _⟩ => ⟨S8192x1024, .f32⟩
  | .hbm, ⟨7, _⟩ => ⟨S32x256x1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S32x256x3072, .f32⟩
  | .hbm, ⟨34, _⟩ => ⟨S8192x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x1024, .f32⟩
  | .hbm, ⟨48, _⟩ => ⟨S2x4096x1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S2x1x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x1x1024, .f32⟩
  | .hbm, ⟨59, _⟩ => ⟨S2x4096x1024, .f32⟩
  | .hbm, ⟨60, _⟩ => ⟨S2x4096x1024, .f32⟩
  | .hbm, ⟨61, _⟩ => ⟨S2x4096x3072, .f32⟩
  | .hbm, ⟨62, _⟩ => ⟨S8192x3072, .f32⟩
  | .hbm, ⟨63, _⟩ => ⟨S8192x3072, .f32⟩
  | .hbm, ⟨64, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== KernelGate.lean ====
abbrev S8192x2048 : Shape := ⟨2, ![8192, 2048]⟩
abbrev S16384x6144 : Shape := ⟨2, ![16384, 6144]⟩
abbrev S2048 : Shape := ⟨1, ![2048]⟩
abbrev S2048x1024 : Shape := ⟨2, ![2048, 1024]⟩
abbrev S16384x1024 : Shape := ⟨2, ![16384, 1024]⟩
abbrev S8x1x1024 : Shape := ⟨3, ![8, 1, 1024]⟩
abbrev S1x2048 : Shape := ⟨2, ![1, 2048]⟩
abbrev S512x2048 : Shape := ⟨2, ![512, 2048]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S16384x6144, .bf16⟩
  | .hbm, ⟨3, _⟩ => ⟨S2048, .f32⟩
  | .hbm, ⟨4, _⟩ => ⟨S2048x1024, .bf16⟩
  | .hbm, ⟨5, _⟩ => ⟨S16384x1024, .f32⟩
  | .hbm, ⟨6, _⟩ => ⟨S8x1x1024, .f32⟩
  | .hbm, ⟨7, _⟩ => ⟨S1x2048, .f32⟩
  | .hbm, ⟨8, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceGateIdeal.lean ====
abbrev S8192x2048 : Shape := ⟨2, ![8192, 2048]⟩
abbrev S16384x6144 : Shape := ⟨2, ![16384, 6144]⟩
abbrev S2048 : Shape := ⟨1, ![2048]⟩
abbrev S2048x1024 : Shape := ⟨2, ![2048, 1024]⟩
abbrev S16384x1024 : Shape := ⟨2, ![16384, 1024]⟩
abbrev S8x1x1024 : Shape := ⟨3, ![8, 1, 1024]⟩
abbrev S16384x2048 : Shape := ⟨2, ![16384, 2048]⟩
abbrev S8192x1024 : Shape := ⟨2, ![8192, 1024]⟩
abbrev S1x1x1024 : Shape := ⟨3, ![1, 1, 1024]⟩
abbrev S32x256x4x512 : Shape := ⟨4, ![32, 256, 4, 512]⟩
abbrev S4x512 : Shape := ⟨2, ![4, 512]⟩
abbrev S_ : Shape := ⟨0, ![]⟩
abbrev S32x256x4 : Shape := ⟨3, ![32, 256, 4]⟩
abbrev S32x256x4x1 : Shape := ⟨4, ![32, 256, 4, 1]⟩
abbrev S1x1x4x512 : Shape := ⟨4, ![1, 1, 4, 512]⟩
abbrev S32x256x2048 : Shape := ⟨3, ![32, 256, 2048]⟩
abbrev S32x256x1024 : Shape := ⟨3, ![32, 256, 1024]⟩
abbrev S2x1x1024 : Shape := ⟨3, ![2, 1, 1024]⟩
abbrev S2x4096x4x512 : Shape := ⟨4, ![2, 4096, 4, 512]⟩
abbrev S2x4096x4 : Shape := ⟨3, ![2, 4096, 4]⟩
abbrev S2x4096x4x1 : Shape := ⟨4, ![2, 4096, 4, 1]⟩
abbrev S2x4096x2048 : Shape := ⟨3, ![2, 4096, 2048]⟩
abbrev S2x4096x1024 : Shape := ⟨3, ![2, 4096, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S16384x6144, .bf16⟩
  | .hbm, ⟨3, _⟩ => ⟨S2048, .f32⟩
  | .hbm, ⟨4, _⟩ => ⟨S2048x1024, .bf16⟩
  | .hbm, ⟨5, _⟩ => ⟨S16384x1024, .f32⟩
  | .hbm, ⟨6, _⟩ => ⟨S8x1x1024, .f32⟩
  | .hbm, ⟨7, _⟩ => ⟨S16384x2048, .bf16⟩
  | .hbm, ⟨8, _⟩ => ⟨S16384x2048, .f32⟩
  | .hbm, ⟨9, _⟩ => ⟨S2048x1024, .f32⟩
  | .hbm, ⟨10, _⟩ => ⟨S8192x2048, .f32⟩
  | .hbm, ⟨11, _⟩ => ⟨S8192x1024, .f32⟩
  | .hbm, ⟨12, _⟩ => ⟨S1x1x1024, .f32⟩
  | .hbm, ⟨13, _⟩ => ⟨S32x256x4x512, .f32⟩
  | .hbm, ⟨14, _⟩ => ⟨S4x512, .f32⟩
  | .hbm, ⟨15, _⟩ => ⟨S32x256x4x512, .f32⟩
  | .hbm, ⟨16, _⟩ => ⟨S_, .f32⟩
  | .hbm, ⟨17, _⟩ => ⟨S32x256x4, .f32⟩
  | .hbm, ⟨18, _⟩ => ⟨S32x256x4x1, .f32⟩
  | .hbm, ⟨19, _⟩ => ⟨S_, .f32⟩
  | .hbm, ⟨20, _⟩ => ⟨S32x256x4x1, .f32⟩
  | .hbm, ⟨21, _⟩ => ⟨S32x256x4x1, .f32⟩
  | .hbm, ⟨22, _⟩ => ⟨S_, .f32⟩
  | .hbm, ⟨23, _⟩ => ⟨S32x256x4x1, .f32⟩
  | .hbm, ⟨24, _⟩ => ⟨S32x256x4x1, .f32⟩
  | .hbm, ⟨25, _⟩ => ⟨S32x256x4x1, .f32⟩
  | .hbm, ⟨26, _⟩ => ⟨S32x256x4x512, .f32⟩
  | .hbm, ⟨27, _⟩ => ⟨S32x256x4x512, .f32⟩
  | .hbm, ⟨28, _⟩ => ⟨S1x1x4x512, .f32⟩
  | .hbm, ⟨29, _⟩ => ⟨S32x256x4x512, .f32⟩
  | .hbm, ⟨30, _⟩ => ⟨S32x256x4x512, .f32⟩
  | .hbm, ⟨31, _⟩ => ⟨S32x256x2048, .f32⟩
  | .hbm, ⟨32, _⟩ => ⟨S32x256x2048, .f32⟩
  | .hbm, ⟨33, _⟩ => ⟨S32x256x2048, .f32⟩
  | .hbm, ⟨34, _⟩ => ⟨S_, .f32⟩
  | .hbm, ⟨35, _⟩ => ⟨S32x256x2048, .f32⟩
  | .hbm, ⟨36, _⟩ => ⟨S32x256x2048, .f32⟩
  | .hbm, ⟨37, _⟩ => ⟨S_, .f32⟩
  | .hbm, ⟨38, _⟩ => ⟨S32x256x2048, .f32⟩
  | .hbm, ⟨39, _⟩ => ⟨S32x256x2048, .f32⟩
  | .hbm, ⟨40, _⟩ => ⟨S32x256x2048, .f32⟩
  | .hbm, ⟨41, _⟩ => ⟨S32x256x2048, .f32⟩
  | .hbm, ⟨42, _⟩ => ⟨S32x256x2048, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S8192x2048, .f32⟩
  | .hbm, ⟨49, _⟩ => ⟨S8192x1024, .f32⟩
  | .hbm, ⟨50, _⟩ => ⟨S2x1x1024, .f32⟩
  | .hbm, ⟨51, _⟩ => ⟨S2x4096x4x512, .f32⟩
  | .hbm, ⟨52, _⟩ => ⟨S4x512, .f32⟩
  | .hbm, ⟨53, _⟩ => ⟨S2x4096x4x512, .f32⟩
  | .hbm, ⟨54, _⟩ => ⟨S_, .f32⟩
  | .hbm, ⟨55, _⟩ => ⟨S2x4096x4, .f32⟩
  | .hbm, ⟨56, _⟩ => ⟨S2x4096x4x1, .f32⟩
  | .hbm, ⟨57, _⟩ => ⟨S_, .f32⟩
  | .hbm, ⟨58, _⟩ => ⟨S2x4096x4x1, .f32⟩
  | .hbm, ⟨59, _⟩ => ⟨S2x4096x4x1, .f32⟩
  | .hbm, ⟨60, _⟩ => ⟨S_, .f32⟩
  | .hbm, ⟨61, _⟩ => ⟨S2x4096x4x1, .f32⟩
  | .hbm, ⟨62, _⟩ => ⟨S2x4096x4x1, .f32⟩
  | .hbm, ⟨63, _⟩ => ⟨S2x4096x4x1, .f32⟩
  | .hbm, ⟨64, _⟩ => ⟨S2x4096x4x512, .f32⟩
  | .hbm, ⟨65, _⟩ => ⟨S2x4096x4x512, .f32⟩
  | .hbm, ⟨66, _⟩ => ⟨S1x1x4x512, .f32⟩
  | .hbm, ⟨67, _⟩ => ⟨S2x4096x4x512, .f32⟩
  | .hbm, ⟨68, _⟩ => ⟨S2x4096x4x512, .f32⟩
  | .hbm, ⟨69, _⟩ => ⟨S2x4096x2048, .f32⟩
  | .hbm, ⟨70, _⟩ => ⟨S2x4096x2048, .f32⟩
  | .hbm, ⟨71, _⟩ => ⟨S2x4096x2048, .f32⟩
  | .hbm, ⟨72, _⟩ => ⟨S_, .f32⟩
  | .hbm, ⟨73, _⟩ => ⟨S2x4096x2048, .f32⟩
  | .hbm, ⟨74, _⟩ => ⟨S2x4096x2048, .f32⟩
  | .hbm, ⟨75, _⟩ => ⟨S_, .f32⟩
  | .hbm, ⟨76, _⟩ => ⟨S2x4096x2048, .f32⟩
  | .hbm, ⟨77, _⟩ => ⟨S2x4096x2048, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S8192x1024, .f32⟩
  | .hbm, ⟨87, _⟩ => ⟨S8192x1024, .f32⟩
  | .hbm, ⟨88, _⟩ => ⟨S16384x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]
-- ==== KernelRes.lean ====
abbrev S8192x1024 : Shape := ⟨2, ![8192, 1024]⟩
abbrev S1024x1024 : Shape := ⟨2, ![1024, 1024]⟩
abbrev S16384x1024 : Shape := ⟨2, ![16384, 1024]⟩
abbrev S8x1x1024 : Shape := ⟨3, ![8, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .hbm, ⟨3, _⟩ => ⟨S16384x1024, .f32⟩
  | .hbm, ⟨4, _⟩ => ⟨S8x1x1024, .f32⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 32 := Scalar.addi c16_i32_0 v1
  let c0_i32_1 : BitVec 32 := 0#32
  let c0_i32_2 : BitVec 32 := 0#32
  ![v2.toNat, c0_i32_1.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceResIdeal.lean ====
abbrev S8192x1024 : Shape := ⟨2, ![8192, 1024]⟩
abbrev S1024x1024 : Shape := ⟨2, ![1024, 1024]⟩
abbrev S16384x1024 : Shape := ⟨2, ![16384, 1024]⟩
abbrev S8x1x1024 : Shape := ⟨3, ![8, 1, 1024]⟩
abbrev S32x256x1024 : Shape := ⟨3, ![32, 256, 1024]⟩
abbrev S1x1x1024 : Shape := ⟨3, ![1, 1, 1024]⟩
abbrev S2x4096x1024 : Shape := ⟨3, ![2, 4096, 1024]⟩
abbrev S2x1x1024 : Shape := ⟨3, ![2, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .hbm, ⟨3, _⟩ => ⟨S16384x1024, .f32⟩
  | .hbm, ⟨4, _⟩ => ⟨S8x1x1024, .f32⟩
  | .hbm, ⟨5, _⟩ => ⟨S1024x1024, .f32⟩
  | .hbm, ⟨6, _⟩ => ⟨S8192x1024, .f32⟩
  | .hbm, ⟨7, _⟩ => ⟨S32x256x1024, .f32⟩
  | .hbm, ⟨8, _⟩ => ⟨S1x1x1024, .f32⟩
  | .hbm, ⟨9, _⟩ => ⟨S8192x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S8192x1024, .f32⟩
  | .hbm, ⟨16, _⟩ => ⟨S2x4096x1024, .f32⟩
  | .hbm, ⟨17, _⟩ => ⟨S2x1x1024, .f32⟩
  | .hbm, ⟨18, _⟩ => ⟨S8192x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S8192x1024, .f32⟩
  | .hbm, ⟨25, _⟩ => ⟨S8192x1024, .f32⟩
  | .hbm, ⟨26, _⟩ => ⟨S16384x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelAttn.lean ====
abbrev S8192x1024 : Shape := ⟨2, ![8192, 1024]⟩
abbrev S1024 : Shape := ⟨1, ![1024]⟩
abbrev S8x1x1024 : Shape := ⟨3, ![8, 1, 1024]⟩
abbrev S1024x1536 : Shape := ⟨2, ![1024, 1536]⟩
abbrev S1x1024 : Shape := ⟨2, ![1, 1024]⟩
abbrev S16384x1536 : Shape := ⟨2, ![16384, 1536]⟩
abbrev S512x1024 : Shape := ⟨2, ![512, 1024]⟩
abbrev S1x1x1024 : Shape := ⟨3, ![1, 1, 1024]⟩
abbrev S512x1536 : Shape := ⟨2, ![512, 1536]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1024x1536, .bf16⟩
  | .hbm, ⟨6, _⟩ => ⟨S1x1024, .f32⟩
  | .hbm, ⟨7, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1536, .bf16⟩
  | .local _ .vmem, ⟨10, _⟩ => ⟨S512x1536, .f32⟩
  | .local _ .vmem, ⟨11, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAttnIdeal.lean ====
abbrev S8192x1024 : Shape := ⟨2, ![8192, 1024]⟩
abbrev S1024 : Shape := ⟨1, ![1024]⟩
abbrev S8x1x1024 : Shape := ⟨3, ![8, 1, 1024]⟩
abbrev S1024x1536 : Shape := ⟨2, ![1024, 1536]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x1536 : Shape := ⟨3, ![32, 256, 1536]⟩
abbrev S2x4096x1024 : Shape := ⟨3, ![2, 4096, 1024]⟩
abbrev S2x4096 : Shape := ⟨2, ![2, 4096]⟩
abbrev S2x4096x1 : Shape := ⟨3, ![2, 4096, 1]⟩
abbrev S2x1x1024 : Shape := ⟨3, ![2, 1, 1024]⟩
abbrev S2x4096x1536 : Shape := ⟨3, ![2, 4096, 1536]⟩
abbrev S8192x1536 : Shape := ⟨2, ![8192, 1536]⟩
abbrev S16384x1536 : Shape := ⟨2, ![16384, 1536]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1x1024, .f32⟩
  | .hbm, ⟨4, _⟩ => ⟨S8x1x1024, .f32⟩
  | .hbm, ⟨5, _⟩ => ⟨S1024x1536, .bf16⟩
  | .hbm, ⟨6, _⟩ => ⟨S1024x1536, .f32⟩
  | .hbm, ⟨7, _⟩ => ⟨S32x256x1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S32x256x1536, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S2x1x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x4096x1024, .f32⟩
  | .hbm, ⟨56, _⟩ => ⟨S2x4096x1024, .f32⟩
  | .hbm, ⟨57, _⟩ => ⟨S2x1x1024, .f32⟩
  | .hbm, ⟨58, _⟩ => ⟨S2x4096x1024, .f32⟩
  | .hbm, ⟨59, _⟩ => ⟨S2x4096x1024, .f32⟩
  | .hbm, ⟨60, _⟩ => ⟨S2x4096x1536, .f32⟩
  | .hbm, ⟨61, _⟩ => ⟨S8192x1536, .f32⟩
  | .hbm, ⟨62, _⟩ => ⟨S8192x1536, .f32⟩
  | .hbm, ⟨63, _⟩ => ⟨S16384x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== KernelKvd.lean ====
abbrev S16384x3072 : Shape := ⟨2, ![16384, 3072]⟩
abbrev S8192x1024 : Shape := ⟨2, ![8192, 1024]⟩
abbrev S8192x2048 : Shape := ⟨2, ![8192, 2048]⟩
abbrev S8192x8x128 : Shape := ⟨3, ![8192, 8, 128]⟩
abbrev S512x1024 : Shape := ⟨2, ![512, 1024]⟩
abbrev S512x2048 : Shape := ⟨2, ![512, 2048]⟩
abbrev S512x8x128 : Shape := ⟨3, ![512, 8, 128]⟩
abbrev S512x128 : Shape := ⟨2, ![512, 128]⟩
abbrev S512x1x128 : Shape := ⟨3, ![512, 1, 128]⟩

abbrev nBuf : Space → Nat
  | .hbm => 5
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S8192x1024, .bf16⟩
  | .hbm, ⟨2, _⟩ => ⟨S8192x2048, .bf16⟩
  | .hbm, ⟨3, _⟩ => ⟨S8192x8x128, .f32⟩
  | .hbm, ⟨4, _⟩ => ⟨S8192x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x8x128, .f32⟩
  | .local _ .vmem, ⟨11, _⟩ => ⟨S512x8x128, .f32⟩
  | .local _ .vmem, ⟨12, _⟩ => ⟨S512x8x128, .f32⟩
  | .local _ .vmem, ⟨13, _⟩ => ⟨S512x8x128, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceKvdIdeal.lean ====
abbrev S16384x3072 : Shape := ⟨2, ![16384, 3072]⟩
abbrev S8192x3072 : Shape := ⟨2, ![8192, 3072]⟩
abbrev S8192x1024 : Shape := ⟨2, ![8192, 1024]⟩
abbrev S_ : Shape := ⟨0, ![]⟩
abbrev S8192x2048 : Shape := ⟨2, ![8192, 2048]⟩
abbrev S8192x8x128 : Shape := ⟨3, ![8192, 8, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x2048, .f32⟩
  | .hbm, ⟨10, _⟩ => ⟨S8192x2048, .bf16⟩
  | .hbm, ⟨11, _⟩ => ⟨S8192x8x128, .f32⟩
  | .hbm, ⟨12, _⟩ => ⟨S8192x8x128, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.RetBlock.lean ====
/- What one grid point of the retention kernel leaves in its two output blocks, as one function of its input blocks, at
   any float values. A grid point is one sequence of 256 positions; the body treats the four heads one after the other
   and stores, per head, a 256 × 512 slab of the mixed values and two 256 × 512 slabs of the final states (forward and
   backward). `headO`, `headF`, `headB` are the three slabs of one head; every head of the body is one of them at its own
   columns (`pieces_o`, `pieces_s`), so the blocks are `oBlk` and `sBlk`. -/
module

public import proofs.«01_k».proof.Proof.Gen.KernelIdeal.Value
public import Idealize.ShloMosaic.Lib.Pointwise
public import Idealize.ShloMosaic.Lib.Writes

@[expose] public section

noncomputable section

namespace Cert.Proof.Ret

open Cert.KernelIdeal Cert.KernelIdeal.Gen Cert.KernelIdeal.Value Idealize.ShloMosaic Idealize.ShloMosaic.TcCoe Idealize.SL.Sem
open Idealize.ShloMosaic.Pointwise

variable {F : FTy → Type} [FloatOps F]

/-- The mixed values of one head, from its two decay words and its queries, keys and values. -/
def headO (a b : Elt F .f32) (q k : Vec F S256x256 .bf16) (v : Vec F S256x512 .bf16) : FVec F S256x512 .f32 :=
  k0_pay24 a b q k v

/-- The forward state of one head. -/
def headF (a : Elt F .f32) (k : Vec F S256x256 .bf16) (v : Vec F S256x512 .bf16) : FVec F S1x1x1x256x512 .f32 :=
  k0_pay17 (k0_pay3 (F := F)) a (k0_pay13 k) v

/-- The backward state of one head. -/
def headB (b : Elt F .f32) (k : Vec F S256x256 .bf16) (v : Vec F S256x512 .bf16) : FVec F S1x1x1x256x512 .f32 :=
  k0_pay18 (k0_pay3 (F := F)) b (k0_pay13 k) v

/-- Head `h`'s 256 columns of a block of queries or keys. -/
def colsK (x : Vec F S256x1024 .bf16) (h : Fin 4) : Vec F S256x256 .bf16 := fun j =>
  x (ix2 (n0 := 256) (n1 := 1024) (j 0) ⟨256 * h.val + (j 1).val, by have := (j 1).isLt; have : (j 1).val < 256 := this; omega⟩)

/-- Head `h`'s 512 columns of a block of values. -/
def colsV (x : Vec F S256x2048 .bf16) (h : Fin 4) : Vec F S256x512 .bf16 := fun j =>
  x (ix2 (n0 := 256) (n1 := 2048) (j 0) ⟨512 * h.val + (j 1).val, by have := (j 1).isLt; have : (j 1).val < 512 := this; omega⟩)

/-- The block of mixed values: column `512 h + e` is column `e` of head `h`. -/
def oBlk (x0 : Vec F S2x4 .f32) (x1 x2 : Vec F S256x1024 .bf16) (x3 : Vec F S256x2048 .bf16) : Vec F S256x2048 .f32 := fun y =>
  let h : Fin 4 := ⟨(y 1).val / 512, by have : (y 1).val < 2048 := (y 1).isLt; omega⟩
  headO (x0 (ix2 (n0 := 2) (n1 := 4) 0 h)) (x0 (ix2 (n0 := 2) (n1 := 4) 1 h)) (colsK x1 h) (colsK x2 h) (colsV x3 h)
    (ix2 (n0 := 256) (n1 := 512) (y 0) ⟨(y 1).val % 512, Nat.mod_lt _ (by decide)⟩)

/-- The block of states: direction 0 forward, direction 1 backward, per head. -/
def sBlk (x0 : Vec F S2x4 .f32) (x2 : Vec F S256x1024 .bf16) (x3 : Vec F S256x2048 .bf16) : Vec F S1x2x4x256x512 .f32 := fun y =>
  let h : Fin 4 := y 2
  let z : S1x1x1x256x512.Idx := ix5 (n0 := 1) (n1 := 1) (n2 := 1) (n3 := 256) (n4 := 512) 0 0 0 (y 3) (y 4)
  if (y 1).val = 0 then headF (x0 (ix2 (n0 := 2) (n1 := 4) 0 h)) (colsK x2 h) (colsV x3 h) z
  else headB (x0 (ix2 (n0 := 2) (n1 := 4) 1 h)) (colsK x2 h) (colsV x3 h) z

end Cert.Proof.Ret

end
-- ==== Proof.RetOut.lean ====
/- The pieces the run of one grid point stores are the slabs of `oBlk` and `sBlk`. -/
module

public import proofs.«01_k».proof.Proof.RetBlock

@[expose] public section

noncomputable section

namespace Cert.Proof.Ret

open Cert.KernelIdeal Cert.KernelIdeal.Gen Cert.KernelIdeal.Value Idealize.ShloMosaic Idealize.ShloMosaic.TcCoe Idealize.SL.Sem
open Idealize.ShloMosaic.Pointwise

variable {F : FTy → Type} [FloatOps F]

/-- A load of head `h`'s query or key columns out of a whole block. -/
theorem readK {M : Memref sig .tc .vmem S256x1024 .bf16} (hM : M.IsWhole) (x : Vec F S256x1024 .bf16) (h : Fin 4)
    (off : Nat) (ho : off = 256 * h.val) (hb) :
    View.readAt (Elt F) M.view (Rect.unit (s := S256x1024) ![0, off] S256x256.size hb).toLoadRect (hM.unread x) = colsK x h := by
  subst ho
  rw [View.readAt_eq_ld, hM.read_unread]
  funext j
  refine congrArg x (funext fun a => Fin.ext ?_)
  match a with
  | ⟨0, _⟩ => show 0 + 1 * (j 0).val = (j 0).val; omega
  | ⟨1, _⟩ => show 256 * h.val + 1 * (j 1).val = 256 * h.val + (j 1).val; omega

/-- A load of head `h`'s value columns out of a whole block. -/
theorem readV {M : Memref sig .tc .vmem S256x2048 .bf16} (hM : M.IsWhole) (x : Vec F S256x2048 .bf16) (h : Fin 4)
    (off : Nat) (ho : off = 512 * h.val) (hb) :
    View.readAt (Elt F) M.view (Rect.unit (s := S256x2048) ![0, off] S256x512.size hb).toLoadRect (hM.unread x) = colsV x h := by
  subst ho
  rw [View.readAt_eq_ld, hM.read_unread]
  funext j
  refine congrArg x (funext fun a => Fin.ext ?_)
  match a with
  | ⟨0, _⟩ => show 0 + 1 * (j 0).val = (j 0).val; omega
  | ⟨1, _⟩ => show 512 * h.val + 1 * (j 1).val = 512 * h.val + (j 1).val; omega

/-- A scalar load of a decay word. -/
theorem readW {M : Memref sig .tc .smem S2x4 .f32} (hM : M.IsWhole) (x : Vec F S2x4 .f32) (d : Fin 2) (h : Fin 4)
    (off : Fin 2 → Nat) (ho : off = ![d.val, h.val]) (hb) (i) :
    View.readAt (Elt F) M.view (Rect.unit (s := S2x4) off S1x1.size hb).toLoadRect (hM.unread x) i = x (ix2 d h) := by
  subst ho
  rw [View.readAt_eq_ld, hM.read_unread]
  refine congrArg x (funext fun a => Fin.ext ?_)
  have h0 : (i 0).val < 1 := (i 0).isLt
  have h1 : (i 1).val < 1 := (i 1).isLt
  match a with
  | ⟨0, _⟩ => show d.val + 1 * (i 0).val = d.val; omega
  | ⟨1, _⟩ => show h.val + 1 * (i 1).val = h.val; omega

/-- `oBlk` at an index of head `h`'s column range. -/
theorem oBlk_emb (x0 : Vec F S2x4 .f32) (x1 x2 : Vec F S256x1024 .bf16) (x3 : Vec F S256x2048 .bf16) (h : Fin 4)
    (off : Nat) (ho : off = 512 * h.val) (hb) (y : S256x512.Idx) :
    oBlk x0 x1 x2 x3 ((Rect.unit (s := S256x2048) ![0, off] S256x512.size hb).emb y)
      = headO (x0 (ix2 0 h)) (x0 (ix2 1 h)) (colsK x1 h) (colsK x2 h) (colsV x3 h) y := by
  subst ho
  have h1 : (y 1).val < 512 := (y 1).isLt
  have e0 : (((Rect.unit (s := S256x2048) ![0, 512 * h.val] S256x512.size hb).emb y) 0) = (y 0 : Fin 256) :=
    Fin.ext (show 0 + 1 * (y 0).val = (y 0).val by omega)
  have e1 : (((Rect.unit (s := S256x2048) ![0, 512 * h.val] S256x512.size hb).emb y) 1).val = 512 * h.val + (y 1).val :=
    show 512 * h.val + 1 * (y 1).val = 512 * h.val + (y 1).val by omega
  generalize (Rect.unit (s := S256x2048) ![0, 512 * h.val] S256x512.size hb).emb y = z at e0 e1
  have eh : (⟨(z 1).val / 512, by have : (z 1).val < 2048 := (z 1).isLt; omega⟩ : Fin 4) = h := Fin.ext (show (z 1).val / 512 = h.val by omega)
  have ey : (ix2 (n0 := 256) (n1 := 512) (z 0) ⟨(z 1).val % 512, Nat.mod_lt _ (by decide)⟩ : S256x512.Idx) = y := by
    funext a
    match a with
    | ⟨0, _⟩ => exact e0
    | ⟨1, _⟩ => exact Fin.ext (show (z 1).val % 512 = (y 1).val by omega)
  unfold oBlk
  simp only [eh, ey]

set_option maxRecDepth 65536 in
/-- The stores into the block of mixed values: one slab per head. -/
theorem pieces_o (c : Dev nD) (i : grid0.Coords) (arg1 : Memref sig .tc .smem S2x4 .f32) (h1 : arg1.IsWhole)
    (arg2 : Memref sig .tc .vmem S256x1024 .bf16) (h2 : arg2.IsWhole) (arg3 : Memref sig .tc .vmem S256x1024 .bf16) (h3 : arg3.IsWhole)
    (arg4 : Memref sig .tc .vmem S256x2048 .bf16) (h4 : arg4.IsWhole) (arg5 : Memref sig .tc .vmem S256x2048 .f32) (h5 : arg5.IsWhole)
    (arg6 : Memref sig .tc .vmem S1x2x4x256x512 .f32) (h6 : arg6.IsWhole)
    (x0 : Vec F S2x4 .f32) (x1 x2 : Vec F S256x1024 .bf16) (x3 : Vec F S256x2048 .bf16) :
    (kernelRun0_A c i arg1 h1 arg2 h2 arg3 h3 arg4 h4 arg5 h5 arg6 h6 x0 x1 x2 x3).1 = [⟨Rect.unit (s := S256x2048) ![0, 1536] S256x512.size inb_S256x2048_S256x512_0_1536, headO (x0 (ix2 0 3)) (x0 (ix2 1 3)) (colsK x1 3) (colsK x2 3) (colsV x3 3)⟩,
      ⟨Rect.unit (s := S256x2048) ![0, 1024] S256x512.size inb_S256x2048_S256x512_0_1024, headO (x0 (ix2 0 2)) (x0 (ix2 1 2)) (colsK x1 2) (colsK x2 2) (colsV x3 2)⟩,
      ⟨Rect.unit (s := S256x2048) ![0, 512] S256x512.size inb_S256x2048_S256x512_0_512, headO (x0 (ix2 0 1)) (x0 (ix2 1 1)) (colsK x1 1) (colsK x2 1) (colsV x3 1)⟩,
      ⟨Rect.unit (s := S256x2048) ![0, 0] S256x512.size inb_S256x2048_S256x512_0_0, headO (x0 (ix2 0 0)) (x0 (ix2 1 0)) (colsK x1 0) (colsK x2 0) (colsV x3 0)⟩] := by
  show ([⟨Rect.unit (s := S256x2048) ![0, 1536] S256x512.size inb_S256x2048_S256x512_0_1536, headO (View.readAt (Elt F) arg1.view (Rect.unit (s := S2x4) ![0, 3] S1x1.size inb_S2x4_S1x1_0_3).toLoadRect (h1.unread x0) _) (View.readAt (Elt F) arg1.view (Rect.unit (s := S2x4) ![1, 3] S1x1.size inb_S2x4_S1x1_1_3).toLoadRect (h1.unread x0) _)
        (View.readAt (Elt F) arg2.view (Rect.unit (s := S256x1024) ![0, 768] S256x256.size inb_S256x1024_S256x256_0_768).toLoadRect (h2.unread x1))
        (View.readAt (Elt F) arg3.view (Rect.unit (s := S256x1024) ![0, 768] S256x256.size inb_S256x1024_S256x256_0_768).toLoadRect (h3.unread x2))
        (View.readAt (Elt F) arg4.view (Rect.unit (s := S256x2048) ![0, 1536] S256x512.size inb_S256x2048_S256x512_0_1536).toLoadRect (h4.unread x3))⟩,
      ⟨Rect.unit (s := S256x2048) ![0, 1024] S256x512.size inb_S256x2048_S256x512_0_1024, headO (View.readAt (Elt F) arg1.view (Rect.unit (s := S2x4) ![0, 2] S1x1.size inb_S2x4_S1x1_0_2).toLoadRect (h1.unread x0) _) (View.readAt (Elt F) arg1.view (Rect.unit (s := S2x4) ![1, 2] S1x1.size inb_S2x4_S1x1_1_2).toLoadRect (h1.unread x0) _)
        (View.readAt (Elt F) arg2.view (Rect.unit (s := S256x1024) ![0, 512] S256x256.size inb_S256x1024_S256x256_0_512).toLoadRect (h2.unread x1))
        (View.readAt (Elt F) arg3.view (Rect.unit (s := S256x1024) ![0, 512] S256x256.size inb_S256x1024_S256x256_0_512).toLoadRect (h3.unread x2))
        (View.readAt (Elt F) arg4.view (Rect.unit (s := S256x2048) ![0, 1024] S256x512.size inb_S256x2048_S256x512_0_1024).toLoadRect (h4.unread x3))⟩,
      ⟨Rect.unit (s := S256x2048) ![0, 512] S256x512.size inb_S256x2048_S256x512_0_512, headO (View.readAt (Elt F) arg1.view (Rect.unit (s := S2x4) ![0, 1] S1x1.size inb_S2x4_S1x1_0_1).toLoadRect (h1.unread x0) _) (View.readAt (Elt F) arg1.view (Rect.unit (s := S2x4) ![1, 1] S1x1.size inb_S2x4_S1x1_1_1).toLoadRect (h1.unread x0) _)
        (View.readAt (Elt F) arg2.view (Rect.unit (s := S256x1024) ![0, 256] S256x256.size inb_S256x1024_S256x256_0_256).toLoadRect (h2.unread x1))
        (View.readAt (Elt F) arg3.view (Rect.unit (s := S256x1024) ![0, 256] S256x256.size inb_S256x1024_S256x256_0_256).toLoadRect (h3.unread x2))
        (View.readAt (Elt F) arg4.view (Rect.unit (s := S256x2048) ![0, 512] S256x512.size inb_S256x2048_S256x512_0_512).toLoadRect (h4.unread x3))⟩,
      ⟨Rect.unit (s := S256x2048) ![0, 0] S256x512.size inb_S256x2048_S256x512_0_0, headO (View.readAt (Elt F) arg1.view (Rect.unit (s := S2x4) ![0, 0] S1x1.size inb_S2x4_S1x1_0_0).toLoadRect (h1.unread x0) _) (View.readAt (Elt F) arg1.view (Rect.unit (s := S2x4) ![1, 0] S1x1.size inb_S2x4_S1x1_1_0).toLoadRect (h1.unread x0) _)
        (View.readAt (Elt F) arg2.view (Rect.unit (s := S256x1024) ![0, 0] S256x256.size inb_S256x1024_S256x256_0_0).toLoadRect (h2.unread x1))
        (View.readAt (Elt F) arg3.view (Rect.unit (s := S256x1024) ![0, 0] S256x256.size inb_S256x1024_S256x256_0_0).toLoadRect (h3.unread x2))
        (View.readAt (Elt F) arg4.view (Rect.unit (s := S256x2048) ![0, 0] S256x512.size inb_S256x2048_S256x512_0_0).toLoadRect (h4.unread x3))⟩] : List (View.Piece (Elt F) S256x2048 .f32)) = _
  rw [readK h2 x1 0 0 rfl, readK h2 x1 1 256 rfl, readK h2 x1 2 512 rfl, readK h2 x1 3 768 rfl,
    readK h3 x2 0 0 rfl, readK h3 x2 1 256 rfl, readK h3 x2 2 512 rfl, readK h3 x2 3 768 rfl,
    readV h4 x3 0 0 rfl, readV h4 x3 1 512 rfl, readV h4 x3 2 1024 rfl, readV h4 x3 3 1536 rfl,
    readW h1 x0 0 0 ![0, 0] rfl, readW h1 x0 0 1 ![0, 1] rfl, readW h1 x0 0 2 ![0, 2] rfl, readW h1 x0 0 3 ![0, 3] rfl,
    readW h1 x0 1 0 ![1, 0] rfl, readW h1 x0 1 1 ![1, 1] rfl, readW h1 x0 1 2 ![1, 2] rfl, readW h1 x0 1 3 ![1, 3] rfl]

/-- What a grid point leaves in the block of mixed values. -/
theorem out_o (c : Dev nD) (i : grid0.Coords) (arg1 : Memref sig .tc .smem S2x4 .f32) (h1 : arg1.IsWhole)
    (arg2 : Memref sig .tc .vmem S256x1024 .bf16) (h2 : arg2.IsWhole) (arg3 : Memref sig .tc .vmem S256x1024 .bf16) (h3 : arg3.IsWhole)
    (arg4 : Memref sig .tc .vmem S256x2048 .bf16) (h4 : arg4.IsWhole) (arg5 : Memref sig .tc .vmem S256x2048 .f32) (h5 : arg5.IsWhole)
    (arg6 : Memref sig .tc .vmem S1x2x4x256x512 .f32) (h6 : arg6.IsWhole)
    (x0 : Vec F S2x4 .f32) (x1 x2 : Vec F S256x1024 .bf16) (x3 : Vec F S256x2048 .bf16) :
    out0_A_4 c i arg1 h1 arg2 h2 arg3 h3 arg4 h4 arg5 h5 arg6 h6 x0 x1 x2 x3 = oBlk x0 x1 x2 x3 := by
  funext y
  unfold out0_A_4
  refine View.read_writes_apply_of_pieces VO0_4 _ (oBlk x0 x1 x2 x3) _ ?_ y (cover0_A_4 c i arg1 h1 arg2 h2 arg3 h3 arg4 h4 arg5 h5 arg6 h6 x0 x1 x2 x3 y)
  rw [pieces_o]
  intro p hp
  rcases List.mem_cons.mp hp with rfl | hp
  · exact fun y => (oBlk_emb x0 x1 x2 x3 3 1536 rfl inb_S256x2048_S256x512_0_1536 y).symm
  rcases List.mem_cons.mp hp with rfl | hp
  · exact fun y => (oBlk_emb x0 x1 x2 x3 2 1024 rfl inb_S256x2048_S256x512_0_1024 y).symm
  rcases List.mem_cons.mp hp with rfl | hp
  · exact fun y => (oBlk_emb x0 x1 x2 x3 1 512 rfl inb_S256x2048_S256x512_0_512 y).symm
  obtain rfl := List.mem_singleton.mp hp
  exact fun y => (oBlk_emb x0 x1 x2 x3 0 0 rfl inb_S256x2048_S256x512_0_0 y).symm

/-- `sBlk` at an index of the slab of direction `d` and head `h`. -/
theorem sBlk_emb (x0 : Vec F S2x4 .f32) (x2 : Vec F S256x1024 .bf16) (x3 : Vec F S256x2048 .bf16) (d : Fin 2) (h : Fin 4)
    (off : Fin 5 → Nat) (ho : off = ![0, d.val, h.val, 0, 0]) (hb) (y : S1x1x1x256x512.Idx) :
    sBlk x0 x2 x3 ((Rect.unit (s := S1x2x4x256x512) off S1x1x1x256x512.size hb).emb y)
      = if d = 0 then headF (x0 (ix2 0 h)) (colsK x2 h) (colsV x3 h) y
        else headB (x0 (ix2 1 h)) (colsK x2 h) (colsV x3 h) y := by
  subst ho
  have q0 : (y 0).val < 1 := (y 0).isLt
  have q1 : (y 1).val < 1 := (y 1).isLt
  have q2 : (y 2).val < 1 := (y 2).isLt
  have e1 : (((Rect.unit (s := S1x2x4x256x512) ![0, d.val, h.val, 0, 0] S1x1x1x256x512.size hb).emb y) 1) = d :=
    Fin.ext (show d.val + 1 * (y 1).val = d.val by omega)
  have e2 : (((Rect.unit (s := S1x2x4x256x512) ![0, d.val, h.val, 0, 0] S1x1x1x256x512.size hb).emb y) 2) = h :=
    Fin.ext (show h.val + 1 * (y 2).val = h.val by omega)
  have e3 : (((Rect.unit (s := S1x2x4x256x512) ![0, d.val, h.val, 0, 0] S1x1x1x256x512.size hb).emb y) 3) = (y 3 : Fin 256) :=
    Fin.ext (show 0 + 1 * (y 3).val = (y 3).val by omega)
  have e4 : (((Rect.unit (s := S1x2x4x256x512) ![0, d.val, h.val, 0, 0] S1x1x1x256x512.size hb).emb y) 4) = (y 4 : Fin 512) :=
    Fin.ext (show 0 + 1 * (y 4).val = (y 4).val by omega)
  generalize (Rect.unit (s := S1x2x4x256x512) ![0, d.val, h.val, 0, 0] S1x1x1x256x512.size hb).emb y = z at e1 e2 e3 e4
  have ey : (ix5 (n0 := 1) (n1 := 1) (n2 := 1) (n3 := 256) (n4 := 512) 0 0 0 (z 3) (z 4) : S1x1x1x256x512.Idx) = y := by
    funext a
    match a with
    | ⟨0, _⟩ => exact Fin.ext (show 0 = (y 0).val by omega)
    | ⟨1, _⟩ => exact Fin.ext (show 0 = (y 1).val by omega)
    | ⟨2, _⟩ => exact Fin.ext (show 0 = (y 2).val by omega)
    | ⟨3, _⟩ => exact e3
    | ⟨4, _⟩ => exact e4
  unfold sBlk
  simp only [ey]
  rw [e1, e2]
  simp only [Fin.ext_iff, Fin.val_zero]

theorem sBlk_embF (x0 : Vec F S2x4 .f32) (x2 : Vec F S256x1024 .bf16) (x3 : Vec F S256x2048 .bf16) (h : Fin 4)
    (off : Fin 5 → Nat) (ho : off = ![0, 0, h.val, 0, 0]) (hb) (y : S1x1x1x256x512.Idx) :
    sBlk x0 x2 x3 ((Rect.unit (s := S1x2x4x256x512) off S1x1x1x256x512.size hb).emb y)
      = headF (x0 (ix2 0 h)) (colsK x2 h) (colsV x3 h) y :=
  (sBlk_emb x0 x2 x3 0 h off ho hb y).trans (if_pos rfl)

theorem sBlk_embB (x0 : Vec F S2x4 .f32) (x2 : Vec F S256x1024 .bf16) (x3 : Vec F S256x2048 .bf16) (h : Fin 4)
    (off : Fin 5 → Nat) (ho : off = ![0, 1, h.val, 0, 0]) (hb) (y : S1x1x1x256x512.Idx) :
    sBlk x0 x2 x3 ((Rect.unit (s := S1x2x4x256x512) off S1x1x1x256x512.size hb).emb y)
      = headB (x0 (ix2 1 h)) (colsK x2 h) (colsV x3 h) y :=
  (sBlk_emb x0 x2 x3 1 h off ho hb y).trans (if_neg (by decide))

set_option maxRecDepth 65536 in
/-- The stores into the block of states: per head a forward and a backward slab. -/
theorem pieces_s (c : Dev nD) (i : grid0.Coords) (arg1 : Memref sig .tc .smem S2x4 .f32) (h1 : arg1.IsWhole)
    (arg2 : Memref sig .tc .vmem S256x1024 .bf16) (h2 : arg2.IsWhole) (arg3 : Memref sig .tc .vmem S256x1024 .bf16) (h3 : arg3.IsWhole)
    (arg4 : Memref sig .tc .vmem S256x2048 .bf16) (h4 : arg4.IsWhole) (arg5 : Memref sig .tc .vmem S256x2048 .f32) (h5 : arg5.IsWhole)
    (arg6 : Memref sig .tc .vmem S1x2x4x256x512 .f32) (h6 : arg6.IsWhole)
    (x0 : Vec F S2x4 .f32) (x1 x2 : Vec F S256x1024 .bf16) (x3 : Vec F S256x2048 .bf16) :
    (kernelRun0_A c i arg1 h1 arg2 h2 arg3 h3 arg4 h4 arg5 h5 arg6 h6 x0 x1 x2 x3).2.1 = [⟨Rect.unit (s := S1x2x4x256x512) ![0, 1, 3, 0, 0] S1x1x1x256x512.size inb_S1x2x4x256x512_S1x1x1x256x512_0_1_3_0_0, headB (x0 (ix2 1 3)) (colsK x2 3) (colsV x3 3)⟩,
      ⟨Rect.unit (s := S1x2x4x256x512) ![0, 0, 3, 0, 0] S1x1x1x256x512.size inb_S1x2x4x256x512_S1x1x1x256x512_0_0_3_0_0, headF (x0 (ix2 0 3)) (colsK x2 3) (colsV x3 3)⟩,
      ⟨Rect.unit (s := S1x2x4x256x512) ![0, 1, 2, 0, 0] S1x1x1x256x512.size inb_S1x2x4x256x512_S1x1x1x256x512_0_1_2_0_0, headB (x0 (ix2 1 2)) (colsK x2 2) (colsV x3 2)⟩,
      ⟨Rect.unit (s := S1x2x4x256x512) ![0, 0, 2, 0, 0] S1x1x1x256x512.size inb_S1x2x4x256x512_S1x1x1x256x512_0_0_2_0_0, headF (x0 (ix2 0 2)) (colsK x2 2) (colsV x3 2)⟩,
      ⟨Rect.unit (s := S1x2x4x256x512) ![0, 1, 1, 0, 0] S1x1x1x256x512.size inb_S1x2x4x256x512_S1x1x1x256x512_0_1_1_0_0, headB (x0 (ix2 1 1)) (colsK x2 1) (colsV x3 1)⟩,
      ⟨Rect.unit (s := S1x2x4x256x512) ![0, 0, 1, 0, 0] S1x1x1x256x512.size inb_S1x2x4x256x512_S1x1x1x256x512_0_0_1_0_0, headF (x0 (ix2 0 1)) (colsK x2 1) (colsV x3 1)⟩,
      ⟨Rect.unit (s := S1x2x4x256x512) ![0, 1, 0, 0, 0] S1x1x1x256x512.size inb_S1x2x4x256x512_S1x1x1x256x512_0_1_0_0_0, headB (x0 (ix2 1 0)) (colsK x2 0) (colsV x3 0)⟩,
      ⟨Rect.unit (s := S1x2x4x256x512) ![0, 0, 0, 0, 0] S1x1x1x256x512.size inb_S1x2x4x256x512_S1x1x1x256x512_0_0_0_0_0, headF (x0 (ix2 0 0)) (colsK x2 0) (colsV x3 0)⟩] := by
  show ([⟨Rect.unit (s := S1x2x4x256x512) ![0, 1, 3, 0, 0] S1x1x1x256x512.size inb_S1x2x4x256x512_S1x1x1x256x512_0_1_3_0_0, headB (View.readAt (Elt F) arg1.view (Rect.unit (s := S2x4) ![1, 3] S1x1.size inb_S2x4_S1x1_1_3).toLoadRect (h1.unread x0) _)
        (View.readAt (Elt F) arg3.view (Rect.unit (s := S256x1024) ![0, 768] S256x256.size inb_S256x1024_S256x256_0_768).toLoadRect (h3.unread x2))
        (View.readAt (Elt F) arg4.view (Rect.unit (s := S256x2048) ![0, 1536] S256x512.size inb_S256x2048_S256x512_0_1536).toLoadRect (h4.unread x3))⟩,
      ⟨Rect.unit (s := S1x2x4x256x512) ![0, 0, 3, 0, 0] S1x1x1x256x512.size inb_S1x2x4x256x512_S1x1x1x256x512_0_0_3_0_0, headF (View.readAt (Elt F) arg1.view (Rect.unit (s := S2x4) ![0, 3] S1x1.size inb_S2x4_S1x1_0_3).toLoadRect (h1.unread x0) _)
        (View.readAt (Elt F) arg3.view (Rect.unit (s := S256x1024) ![0, 768] S256x256.size inb_S256x1024_S256x256_0_768).toLoadRect (h3.unread x2))
        (View.readAt (Elt F) arg4.view (Rect.unit (s := S256x2048) ![0, 1536] S256x512.size inb_S256x2048_S256x512_0_1536).toLoadRect (h4.unread x3))⟩,
      ⟨Rect.unit (s := S1x2x4x256x512) ![0, 1, 2, 0, 0] S1x1x1x256x512.size inb_S1x2x4x256x512_S1x1x1x256x512_0_1_2_0_0, headB (View.readAt (Elt F) arg1.view (Rect.unit (s := S2x4) ![1, 2] S1x1.size inb_S2x4_S1x1_1_2).toLoadRect (h1.unread x0) _)
        (View.readAt (Elt F) arg3.view (Rect.unit (s := S256x1024) ![0, 512] S256x256.size inb_S256x1024_S256x256_0_512).toLoadRect (h3.unread x2))
        (View.readAt (Elt F) arg4.view (Rect.unit (s := S256x2048) ![0, 1024] S256x512.size inb_S256x2048_S256x512_0_1024).toLoadRect (h4.unread x3))⟩,
      ⟨Rect.unit (s := S1x2x4x256x512) ![0, 0, 2, 0, 0] S1x1x1x256x512.size inb_S1x2x4x256x512_S1x1x1x256x512_0_0_2_0_0, headF (View.readAt (Elt F) arg1.view (Rect.unit (s := S2x4) ![0, 2] S1x1.size inb_S2x4_S1x1_0_2).toLoadRect (h1.unread x0) _)
        (View.readAt (Elt F) arg3.view (Rect.unit (s := S256x1024) ![0, 512] S256x256.size inb_S256x1024_S256x256_0_512).toLoadRect (h3.unread x2))
        (View.readAt (Elt F) arg4.view (Rect.unit (s := S256x2048) ![0, 1024] S256x512.size inb_S256x2048_S256x512_0_1024).toLoadRect (h4.unread x3))⟩,
      ⟨Rect.unit (s := S1x2x4x256x512) ![0, 1, 1, 0, 0] S1x1x1x256x512.size inb_S1x2x4x256x512_S1x1x1x256x512_0_1_1_0_0, headB (View.readAt (Elt F) arg1.view (Rect.unit (s := S2x4) ![1, 1] S1x1.size inb_S2x4_S1x1_1_1).toLoadRect (h1.unread x0) _)
        (View.readAt (Elt F) arg3.view (Rect.unit (s := S256x1024) ![0, 256] S256x256.size inb_S256x1024_S256x256_0_256).toLoadRect (h3.unread x2))
        (View.readAt (Elt F) arg4.view (Rect.unit (s := S256x2048) ![0, 512] S256x512.size inb_S256x2048_S256x512_0_512).toLoadRect (h4.unread x3))⟩,
      ⟨Rect.unit (s := S1x2x4x256x512) ![0, 0, 1, 0, 0] S1x1x1x256x512.size inb_S1x2x4x256x512_S1x1x1x256x512_0_0_1_0_0, headF (View.readAt (Elt F) arg1.view (Rect.unit (s := S2x4) ![0, 1] S1x1.size inb_S2x4_S1x1_0_1).toLoadRect (h1.unread x0) _)
        (View.readAt (Elt F) arg3.view (Rect.unit (s := S256x1024) ![0, 256] S256x256.size inb_S256x1024_S256x256_0_256).toLoadRect (h3.unread x2))
        (View.readAt (Elt F) arg4.view (Rect.unit (s := S256x2048) ![0, 512] S256x512.size inb_S256x2048_S256x512_0_512).toLoadRect (h4.unread x3))⟩,
      ⟨Rect.unit (s := S1x2x4x256x512) ![0, 1, 0, 0, 0] S1x1x1x256x512.size inb_S1x2x4x256x512_S1x1x1x256x512_0_1_0_0_0, headB (View.readAt (Elt F) arg1.view (Rect.unit (s := S2x4) ![1, 0] S1x1.size inb_S2x4_S1x1_1_0).toLoadRect (h1.unread x0) _)
        (View.readAt (Elt F) arg3.view (Rect.unit (s := S256x1024) ![0, 0] S256x256.size inb_S256x1024_S256x256_0_0).toLoadRect (h3.unread x2))
        (View.readAt (Elt F) arg4.view (Rect.unit (s := S256x2048) ![0, 0] S256x512.size inb_S256x2048_S256x512_0_0).toLoadRect (h4.unread x3))⟩,
      ⟨Rect.unit (s := S1x2x4x256x512) ![0, 0, 0, 0, 0] S1x1x1x256x512.size inb_S1x2x4x256x512_S1x1x1x256x512_0_0_0_0_0, headF (View.readAt (Elt F) arg1.view (Rect.unit (s := S2x4) ![0, 0] S1x1.size inb_S2x4_S1x1_0_0).toLoadRect (h1.unread x0) _)
        (View.readAt (Elt F) arg3.view (Rect.unit (s := S256x1024) ![0, 0] S256x256.size inb_S256x1024_S256x256_0_0).toLoadRect (h3.unread x2))
        (View.readAt (Elt F) arg4.view (Rect.unit (s := S256x2048) ![0, 0] S256x512.size inb_S256x2048_S256x512_0_0).toLoadRect (h4.unread x3))⟩] : List (View.Piece (Elt F) S1x2x4x256x512 .f32)) = _
  rw [readK h3 x2 0 0 rfl, readK h3 x2 1 256 rfl, readK h3 x2 2 512 rfl, readK h3 x2 3 768 rfl,
    readV h4 x3 0 0 rfl, readV h4 x3 1 512 rfl, readV h4 x3 2 1024 rfl, readV h4 x3 3 1536 rfl,
    readW h1 x0 0 0 ![0, 0] rfl, readW h1 x0 0 1 ![0, 1] rfl, readW h1 x0 0 2 ![0, 2] rfl, readW h1 x0 0 3 ![0, 3] rfl,
    readW h1 x0 1 0 ![1, 0] rfl, readW h1 x0 1 1 ![1, 1] rfl, readW h1 x0 1 2 ![1, 2] rfl, readW h1 x0 1 3 ![1, 3] rfl]

/-- What a grid point leaves in the block of states. -/
theorem out_s (c : Dev nD) (i : grid0.Coords) (arg1 : Memref sig .tc .smem S2x4 .f32) (h1 : arg1.IsWhole)
    (arg2 : Memref sig .tc .vmem S256x1024 .bf16) (h2 : arg2.IsWhole) (arg3 : Memref sig .tc .vmem S256x1024 .bf16) (h3 : arg3.IsWhole)
    (arg4 : Memref sig .tc .vmem S256x2048 .bf16) (h4 : arg4.IsWhole) (arg5 : Memref sig .tc .vmem S256x2048 .f32) (h5 : arg5.IsWhole)
    (arg6 : Memref sig .tc .vmem S1x2x4x256x512 .f32) (h6 : arg6.IsWhole)
    (x0 : Vec F S2x4 .f32) (x1 x2 : Vec F S256x1024 .bf16) (x3 : Vec F S256x2048 .bf16) :
    out0_A_5 c i arg1 h1 arg2 h2 arg3 h3 arg4 h4 arg5 h5 arg6 h6 x0 x1 x2 x3 = sBlk x0 x2 x3 := by
  funext y
  unfold out0_A_5
  refine View.read_writes_apply_of_pieces VO0_5 _ (sBlk x0 x2 x3) _ ?_ y (cover0_A_5 c i arg1 h1 arg2 h2 arg3 h3 arg4 h4 arg5 h5 arg6 h6 x0 x1 x2 x3 y)
  rw [pieces_s]
  intro p hp
  rcases List.mem_cons.mp hp with rfl | hp
  · exact fun y => (sBlk_embB x0 x2 x3 3 ![0, 1, 3, 0, 0] rfl inb_S1x2x4x256x512_S1x1x1x256x512_0_1_3_0_0 y).symm
  rcases List.mem_cons.mp hp with rfl | hp
  · exact fun y => (sBlk_embF x0 x2 x3 3 ![0, 0, 3, 0, 0] rfl inb_S1x2x4x256x512_S1x1x1x256x512_0_0_3_0_0 y).symm
  rcases List.mem_cons.mp hp with rfl | hp
  · exact fun y => (sBlk_embB x0 x2 x3 2 ![0, 1, 2, 0, 0] rfl inb_S1x2x4x256x512_S1x1x1x256x512_0_1_2_0_0 y).symm
  rcases List.mem_cons.mp hp with rfl | hp
  · exact fun y => (sBlk_embF x0 x2 x3 2 ![0, 0, 2, 0, 0] rfl inb_S1x2x4x256x512_S1x1x1x256x512_0_0_2_0_0 y).symm
  rcases List.mem_cons.mp hp with rfl | hp
  · exact fun y => (sBlk_embB x0 x2 x3 1 ![0, 1, 1, 0, 0] rfl inb_S1x2x4x256x512_S1x1x1x256x512_0_1_1_0_0 y).symm
  rcases List.mem_cons.mp hp with rfl | hp
  · exact fun y => (sBlk_embF x0 x2 x3 1 ![0, 0, 1, 0, 0] rfl inb_S1x2x4x256x512_S1x1x1x256x512_0_0_1_0_0 y).symm
  rcases List.mem_cons.mp hp with rfl | hp
  · exact fun y => (sBlk_embB x0 x2 x3 0 ![0, 1, 0, 0, 0] rfl inb_S1x2x4x256x512_S1x1x1x256x512_0_1_0_0_0 y).symm
  rcases List.mem_cons.mp hp with rfl | hp
  · exact fun y => (sBlk_embF x0 x2 x3 0 ![0, 0, 0, 0, 0] rfl inb_S1x2x4x256x512_S1x1x1x256x512_0_0_0_0_0 y).symm
  exact absurd hp List.not_mem_nil

end Cert.Proof.Ret

end
-- ==== Proof.RetRun.lean ====
/- The two result arrays of the retention kernel as functions of the argument arrays. Grid point `t` works on sequence `t`:
   its query, key and value blocks are rows `256 t …` of the projection at columns 0, 1024 and 2048, and its output blocks
   are sequence `t` of the results. So the results are `outO` and `outS`, the slabs of each sequence and head. -/
module

public import proofs.«01_k».proof.Proof.RetOut

@[expose] public section

noncomputable section

namespace Cert.Proof.Ret

open Cert.KernelIdeal Cert.KernelIdeal.Gen Cert.KernelIdeal.Value Idealize.ShloMosaic Idealize.ShloMosaic.TcCoe Idealize.SL.Sem
open Idealize.ShloMosaic.Pointwise

variable {F : FTy → Type} [FloatOps F]

/-- The queries of sequence `b` and head `h`. -/
def qOf (P : Vec F S16384x6144 .bf16) (b : Fin 32) (h : Fin 4) : Vec F S256x256 .bf16 := fun j =>
  P (ix2 (n0 := 16384) (n1 := 6144) ⟨256 * b.val + (j 0).val, by have : (j 0).val < 256 := (j 0).isLt; omega⟩
    ⟨256 * h.val + (j 1).val, by have : (j 1).val < 256 := (j 1).isLt; omega⟩)

/-- The keys of sequence `b` and head `h`. -/
def kOf (P : Vec F S16384x6144 .bf16) (b : Fin 32) (h : Fin 4) : Vec F S256x256 .bf16 := fun j =>
  P (ix2 (n0 := 16384) (n1 := 6144) ⟨256 * b.val + (j 0).val, by have : (j 0).val < 256 := (j 0).isLt; omega⟩
    ⟨1024 + 256 * h.val + (j 1).val, by have : (j 1).val < 256 := (j 1).isLt; omega⟩)

/-- The values of sequence `b` and head `h`. -/
def vOf (P : Vec F S16384x6144 .bf16) (b : Fin 32) (h : Fin 4) : Vec F S256x512 .bf16 := fun j =>
  P (ix2 (n0 := 16384) (n1 := 6144) ⟨256 * b.val + (j 0).val, by have : (j 0).val < 256 := (j 0).isLt; omega⟩
    ⟨2048 + 512 * h.val + (j 1).val, by have : (j 1).val < 512 := (j 1).isLt; omega⟩)

/-- The mixed values: row `256 b + n`, column `512 h + e`. -/
def outO (P : Vec F S16384x6144 .bf16) (W : Vec F S2x4 .f32) : Vec F S8192x2048 .f32 := fun y =>
  let b : Fin 32 := ⟨(y 0).val / 256, by have : (y 0).val < 8192 := (y 0).isLt; omega⟩
  let h : Fin 4 := ⟨(y 1).val / 512, by have : (y 1).val < 2048 := (y 1).isLt; omega⟩
  headO (W (ix2 (n0 := 2) (n1 := 4) 0 h)) (W (ix2 (n0 := 2) (n1 := 4) 1 h)) (qOf P b h) (kOf P b h) (vOf P b h)
    (ix2 (n0 := 256) (n1 := 512) ⟨(y 0).val % 256, Nat.mod_lt _ (by decide)⟩ ⟨(y 1).val % 512, Nat.mod_lt _ (by decide)⟩)

/-- The states: per sequence, direction and head. -/
def outS (P : Vec F S16384x6144 .bf16) (W : Vec F S2x4 .f32) : Vec F S32x2x4x256x512 .f32 := fun y =>
  let b : Fin 32 := y 0
  let h : Fin 4 := y 2
  let z : S1x1x1x256x512.Idx := ix5 (n0 := 1) (n1 := 1) (n2 := 1) (n3 := 256) (n4 := 512) 0 0 0 (y 3) (y 4)
  if (y 1).val = 0 then headF (W (ix2 (n0 := 2) (n1 := 4) 0 h)) (kOf P b h) (vOf P b h) z
  else headB (W (ix2 (n0 := 2) (n1 := 4) 1 h)) (kOf P b h) (vOf P b h) z

variable (m : (ℓ : Loc nD τ sig) → Buf (Elt F) ℓ) (ρ : Dev nD → PrngReg)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = t.val ∧ win0_3.index t (1 : Fin 2) = 1 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 5) = t.val ∧ win0_5.index t (1 : Fin 5) = 0
    ∧ win0_5.index t (2 : Fin 5) = 0 ∧ win0_5.index t (3 : Fin 5) = 0 ∧ win0_5.index t (4 : Fin 5) = 0 :=
  (by decide +kernel : ∀ t : Fin grid0.N, _)

theorem t_lt (t : Fin cfg0.N) : t.val < 32 := t.isLt

/-- The decay words' block is the whole array. -/
theorem iblk0_eq (c : Dev nD) (t : Fin cfg0.N) : iblk m c 0 t = V m c main_arg1 := by
  obtain ⟨e0, e1⟩ := idx0 t
  funext j
  refine congrArg (V m c main_arg1) (funext fun a => Fin.ext ?_)
  match a with
  | ⟨0, _⟩ => show win0_0.index t (0 : Fin 2) * 2 + 1 * (j 0).val = (j 0).val; omega
  | ⟨1, _⟩ => show win0_0.index t (1 : Fin 2) * 4 + 1 * (j 1).val = (j 1).val; omega

theorem cols1_eq (c : Dev nD) (t : Fin cfg0.N) (h : Fin 4) :
    colsK (iblk m c 1 t) h = qOf (V m c main_arg0) ⟨t.val, t_lt t⟩ h := by
  obtain ⟨e0, e1⟩ := idx1 t
  funext j
  refine congrArg (V m c main_arg0) (funext fun a => Fin.ext ?_)
  match a with
  | ⟨0, _⟩ => show win0_1.index t (0 : Fin 2) * 256 + 1 * (j 0).val = 256 * t.val + (j 0).val; omega
  | ⟨1, _⟩ => show win0_1.index t (1 : Fin 2) * 1024 + 1 * (256 * h.val + (j 1).val) = 256 * h.val + (j 1).val; omega

theorem cols2_eq (c : Dev nD) (t : Fin cfg0.N) (h : Fin 4) :
    colsK (iblk m c 2 t) h = kOf (V m c main_arg0) ⟨t.val, t_lt t⟩ h := by
  obtain ⟨e0, e1⟩ := idx2 t
  funext j
  refine congrArg (V m c main_arg0) (funext fun a => Fin.ext ?_)
  match a with
  | ⟨0, _⟩ => show win0_2.index t (0 : Fin 2) * 256 + 1 * (j 0).val = 256 * t.val + (j 0).val; omega
  | ⟨1, _⟩ => show win0_2.index t (1 : Fin 2) * 1024 + 1 * (256 * h.val + (j 1).val) = 1024 + 256 * h.val + (j 1).val; omega

theorem cols3_eq (c : Dev nD) (t : Fin cfg0.N) (h : Fin 4) :
    colsV (iblk m c 3 t) h = vOf (V m c main_arg0) ⟨t.val, t_lt t⟩ h := by
  obtain ⟨e0, e1⟩ := idx3 t
  funext j
  refine congrArg (V m c main_arg0) (funext fun a => Fin.ext ?_)
  match a with
  | ⟨0, _⟩ => show win0_3.index t (0 : Fin 2) * 256 + 1 * (j 0).val = 256 * t.val + (j 0).val; omega
  | ⟨1, _⟩ => show win0_3.index t (1 : Fin 2) * 2048 + 1 * (512 * h.val + (j 1).val) = 2048 + 512 * h.val + (j 1).val; omega

/-- Where an index of a grid point's block of mixed values lies in the array. -/
theorem emb4 (t : Fin cfg0.N) (j : S256x2048.Idx) : ((cfg0.win 4).blk t).view.emb j
    = ix2 (n0 := 8192) (n1 := 2048) ⟨256 * t.val + (j 0).val, by have : (j 0).val < 256 := (j 0).isLt; have := t_lt t; omega⟩ (j 1) := by
  obtain ⟨e0, e1⟩ := idx4 t
  funext a; apply Fin.ext
  match a with
  | ⟨0, _⟩ => show win0_4.index t (0 : Fin 2) * 256 + 1 * (j 0).val = 256 * t.val + (j 0).val; omega
  | ⟨1, _⟩ => show win0_4.index t (1 : Fin 2) * 2048 + 1 * (j 1).val = (j 1).val; omega

/-- Where an index of a grid point's block of states lies in the array. -/
theorem emb5 (t : Fin cfg0.N) (j : S1x2x4x256x512.Idx) : ((cfg0.win 5).blk t).view.emb j
    = ix5 (n0 := 32) (n1 := 2) (n2 := 4) (n3 := 256) (n4 := 512) ⟨t.val, t_lt t⟩ (j 1) (j 2) (j 3) (j 4) := by
  obtain ⟨e0, e1, e2, e3, e4⟩ := idx5 t
  have h0 : (j 0).val < 1 := (j 0).isLt
  funext a; apply Fin.ext
  match a with
  | ⟨0, _⟩ => show win0_5.index t (0 : Fin 5) * 1 + 1 * (j 0).val = t.val; omega
  | ⟨1, _⟩ => show win0_5.index t (1 : Fin 5) * 2 + 1 * (j 1).val = (j 1).val; omega
  | ⟨2, _⟩ => show win0_5.index t (2 : Fin 5) * 4 + 1 * (j 2).val = (j 2).val; omega
  | ⟨3, _⟩ => show win0_5.index t (3 : Fin 5) * 256 + 1 * (j 3).val = (j 3).val; omega
  | ⟨4, _⟩ => show win0_5.index t (4 : Fin 5) * 512 + 1 * (j 4).val = (j 4).val; omega

/-- What a grid point writes back is its block of `outO`. -/
theorem flushed4_eq (c : Dev nD) (t : Fin cfg0.N) :
    (dats m 0 c).flushed 4 t = ((cfg0.win 4).blk t).view.read (Elt F) (outO (V m c main_arg0) (V m c main_arg1)) := by
  rw [flushed4_A, out_o]
  funext j
  show oBlk (iblk m c 0 t) (iblk m c 1 t) (iblk m c 2 t) (iblk m c 3 t) j
    = outO (V m c main_arg0) (V m c main_arg1) (((cfg0.win 4).blk t).view.emb j)
  have h0 : (j 0).val < 256 := (j 0).isLt
  have et : (⟨(256 * t.val + (j 0).val) / 256, by have := t_lt t; omega⟩ : Fin 32) = ⟨t.val, t_lt t⟩ :=
    Fin.ext (show (256 * t.val + (j 0).val) / 256 = t.val by omega)
  have ej : (⟨(256 * t.val + (j 0).val) % 256, Nat.mod_lt _ (by decide)⟩ : Fin 256) = j 0 :=
    Fin.ext (show (256 * t.val + (j 0).val) % 256 = (j 0).val by omega)
  rw [emb4]
  unfold oBlk outO
  simp only [iblk0_eq, cols1_eq, cols2_eq, cols3_eq]
  show _ = headO _ _ (qOf _ ⟨(256 * t.val + (j 0).val) / 256, _⟩ _) (kOf _ ⟨(256 * t.val + (j 0).val) / 256, _⟩ _)
    (vOf _ ⟨(256 * t.val + (j 0).val) / 256, _⟩ _) (ix2 ⟨(256 * t.val + (j 0).val) % 256, _⟩ _)
  rw [et, ej]
  rfl

/-- What a grid point writes back is its block of `outS`. -/
theorem flushed5_eq (c : Dev nD) (t : Fin cfg0.N) :
    (dats m 0 c).flushed 5 t = ((cfg0.win 5).blk t).view.read (Elt F) (outS (V m c main_arg0) (V m c main_arg1)) := by
  rw [flushed5_A, out_s]
  refine funext fun (j : S1x2x4x256x512.Idx) => ?_
  show sBlk (iblk m c 0 t) (iblk m c 2 t) (iblk m c 3 t) j
    = outS (V m c main_arg0) (V m c main_arg1) (((cfg0.win 5).blk t).view.emb j)
  rw [emb5]
  unfold sBlk outS
  have e2 := cols2_eq m c t (j 2)
  have e3 := cols3_eq m c t (j 2)
  have e0 := iblk0_eq m c t
  show (if (j 1).val = 0 then headF (iblk m c 0 t (ix2 0 (j 2))) (colsK (iblk m c 2 t) (j 2)) (colsV (iblk m c 3 t) (j 2)) _
    else headB (iblk m c 0 t (ix2 1 (j 2))) (colsK (iblk m c 2 t) (j 2)) (colsV (iblk m c 3 t) (j 2)) _) = _
  erw [e0, e2, e3]
  rfl

/-- Every index of the mixed values is in the block of its sequence's grid point. -/
theorem covered4 (i : S8192x2048.Idx) :
    ∃ t : Fin cfg0.N, (cfg0.win 4).flush t = true ∧ i ∈ ((cfg0.win 4).blk t).view.set := by
  have h0 : (i 0).val < 8192 := (i 0).isLt
  refine ⟨(⟨(i 0).val / 256, show (i 0).val / 256 < 32 by omega⟩ : Fin cfg0.N), flush0_4 _, ?_⟩
  have h := ((cfg0.win 4).blk (⟨(i 0).val / 256, show (i 0).val / 256 < 32 by omega⟩ : Fin cfg0.N)).view.emb_mem_set
    (ix2 (n0 := 256) (n1 := 2048) ⟨(i 0).val % 256, Nat.mod_lt _ (by decide)⟩ (i 1) : S256x2048.Idx)
  rw [emb4] at h
  refine (congrArg (· ∈ _) (funext fun a => Fin.ext ?_)).mp h
  match a with
  | ⟨0, _⟩ => show 256 * ((i 0).val / 256) + (i 0).val % 256 = (i 0).val; omega
  | ⟨1, _⟩ => rfl

/-- Every index of the states is in the block of its sequence's grid point. -/
theorem covered5 (i : S32x2x4x256x512.Idx) :
    ∃ t : Fin cfg0.N, (cfg0.win 5).flush t = true ∧ i ∈ ((cfg0.win 5).blk t).view.set := by
  refine ⟨(⟨(i 0).val, (i 0).isLt⟩ : Fin cfg0.N), flush0_5 _, ?_⟩
  have h := ((cfg0.win 5).blk (⟨(i 0).val, (i 0).isLt⟩ : Fin cfg0.N)).view.emb_mem_set
    (ix5 (n0 := 1) (n1 := 2) (n2 := 4) (n3 := 256) (n4 := 512) 0 (i 1) (i 2) (i 3) (i 4) : S1x2x4x256x512.Idx)
  rw [emb5] at h
  refine (congrArg (· ∈ _) (funext fun a => Fin.ext ?_)).mp h
  match a with
  | ⟨0, _⟩ => rfl
  | ⟨1, _⟩ => rfl
  | ⟨2, _⟩ => rfl
  | ⟨3, _⟩ => rfl
  | ⟨4, _⟩ => rfl

/-- The mixed values after the run. -/
theorem final4 (c : Dev nD) : (dats m 0 c).arrAt 4 cfg0.N
    = outO (m ((c : Thread nD τ).loc main_arg0)) (m ((c : Thread nD τ).loc main_arg1)) :=
  ((dats m 0 c).arrAt_eq_of_cover 4 (outO (V m c main_arg0) (V m c main_arg1)) (fun t _ => flushed4_eq m c t) covered4).trans
    (by rw [V_main_arg0, V_main_arg1])

/-- The states after the run. -/
theorem final5 (c : Dev nD) : (dats m 0 c).arrAt 5 cfg0.N
    = outS (m ((c : Thread nD τ).loc main_arg0)) (m ((c : Thread nD τ).loc main_arg1)) :=
  ((dats m 0 c).arrAt_eq_of_cover 5 (outS (V m c main_arg0) (V m c main_arg1)) (fun t _ => flushed5_eq m c t) covered5).trans
    (by rw [V_main_arg0, V_main_arg1])

/-- The kernel's run with its results as functions of its arguments. -/
theorem run : θ_run defs (onTc (τ := τ) (main (F := F))) ⟨m, fun _ => 0, ρ⟩ fun r => ∀ c : Dev nD,
      r.2.mem ((c : Thread nD τ).loc main_v0_0)
        = outO (m ((c : Thread nD τ).loc main_arg0)) (m ((c : Thread nD τ).loc main_arg1))
      ∧ r.2.mem ((c : Thread nD τ).loc main_v0_1)
        = outS (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final4 m c), (h c).2.1.trans (final5 m c), (h c).2.2⟩) (run_blocks m ρ)

end Cert.Proof.Ret

end
-- ==== Proof.RetPow.lean ====
/- The decay factors. A decay word `a` stands for the rate `rate a = exp (-|a|)`, a real number in [0, 1] for every
   extended real `a` (0 for an infinite word); a factor `exp (-|n a|)`, as the kernel spells it, or `exp (n · -|a|)`, as the
   reference does, is `rate a ^ n`. -/
module

public import Idealize.ShloMosaic.Lib.Pointwise
public import Idealize.ShloMosaic.PureOps.Ideal.Laws

@[expose] public section

noncomputable section

namespace Cert.Proof.Ret

open Idealize.ShloMosaic

/-- The rate a decay word stands for. -/
def rate (a : EReal) : ℝ := (Ideal.exp (-(max a (-a)))).toReal

theorem max_neg_coe (r : ℝ) : max (r : EReal) (-(r : EReal)) = ((|r| : ℝ) : EReal) := by
  rw [← EReal.coe_neg, abs_eq_max_neg]
  exact (EReal.coe_strictMono.monotone.map_max).symm

theorem rate_coe (r : ℝ) : rate (r : EReal) = Real.exp (-|r|) := by
  unfold rate
  rw [max_neg_coe, ← EReal.coe_neg, Ideal.exp_coe, EReal.toReal_coe]

theorem rate_top : rate ⊤ = 0 := by
  unfold rate; simp

theorem rate_bot : rate ⊥ = 0 := by
  unfold rate; simp

/-- The kernel's spelling of a factor. -/
theorem exp_abs_mul (a : EReal) (n : ℕ) :
    Ideal.exp (0 - max (((n : ℝ) : EReal) * a) (-(((n : ℝ) : EReal) * a))) = ((rate a ^ n : ℝ) : EReal) := by
  rw [zero_sub]
  rcases Nat.eq_zero_or_pos n with rfl | hn
  · rw [Nat.cast_zero, EReal.coe_zero, zero_mul, pow_zero]
    simp only [neg_zero, max_self]
    exact (Ideal.exp_coe (r := 0)).trans (by rw [Real.exp_zero])
  have hp : (0 : EReal) < ((n : ℝ) : EReal) := by exact_mod_cast hn
  induction a with
  | bot => rw [EReal.mul_bot_of_pos hp, rate_bot, zero_pow hn.ne']; simp
  | top => rw [EReal.mul_top_of_pos hp, rate_top, zero_pow hn.ne']; simp
  | coe r =>
    rw [← EReal.coe_mul, max_neg_coe, ← EReal.coe_neg, Ideal.exp_coe, rate_coe, ← Real.exp_nat_mul, abs_mul, Nat.abs_cast, mul_neg]

/-- The reference's spelling of a factor. -/
theorem exp_mul_neg_abs (a : EReal) (n : ℕ) :
    Ideal.exp (((n : ℝ) : EReal) * -(max a (-a))) = ((rate a ^ n : ℝ) : EReal) := by
  rcases Nat.eq_zero_or_pos n with rfl | hn
  · rw [Nat.cast_zero, EReal.coe_zero, zero_mul, pow_zero]
    exact (Ideal.exp_coe (r := 0)).trans (by rw [Real.exp_zero])
  have hp : (0 : EReal) < ((n : ℝ) : EReal) := by exact_mod_cast hn
  induction a with
  | bot => rw [rate_bot, zero_pow hn.ne', EReal.neg_bot, max_eq_right bot_le, EReal.neg_top, EReal.mul_bot_of_pos hp]; simp
  | top => rw [rate_top, zero_pow hn.ne', EReal.neg_top, max_eq_left bot_le, EReal.neg_top, EReal.mul_bot_of_pos hp]; simp
  | coe r =>
    rw [max_neg_coe, ← EReal.coe_neg, ← EReal.coe_mul, Ideal.exp_coe, rate_coe, ← Real.exp_nat_mul]

end Cert.Proof.Ret

end
-- ==== Proof.RetHead.lean ====
/- The slabs of one head over the reals: with real queries, keys and values, and any decay words, the mixed values and the
   two states are the finite sums below, in which a pair of positions `m ≤ n` has the weight `rate ^ (n - m)`. -/
module

public import proofs.«01_k».proof.Proof.RetRun
public import proofs.«01_k».proof.Proof.RetPow

@[expose] public section

noncomputable section

namespace Cert.Proof.Ret

open Cert.KernelIdeal Cert.KernelIdeal.Gen Idealize.ShloMosaic
open Idealize.ShloMosaic.Pointwise

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The key scale, 1/16. -/
theorem ofBits_sixteenth : Ideal.ofBits .f32 0x3D800000#32 = ((1 / 16 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

/-- The difference of two positions as the kernel computes it, in 32-bit words. -/
theorem sitofp_sub (n m : Fin 256) :
    FloatOps.sitofp (F := Ideal) .f32 (IntOp.subi (BitVec.ofNat 32 n.val) (BitVec.ofNat 32 m.val)) = (((n.val : ℝ) - (m.val : ℝ) : ℝ) : EReal) := by
  have h : (BitVec.ofNat 32 n.val - BitVec.ofNat 32 m.val).toInt = (n.val : ℤ) - (m.val : ℤ) := by
    have hn := n.isLt
    have hm := m.isLt
    rw [BitVec.toInt_sub, BitVec.toInt_ofNat', BitVec.toInt_ofNat']
    simp only [Int.bmod_def]
    omega
  show (((BitVec.ofNat 32 n.val - BitVec.ofNat 32 m.val).toInt : ℝ) : EReal) = _
  rw [h]; push_cast; rfl

theorem sitofp_pos (n : Fin 256) : FloatOps.sitofp (F := Ideal) .f32 (BitVec.ofNat 32 n.val) = ((n.val : ℝ) : EReal) := by
  have h : (BitVec.ofNat 32 n.val).toInt = (n.val : ℤ) := by
    have hn := n.isLt
    rw [BitVec.toInt_ofNat']
    simp only [Int.bmod_def]
    omega
  show (((BitVec.ofNat 32 n.val).toInt : ℝ) : EReal) = _
  rw [h]; push_cast; rfl

/-- The weight of position `m` at position `n` going forward: `r ^ (n - m)`, and 0 for a later position. -/
def wt (r : ℝ) (n m : ℕ) : ℝ := if m ≤ n then r ^ (n - m) else 0

/-- The kernel's masked forward factor. -/
theorem masked_factor (a : EReal) (n m : ℕ) :
    (if (0 : EReal) ≤ (((n : ℝ) - (m : ℝ) : ℝ) : EReal) then
        Ideal.exp (0 - FloatOps.absf (F := Ideal) (φ := .f32) (max (((n : ℝ) - (m : ℝ) : ℝ) : EReal) 0 * a)) else 0)
      = ((wt (rate a) n m : ℝ) : EReal) := by
  unfold wt
  by_cases h : m ≤ n
  · have e : ((n : ℝ) - (m : ℝ)) = ((n - m : ℕ) : ℝ) := by rw [Nat.cast_sub h]
    have p : (0 : EReal) ≤ (((n - m : ℕ) : ℝ) : EReal) := by exact_mod_cast Nat.zero_le (n - m)
    rw [e, if_pos p, if_pos h, max_eq_left p]
    exact exp_abs_mul a (n - m)
  · have p : ¬ (0 : EReal) ≤ (((n : ℝ) - (m : ℝ) : ℝ) : EReal) := by
      rw [not_le]
      have : ((n : ℝ) - (m : ℝ)) < 0 := by
        have : (n : ℝ) < m := by exact_mod_cast (not_le.mp h)
        linarith
      exact_mod_cast this
    rw [if_neg p, if_neg h, EReal.coe_zero]

/-- Its masked backward factor, the same with the positions exchanged. -/
theorem masked_factor' (b : EReal) (n m : ℕ) :
    (if (((n : ℝ) - (m : ℝ) : ℝ) : EReal) ≤ 0 then
        Ideal.exp (0 - FloatOps.absf (F := Ideal) (φ := .f32) (max (0 - (((n : ℝ) - (m : ℝ) : ℝ) : EReal)) 0 * b)) else 0)
      = ((wt (rate b) m n : ℝ) : EReal) := by
  have e : (0 : EReal) - (((n : ℝ) - (m : ℝ) : ℝ) : EReal) = (((m : ℝ) - (n : ℝ) : ℝ) : EReal) := by
    rw [zero_sub, ← EReal.coe_neg]; congr 1; ring
  have q : ((((n : ℝ) - (m : ℝ) : ℝ) : EReal) ≤ 0) = ((0 : EReal) ≤ (((m : ℝ) - (n : ℝ) : ℝ) : EReal)) := by
    have : ((n : ℝ) - (m : ℝ) ≤ 0) = (0 ≤ (m : ℝ) - (n : ℝ)) := by rw [sub_nonpos, sub_nonneg]
    rw [← EReal.coe_zero, EReal.coe_le_coe_iff, EReal.coe_le_coe_iff, this]
  rw [← masked_factor b m n, e]
  simp only [q]

section
variable (Q K : Fin 256 → Fin 256 → ℝ) (V : Fin 256 → Fin 512 → ℝ) (q k : Vec Ideal S256x256 .bf16) (v : Vec Ideal S256x512 .bf16)

/-- The mixed values of one head. -/
theorem headO_apply (a b : Ideal .f32) (hq : ∀ n d, q (ix2 n d) = ((Q n d : ℝ) : EReal)) (hk : ∀ n d, k (ix2 n d) = ((K n d : ℝ) : EReal))
    (hv : ∀ n e, v (ix2 n e) = ((V n e : ℝ) : EReal)) (n : Fin 256) (e : Fin 512) :
    headO (F := Ideal) a b q k v (ix2 n e)
      = ((∑ m : Fin 256, (∑ d, Q n d * (K m d * (1 / 16))) * (wt (rate a) n m + wt (rate b) m n) * V m e : ℝ) : EReal) := by
  unfold headO
  unfold_payloads
  pointwise [dot_S256x256_S256x256_S256x256_1_1_0_0_n_n, dot_S256x256_S256x512_S256x512_1_0_0_1_n_n]
  simp only [sitofp_sub, masked_factor, masked_factor', hq, hk, hv, ofBits_sixteenth, ← EReal.coe_mul, ← EReal.coe_add, ← coe_sum]

/-- The forward state of one head. -/
theorem headF_apply (a : Ideal .f32) (hk : ∀ n d, k (ix2 n d) = ((K n d : ℝ) : EReal))
    (hv : ∀ n e, v (ix2 n e) = ((V n e : ℝ) : EReal)) (d : Fin 256) (e : Fin 512) :
    headF (F := Ideal) a k v (ix5 0 0 0 d e)
      = ((∑ m : Fin 256, K m d * (1 / 16) * rate a ^ (255 - m.val) * V m e : ℝ) : EReal) := by
  have key : ∀ m : Fin 256, Ideal.exp (0 - FloatOps.absf (F := Ideal) (φ := .f32) ((((255 : ℝ) : EReal) - ((m.val : ℝ) : EReal)) * a))
      = ((rate a ^ (255 - m.val) : ℝ) : EReal) := fun m => by
    have e : ((255 : ℝ) : EReal) - ((m.val : ℝ) : EReal) = (((255 - m.val : ℕ) : ℝ) : EReal) := by
      rw [← EReal.coe_sub, Nat.cast_sub (by have := m.isLt; omega)]; norm_num
    rw [e]
    exact exp_abs_mul a (255 - m.val)
  unfold headF
  unfold_payloads
  pointwise [dot_S256x256_S256x512_S256x512_0_0_1_1_n_n]
  simp only [sitofp_pos, ofBits_255, key, hk, hv, ofBits_sixteenth, ← EReal.coe_mul, ← EReal.coe_add, ← coe_sum]

/-- The backward state of one head. -/
theorem headB_apply (b : Ideal .f32) (hk : ∀ n d, k (ix2 n d) = ((K n d : ℝ) : EReal))
    (hv : ∀ n e, v (ix2 n e) = ((V n e : ℝ) : EReal)) (d : Fin 256) (e : Fin 512) :
    headB (F := Ideal) b k v (ix5 0 0 0 d e)
      = ((∑ m : Fin 256, K m d * (1 / 16) * rate b ^ m.val * V m e : ℝ) : EReal) := by
  have key : ∀ m : Fin 256, Ideal.exp (0 - FloatOps.absf (F := Ideal) (φ := .f32) (((m.val : ℝ) : EReal) * b))
      = ((rate b ^ m.val : ℝ) : EReal) := fun m => exp_abs_mul b m.val
  unfold headB
  unfold_payloads
  pointwise [dot_S256x256_S256x512_S256x512_0_0_1_1_n_n]
  simp only [sitofp_pos, key, hk, hv, ofBits_sixteenth, ← EReal.coe_mul, ← EReal.coe_add, ← coe_sum]

end

end Cert.Proof.Ret

end
-- ==== Proof.RetScan.lean ====
/- The reference's scan over the two halves of a block, read at an index, for real queries, keys and values: position `n` of
   a block takes `wt r n m` of every position `m` of it, and the state after the block is the sum with `r ^ (255 - m)`. -/
module

public import proofs.«01_k».proof.Proof.Gen.ReferenceIdeal.Read
public import proofs.«01_k».proof.Proof.RetHead

@[expose] public section

noncomputable section

namespace Cert.Proof.Ret

open Cert.ReferenceIdeal Cert.ReferenceIdeal.Read Idealize.ShloMosaic
open Idealize.ShloMosaic.Pointwise

theorem ofBits_127 : Ideal.ofBits .f32 0x42FE0000#32 = ((127 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem sitofp_pos' (n : Fin 128) : FloatOps.sitofp (F := Ideal) .f32 (BitVec.ofNat 32 n.val) = ((n.val : ℝ) : EReal) :=
  sitofp_pos ⟨n.val, by omega⟩

/-- The log of a head's decay. -/
theorem v14_apply (x1 : Vec Ideal S2x4 .f32) (h : Fin 4) :
    val_main_v14 (F := Ideal) x1 (ix1 h) = -(max (x1 (ix2 0 h)) (-(x1 (ix2 0 h)))) := by
  pointwise [val_main_v14, val_main_v13, val_main_v11, val_main_v10]
  rfl

/-- The decay of a head going forward. -/
abbrev rF (x1 : Vec Ideal S2x4 .f32) (h : Fin 4) : ℝ := rate (x1 (ix2 0 h))

/-- The weights inside one half. -/
theorem v31_apply (x1 : Vec Ideal S2x4 .f32) (h : Fin 4) (n m : Fin 128) :
    val_main_v31 (F := Ideal) x1 (ix3 h n m) = ((wt (rF x1 h) n.val m.val : ℝ) : EReal) := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_1, val_main_cst_2, val_main_cst_3, val_main_call0_v0, val_main_call0_v1, val_main_call1_v0, val_main_call1_v1, val_main_call1_v2]
  rw [v14_apply, sitofp_pos', sitofp_pos', ← EReal.coe_sub]
  unfold wt
  by_cases hm : m.val ≤ n.val
  · have e : ((n.val : ℝ) - (m.val : ℝ)) = ((n.val - m.val : ℕ) : ℝ) := by rw [Nat.cast_sub hm]
    have p : (0 : EReal) ≤ (((n.val - m.val : ℕ) : ℝ) : EReal) := by exact_mod_cast Nat.zero_le (n.val - m.val)
    rw [e, if_pos p, if_pos p, if_pos hm]
    exact exp_mul_neg_abs _ (n.val - m.val)
  · have p : ¬ (0 : EReal) ≤ (((n.val : ℝ) - (m.val : ℝ) : ℝ) : EReal) := by
      rw [not_le]
      have : ((n.val : ℝ) - (m.val : ℝ)) < 0 := by
        have : (n.val : ℝ) < m.val := by exact_mod_cast (not_le.mp hm)
        linarith
      exact_mod_cast this
    rw [if_neg p, if_neg hm, EReal.coe_zero]
    exact Ideal.ofBits_zero_f32

/-- What the state before a half is worth at each of its positions. -/
theorem v39_apply (x1 : Vec Ideal S2x4 .f32) (n : Fin 128) (h : Fin 4) :
    val_main_v39 (F := Ideal) x1 (ix2 n h) = ((rF x1 h ^ (n.val + 1) : ℝ) : EReal) := by
  pointwise [val_main_v39, val_main_v38, val_main_v37, val_main_v36, val_main_v35, val_main_v34, val_main_v33, val_main_v32, val_main_v15, val_main_cst_4]
  have e : ((n.val : ℝ) : EReal) + 1 = (((n.val + 1 : ℕ) : ℝ) : EReal) := by push_cast; rfl
  rw [v14_apply, sitofp_pos', e]
  exact exp_mul_neg_abs _ (n.val + 1)

/-- What a position of a half is worth at its end. -/
theorem v47_apply (x1 : Vec Ideal S2x4 .f32) (n : Fin 128) (h : Fin 4) :
    val_main_v47 (F := Ideal) x1 (ix2 n h) = ((rF x1 h ^ (127 - n.val) : ℝ) : EReal) := by
  pointwise [val_main_v47, val_main_v46, val_main_v45, val_main_v44, val_main_v43, val_main_v42, val_main_v41, val_main_v40, val_main_v15, val_main_cst_5]
  have e : ((127 : ℝ) : EReal) - ((n.val : ℝ) : EReal) = (((127 - n.val : ℕ) : ℝ) : EReal) := by
    rw [← EReal.coe_sub, Nat.cast_sub (by have := n.isLt; omega)]; norm_num
  rw [v14_apply, sitofp_pos', ofBits_127, e]
  exact exp_mul_neg_abs _ (127 - n.val)

/-- What the state before a half is worth at its end. -/
theorem v50_apply (x1 : Vec Ideal S2x4 .f32) (h : Fin 4) :
    val_main_v50 (F := Ideal) x1 (ix1 h) = ((rF x1 h ^ 128 : ℝ) : EReal) := by
  pointwise [val_main_v50, val_main_v49, val_main_v48, val_main_cst_6]
  rw [v14_apply, ofBits_128]
  exact exp_mul_neg_abs _ 128

section
variable (x0 : Vec Ideal S16384x6144 .bf16) (x1 : Vec Ideal S2x4 .f32)
  (Q K : Fin 32 → Fin 256 → Fin 4 → Fin 256 → ℝ) (V : Fin 32 → Fin 256 → Fin 4 → Fin 512 → ℝ)

theorem v65_apply (hq : ∀ b n h d, val_main_v3 (F := Ideal) x0 (ix4 b n h d) = ((Q b n h d : ℝ) : EReal))
    (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (n : Fin 128) (h : Fin 4) (e : Fin 512) :
    val_main_v65 (F := Ideal) x0 x1 (ix4 b n h e)
      = ((∑ m : Fin 128, V b ⟨m.val, by omega⟩ h e * ((∑ d, Q b ⟨n.val, by omega⟩ h d * K b ⟨m.val, by omega⟩ h d) * wt (rF x1 h) n m) : ℝ) : EReal) := by
  pointwise [val_main_v65, val_main_v64, val_main_v63, val_main_v62, val_main_v61, val_main_v60, val_main_v59, val_main_v58, val_main_v57, val_main_v56, val_main_v55, val_main_v54, val_main_v53, val_main_v52, val_main_v51, val_main_v12, val_main_cst_0, dot_S32x128x4x256_S32x128x4x256_S32x4x128x128_3_3_1_1_02_02, dot_S32x128x4x512_S32x4x128x128_S32x4x512x128_1_3_3_2_02_01, dot_S32x4x256x512_S32x128x4x256_S32x4x512x128_2_3_3_1_01_02]
  simp only [hq, hk, hv, v31_apply, v39_apply, zero_mul, Finset.sum_const_zero, add_zero, ← EReal.coe_mul, ← EReal.coe_add, ← coe_sum]

/-- The state after the first half. -/
theorem v73_apply (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (h : Fin 4) (d : Fin 256) (e : Fin 512) :
    val_main_v73 (F := Ideal) x0 x1 (ix4 b h d e)
      = ((∑ m : Fin 128, K b ⟨m.val, by omega⟩ h d * rF x1 h ^ (127 - m.val) * V b ⟨m.val, by omega⟩ h e : ℝ) : EReal) := by
  pointwise [val_main_v73, val_main_v72, val_main_v71, val_main_v70, val_main_v69, val_main_v68, val_main_v67, val_main_v66, val_main_v53, val_main_v52, val_main_v12, val_main_cst_0, dot_S32x128x4x256_S32x128x4x512_S32x4x256x512_1_1_3_3_02_02]
  simp only [hk, hv, v47_apply, v50_apply, zero_mul, zero_add, ← EReal.coe_mul, ← EReal.coe_add, ← coe_sum]

theorem v88_apply (hq : ∀ b n h d, val_main_v3 (F := Ideal) x0 (ix4 b n h d) = ((Q b n h d : ℝ) : EReal))
    (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (n : Fin 128) (h : Fin 4) (e : Fin 512) :
    val_main_v88 (F := Ideal) x0 x1 (ix4 b n h e)
      = ((∑ m : Fin 128, V b ⟨128 + m.val, by omega⟩ h e * ((∑ d, Q b ⟨128 + n.val, by omega⟩ h d * K b ⟨128 + m.val, by omega⟩ h d) * wt (rF x1 h) n m)
          + (∑ d, (∑ m : Fin 128, K b ⟨m.val, by omega⟩ h d * rF x1 h ^ (127 - m.val) * V b ⟨m.val, by omega⟩ h e) * Q b ⟨128 + n.val, by omega⟩ h d) * rF x1 h ^ (n.val + 1) : ℝ) : EReal) := by
  pointwise [val_main_v88, val_main_v87, val_main_v86, val_main_v85, val_main_v84, val_main_v83, val_main_v82, val_main_v81, val_main_v80, val_main_v79, val_main_v78, val_main_v77, val_main_v76, val_main_v75, val_main_v74, dot_S32x128x4x256_S32x128x4x256_S32x4x128x128_3_3_1_1_02_02, dot_S32x128x4x512_S32x4x128x128_S32x4x512x128_1_3_3_2_02_01, dot_S32x4x256x512_S32x128x4x256_S32x4x512x128_2_3_3_1_01_02]
  simp only [hq, hk, hv, v31_apply, v39_apply, v73_apply x0 x1 K V hk hv, ← EReal.coe_mul, ← EReal.coe_add, ← coe_sum]

/-- The state after the block, from that after its first half. -/
theorem v96_step (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (h : Fin 4) (d : Fin 256) (e : Fin 512) :
    val_main_v96 (F := Ideal) x0 x1 (ix4 b h d e)
      = (((∑ m : Fin 128, K b ⟨m.val, by omega⟩ h d * rF x1 h ^ (127 - m.val) * V b ⟨m.val, by omega⟩ h e) * rF x1 h ^ 128
          + ∑ m : Fin 128, K b ⟨128 + m.val, by omega⟩ h d * rF x1 h ^ (127 - m.val) * V b ⟨128 + m.val, by omega⟩ h e : ℝ) : EReal) := by
  pointwise [val_main_v96, val_main_v95, val_main_v94, val_main_v93, val_main_v92, val_main_v91, val_main_v90, val_main_v89, val_main_v76, val_main_v75, dot_S32x128x4x256_S32x128x4x512_S32x4x256x512_1_1_3_3_02_02]
  simp only [hk, hv, v47_apply, v50_apply, v73_apply x0 x1 K V hk hv, ← EReal.coe_mul, ← EReal.coe_add, ← coe_sum]

/-- A sum over the 256 positions of a block is the sum over its two halves. -/
theorem sum_halves (f : Fin 256 → ℝ) : ∑ m, f m = ∑ m : Fin 128, f ⟨m.val, by omega⟩ + ∑ m : Fin 128, f ⟨128 + m.val, by omega⟩ :=
  Fin.sum_univ_add (a := 128) (b := 128) f

/-- The state after the block, as one sum. -/
theorem v96_apply (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (h : Fin 4) (d : Fin 256) (e : Fin 512) :
    val_main_v96 (F := Ideal) x0 x1 (ix4 b h d e) = ((∑ m : Fin 256, K b m h d * rF x1 h ^ (255 - m.val) * V b m h e : ℝ) : EReal) := by
  rw [v96_step x0 x1 K V hk hv, sum_halves, Finset.sum_mul]
  refine congrArg _ (congrArg₂ (· + ·) ?_ ?_)
  · refine Finset.sum_congr rfl fun m _ => ?_
    have : 255 - m.val = (127 - m.val) + 128 := by omega
    simp only [this, pow_add]; ring
  · refine Finset.sum_congr rfl fun m _ => ?_
    have : 255 - (128 + m.val) = 127 - m.val := by omega
    simp only [this]

/-- The mixed values of the block, as one sum. -/
theorem v97_apply (hq : ∀ b n h d, val_main_v3 (F := Ideal) x0 (ix4 b n h d) = ((Q b n h d : ℝ) : EReal))
    (hk : ∀ b n h d, val_main_v7 (F := Ideal) x0 (ix4 b n h d) = ((K b n h d : ℝ) : EReal))
    (hv : ∀ b n h e, val_main_v9 (F := Ideal) x0 (ix4 b n h e) = ((V b n h e : ℝ) : EReal))
    (b : Fin 32) (n : Fin 256) (h : Fin 4) (e : Fin 512) :
    val_main_v97 (F := Ideal) x0 x1 (ix4 b n h e)
      = ((∑ m : Fin 256, (∑ d, Q b n h d * K b m h d) * wt (rF x1 h) n m * V b m h e : ℝ) : EReal) := by
  pointwise [val_main_v97]
  split
  · rename_i hn
    rw [v65_apply x0 x1 Q K V hq hk hv, sum_halves]
    have z : ∀ m : Fin 128, wt (rF x1 h) n.val (128 + m.val) = 0 := fun m => if_neg (by omega)
    simp only [z, mul_zero, zero_mul, Finset.sum_const_zero, add_zero]
    congr 1
    exact Finset.sum_congr rfl fun m _ => by ring
  · rename_i hn
    obtain ⟨t, ht⟩ : ∃ t, n.val = 128 + t := ⟨n.val - 128, by omega⟩
    obtain ⟨n, hlt⟩ := n
    dsimp only at ht
    subst ht
    have htl : t < 128 := by omega
    obtain ⟨n', rfl⟩ : ∃ n' : Fin 128, t = n'.val := ⟨⟨t, htl⟩, rfl⟩
    have s : (128 + n'.val) - 128 = n'.val := by omega
    simp only [s]
    rw [v88_apply x0 x1 Q K V hq hk hv, sum_halves (fun m => (∑ d, Q b ⟨128 + n'.val, hlt⟩ h d * K b m h d) * wt (rF x1 h) (128 + n'.val) m * V b m h e), add_comm]
    refine congrArg _ (congrArg₂ (· + ·) ?_ ?_)
    · have w : ∀ m : Fin 128, wt (rF x1 h) (128 + n'.val) m.val = rF x1 h ^ (127 - m.val) * rF x1 h ^ (n'.val + 1) := fun m => by
        rw [wt, if_pos (by omega), ← pow_add]; congr 1; omega
      simp only [w, Finset.sum_mul]
      rw [Finset.sum_comm]
      exact Finset.sum_congr rfl fun m _ => Finset.sum_congr rfl fun d _ => by ring
    · have w : ∀ m : Fin 128, wt (rF x1 h) (128 + n'.val) (128 + m.val) = wt (rF x1 h) n'.val m.val := fun m => by
        unfold wt
        by_cases hm : m.val ≤ n'.val
        · rw [if_pos hm, if_pos (by omega)]; congr 1; omega
        · rw [if_neg hm, if_neg (by omega)]
      simp only [w]
      exact Finset.sum_congr rfl fun m _ => by ring

end

end Cert.Proof.Ret

end
-- ==== Proof.RetRev.lean ====
/- The reference's second scan, over the reversed block, is its first scan of the projection with the rows of every block
   reversed and the two rows of the decays exchanged. -/
module

public import proofs.«01_k».proof.Proof.RetScan

@[expose] public section

noncomputable section

namespace Cert.Proof.Ret

open Cert.ReferenceIdeal Cert.ReferenceIdeal.Read Idealize.ShloMosaic
open Idealize.ShloMosaic.Pointwise

/-- The projection with the first 8192 rows reversed inside each block of 256. -/
def rev (x0 : Vec Ideal S16384x6144 .bf16) : Vec Ideal S16384x6144 .bf16 := fun j =>
  if h : (j 0).val < 8192 then x0 (ix2 ⟨(j 0).val / 256 * 256 + (255 - (j 0).val % 256), by omega⟩ (j 1)) else x0 j

/-- The decays with their two rows exchanged. -/
def swap (x1 : Vec Ideal S2x4 .f32) : Vec Ideal S2x4 .f32 := fun j => x1 (ix2 (Fin.rev (j 0)) (j 1))

theorem rev_at (x0 : Vec Ideal S16384x6144 .bf16) (b : Fin 32) (n : Fin 256) (c : Fin 6144) :
    rev x0 (ix2 ⟨b.val * 256 + n.val, by omega⟩ c) = x0 (ix2 ⟨b.val * 256 + (Fin.rev n).val, by omega⟩ c) := by
  have h : b.val * 256 + n.val < 8192 := by omega
  refine (dif_pos h).trans (congrArg (fun t => x0 (ix2 t c)) (Fin.ext ?_))
  show (b.val * 256 + n.val) / 256 * 256 + (255 - (b.val * 256 + n.val) % 256) = b.val * 256 + (256 - (n.val + 1))
  omega

theorem v98_eq (x0 : Vec Ideal S16384x6144 .bf16) : val_main_v98 (F := Ideal) x0 = val_main_v3 (rev x0) := by
  funext j
  rw [eq_ix4 j]
  pointwise [val_main_v98, val_main_v3, val_main_v2, val_main_v1, val_main_v0]
  exact (rev_at x0 _ _ _).symm

theorem v99_eq (x0 : Vec Ideal S16384x6144 .bf16) : val_main_v99 (F := Ideal) x0 = val_main_v7 (rev x0) := by
  funext j
  rw [eq_ix4 j]
  pointwise [val_main_v99, val_main_v7, val_main_v6, val_main_v5, val_main_v4, val_main_v1, val_main_v0]
  exact congrArg (· * _) (rev_at x0 _ _ _).symm

theorem v100_eq (x0 : Vec Ideal S16384x6144 .bf16) : val_main_v100 (F := Ideal) x0 = val_main_v9 (rev x0) := by
  funext j
  rw [eq_ix4 j]
  pointwise [val_main_v100, val_main_v9, val_main_v8, val_main_v1, val_main_v0]
  exact (rev_at x0 _ _ _).symm

theorem v102_eq (x1 : Vec Ideal S2x4 .f32) : val_main_v102 (F := Ideal) x1 = val_main_v14 (swap x1) := by
  funext j
  rw [eq_ix1 j]
  pointwise [val_main_v102, val_main_v101, val_main_v14, val_main_v13, val_main_v11, val_main_v10]
  rfl

section
variable (x0 : Vec Ideal S16384x6144 .bf16) (x1 : Vec Ideal S2x4 .f32)

theorem v119_eq : val_main_v119 (F := Ideal) x1 = val_main_v31 (swap x1) := by
  simp only [val_main_v119, val_main_v118, val_main_v117, val_main_v116, val_main_v115, val_main_v114, v102_eq]
  rfl

theorem v127_eq : val_main_v127 (F := Ideal) x1 = val_main_v39 (swap x1) := by
  simp only [val_main_v127, val_main_v126, val_main_v125, val_main_v123, v102_eq]
  rfl

theorem v135_eq : val_main_v135 (F := Ideal) x1 = val_main_v47 (swap x1) := by
  simp only [val_main_v135, val_main_v134, val_main_v133, val_main_v131, v102_eq]
  rfl

theorem v138_eq : val_main_v138 (F := Ideal) x1 = val_main_v50 (swap x1) := by
  simp only [val_main_v138, val_main_v137, v102_eq]
  rfl

theorem v153_eq : val_main_v153 (F := Ideal) x0 x1 = val_main_v65 (rev x0) (swap x1) := by
  simp only [val_main_v153, val_main_v152, val_main_v151, val_main_v150, val_main_v149, val_main_v148, val_main_v147, val_main_v146, val_main_v145, val_main_v144, val_main_v143, val_main_v142, val_main_v141, val_main_v140, val_main_v139, v98_eq, v99_eq, v100_eq, v119_eq, v127_eq]
  rfl

theorem v161_eq : val_main_v161 (F := Ideal) x0 x1 = val_main_v73 (rev x0) (swap x1) := by
  simp only [val_main_v161, val_main_v160, val_main_v159, val_main_v158, val_main_v157, val_main_v156, val_main_v155, val_main_v154, val_main_v141, val_main_v140, v99_eq, v100_eq, v135_eq, v138_eq]
  rfl

theorem v176_eq : val_main_v176 (F := Ideal) x0 x1 = val_main_v88 (rev x0) (swap x1) := by
  simp only [val_main_v176, val_main_v175, val_main_v174, val_main_v173, val_main_v172, val_main_v171, val_main_v170, val_main_v169, val_main_v168, val_main_v167, val_main_v166, val_main_v165, val_main_v164, val_main_v163, val_main_v162, v98_eq, v99_eq, v100_eq, v119_eq, v127_eq, v161_eq]
  rfl

theorem v184_eq : val_main_v184 (F := Ideal) x0 x1 = val_main_v96 (rev x0) (swap x1) := by
  simp only [val_main_v184, val_main_v183, val_main_v182, val_main_v181, val_main_v180, val_main_v179, val_main_v178, val_main_v177, val_main_v164, val_main_v163, v99_eq, v100_eq, v135_eq, v138_eq, v161_eq]
  rfl

theorem v185_eq : val_main_v185 (F := Ideal) x0 x1 = val_main_v97 (rev x0) (swap x1) := by
  funext j
  rw [eq_ix4 j]
  pointwise [val_main_v185, val_main_v97]
  rw [v153_eq, v176_eq]

end

end Cert.Proof.Ret

end
-- ==== Proof.RetEq.lean ====
/- The kernel's two results are the reference's, for a projection that is real where the retention reads it. -/
module

public import proofs.«01_k».proof.Proof.RetRev

@[expose] public section

noncomputable section

namespace Cert.Proof.Ret

open Cert.ReferenceIdeal Cert.ReferenceIdeal.Read Idealize.ShloMosaic
open Idealize.ShloMosaic.Pointwise

section
variable (P : Vec Ideal S16384x6144 .bf16) (W : Vec Ideal S2x4 .f32)

/-- The queries, as reals. -/
def qR (b : Fin 32) (n : Fin 256) (h : Fin 4) (d : Fin 256) : ℝ :=
  EReal.toReal (P (ix2 ⟨b.val * 256 + n.val, by omega⟩ ⟨h.val * 256 + d.val, by omega⟩))
/-- The keys, as reals, not yet scaled. -/
def kR (b : Fin 32) (n : Fin 256) (h : Fin 4) (d : Fin 256) : ℝ :=
  EReal.toReal (P (ix2 ⟨b.val * 256 + n.val, by omega⟩ ⟨1024 + (h.val * 256 + d.val), by omega⟩))
/-- The values, as reals. -/
def vR (b : Fin 32) (n : Fin 256) (h : Fin 4) (e : Fin 512) : ℝ :=
  EReal.toReal (P (ix2 ⟨b.val * 256 + n.val, by omega⟩ ⟨2048 + (h.val * 512 + e.val), by omega⟩))

/-- Every element the retention reads is a real. -/
def Real8192 : Prop := ∀ (r : Fin 8192) (c : Fin 4096),
  P (ix2 ⟨r.val, by omega⟩ ⟨c.val, by omega⟩) = ((EReal.toReal (P (ix2 ⟨r.val, by omega⟩ ⟨c.val, by omega⟩)) : ℝ) : EReal)

variable {P}

theorem v3_real (hP : Real8192 P) (b : Fin 32) (n : Fin 256) (h : Fin 4) (d : Fin 256) :
    val_main_v3 (F := Ideal) P (ix4 b n h d) = ((qR P b n h d : ℝ) : EReal) := by
  pointwise [val_main_v3, val_main_v2, val_main_v1, val_main_v0]
  exact hP ⟨b.val * 256 + n.val, by omega⟩ ⟨h.val * 256 + d.val, by omega⟩

theorem v7_real (hP : Real8192 P) (b : Fin 32) (n : Fin 256) (h : Fin 4) (d : Fin 256) :
    val_main_v7 (F := Ideal) P (ix4 b n h d) = ((kR P b n h d * (1 / 16) : ℝ) : EReal) := by
  pointwise [val_main_v7, val_main_v6, val_main_v5, val_main_v4, val_main_v1, val_main_v0, val_main_cst]
  rw [ofBits_sixteenth, EReal.coe_mul]
  exact congrArg (· * _) (hP ⟨b.val * 256 + n.val, by omega⟩ ⟨1024 + (h.val * 256 + d.val), by omega⟩)

theorem v9_real (hP : Real8192 P) (b : Fin 32) (n : Fin 256) (h : Fin 4) (e : Fin 512) :
    val_main_v9 (F := Ideal) P (ix4 b n h e) = ((vR P b n h e : ℝ) : EReal) := by
  pointwise [val_main_v9, val_main_v8, val_main_v1, val_main_v0]
  exact hP ⟨b.val * 256 + n.val, by omega⟩ ⟨2048 + (h.val * 512 + e.val), by omega⟩

theorem v3_rev (hP : Real8192 P) (b : Fin 32) (n : Fin 256) (h : Fin 4) (d : Fin 256) :
    val_main_v3 (F := Ideal) (rev P) (ix4 b n h d) = ((qR P b (Fin.rev n) h d : ℝ) : EReal) := by
  rw [← v98_eq]
  pointwise [val_main_v98]
  exact v3_real hP b (Fin.rev n) h d

theorem v7_rev (hP : Real8192 P) (b : Fin 32) (n : Fin 256) (h : Fin 4) (d : Fin 256) :
    val_main_v7 (F := Ideal) (rev P) (ix4 b n h d) = ((kR P b (Fin.rev n) h d * (1 / 16) : ℝ) : EReal) := by
  rw [← v99_eq]
  pointwise [val_main_v99]
  exact v7_real hP b (Fin.rev n) h d

theorem v9_rev (hP : Real8192 P) (b : Fin 32) (n : Fin 256) (h : Fin 4) (e : Fin 512) :
    val_main_v9 (F := Ideal) (rev P) (ix4 b n h e) = ((vR P b (Fin.rev n) h e : ℝ) : EReal) := by
  rw [← v100_eq]
  pointwise [val_main_v100]
  exact v9_real hP b (Fin.rev n) h e

/-- The decay of the reversed scan is the backward one. -/
theorem rF_swap (h : Fin 4) : rF (swap W) h = rate (W (ix2 1 h)) := rfl

theorem wt_rev (r : ℝ) (n m : Fin 256) : wt r (Fin.rev n).val (Fin.rev m).val = wt r m.val n.val := by
  have hn : (Fin.rev n).val = 256 - (n.val + 1) := rfl
  have hm : (Fin.rev m).val = 256 - (m.val + 1) := rfl
  unfold wt
  by_cases h : n.val ≤ m.val
  · rw [if_pos h, if_pos (by omega)]; congr 1; omega
  · rw [if_neg h, if_neg (by omega)]

/-- The reference's mixed values. -/
theorem v187_real (hP : Real8192 P) (b : Fin 32) (n : Fin 256) (h : Fin 4) (e : Fin 512) :
    val_main_v187 (F := Ideal) P W (ix4 b n h e)
      = ((∑ m : Fin 256, (∑ d, qR P b n h d * (kR P b m h d * (1 / 16))) * (wt (rate (W (ix2 0 h))) n m + wt (rate (W (ix2 1 h))) m n) * vR P b m h e : ℝ) : EReal) := by
  pointwise [val_main_v187, val_main_v186]
  have back : val_main_v185 (F := Ideal) P W (ix4 b (Fin.rev n) h e)
      = ((∑ m : Fin 256, (∑ d, qR P b n h d * (kR P b m h d * (1 / 16))) * wt (rate (W (ix2 1 h))) m n * vR P b m h e : ℝ) : EReal) := by
    rw [v185_eq, v97_apply (rev P) (swap W) (fun b n h d => qR P b (Fin.rev n) h d) (fun b n h d => kR P b (Fin.rev n) h d * (1 / 16))
      (fun b n h e => vR P b (Fin.rev n) h e) (v3_rev hP) (v7_rev hP) (v9_rev hP), rF_swap, ← Equiv.sum_comp Fin.revPerm]
    simp only [Fin.revPerm_apply, Fin.rev_rev, wt_rev]
  rw [v97_apply P W (qR P) (fun b n h d => kR P b n h d * (1 / 16)) (vR P) (v3_real hP) (v7_real hP) (v9_real hP)]
  refine (congrArg (_ + ·) back).trans ?_
  rw [← EReal.coe_add, ← Finset.sum_add_distrib]
  exact congrArg _ (Finset.sum_congr rfl fun m _ => by ring)

/-- The reference's forward states. -/
theorem v96_real (hP : Real8192 P) (b : Fin 32) (h : Fin 4) (d : Fin 256) (e : Fin 512) :
    val_main_v96 (F := Ideal) P W (ix4 b h d e)
      = ((∑ m : Fin 256, kR P b m h d * (1 / 16) * rate (W (ix2 0 h)) ^ (255 - m.val) * vR P b m h e : ℝ) : EReal) :=
  v96_apply P W (fun b n h d => kR P b n h d * (1 / 16)) (vR P) (v7_real hP) (v9_real hP) b h d e

/-- The reference's backward states. -/
theorem v184_real (hP : Real8192 P) (b : Fin 32) (h : Fin 4) (d : Fin 256) (e : Fin 512) :
    val_main_v184 (F := Ideal) P W (ix4 b h d e)
      = ((∑ m : Fin 256, kR P b m h d * (1 / 16) * rate (W (ix2 1 h)) ^ m.val * vR P b m h e : ℝ) : EReal) := by
  rw [v184_eq, v96_apply (rev P) (swap W) (fun b n h d => kR P b (Fin.rev n) h d * (1 / 16))
    (fun b n h e => vR P b (Fin.rev n) h e) (v7_rev hP) (v9_rev hP), rF_swap, ← Equiv.sum_comp Fin.revPerm]
  have s : ∀ m : Fin 256, 255 - (Fin.rev m).val = m.val := fun m => by
    have : (Fin.rev m).val = 256 - (m.val + 1) := rfl
    omega
  simp only [Fin.revPerm_apply, Fin.rev_rev, s]

/-- The kernel's blocks of queries, keys and values are real. -/
theorem qOf_real (hP : Real8192 P) (b : Fin 32) (h : Fin 4) (n d : Fin 256) : qOf P b h (ix2 n d) = ((qR P b n h d : ℝ) : EReal) := by
  rw [← v3_real hP]
  pointwise [val_main_v3, val_main_v2, val_main_v1, val_main_v0]
  refine congrArg₂ (fun r c => P (ix2 r c)) (Fin.ext ?_) (Fin.ext ?_)
  · show 256 * b.val + n.val = b.val * 256 + n.val; omega
  · show 256 * h.val + d.val = h.val * 256 + d.val; omega

theorem kOf_real (hP : Real8192 P) (b : Fin 32) (h : Fin 4) (n d : Fin 256) : kOf P b h (ix2 n d) = ((kR P b n h d : ℝ) : EReal) := by
  refine Eq.trans ?_ (hP ⟨b.val * 256 + n.val, by omega⟩ ⟨1024 + (h.val * 256 + d.val), by omega⟩)
  refine congrArg₂ (fun r c => P (ix2 r c)) (Fin.ext ?_) (Fin.ext ?_)
  · show 256 * b.val + n.val = b.val * 256 + n.val; omega
  · show 1024 + 256 * h.val + d.val = 1024 + (h.val * 256 + d.val); omega

theorem vOf_real (hP : Real8192 P) (b : Fin 32) (h : Fin 4) (n : Fin 256) (e : Fin 512) : vOf P b h (ix2 n e) = ((vR P b n h e : ℝ) : EReal) := by
  refine Eq.trans ?_ (hP ⟨b.val * 256 + n.val, by omega⟩ ⟨2048 + (h.val * 512 + e.val), by omega⟩)
  refine congrArg₂ (fun r c => P (ix2 r c)) (Fin.ext ?_) (Fin.ext ?_)
  · show 256 * b.val + n.val = b.val * 256 + n.val; omega
  · show 2048 + 512 * h.val + e.val = 2048 + (h.val * 512 + e.val); omega

/-- The mixed values agree. -/
theorem out_eq (hP : Real8192 P) : outO (F := Ideal) P W = val_main_v188 P W := by
  funext y
  rw [eq_ix2 y]
  pointwise [val_main_v188]
  unfold outO
  rw [v187_real W hP]
  refine (headO_apply (fun n d => qR P _ n _ d) (fun n d => kR P _ n _ d) (fun n e => vR P _ n _ e) _ _ _ _ _
    (qOf_real hP _ _) (kOf_real hP _ _) (vOf_real hP _ _) _ _).trans ?_
  rfl

/-- The states agree. -/
theorem state_eq (hP : Real8192 P) : outS (F := Ideal) P W = val_main_v191 P W := by
  funext y
  rw [eq_ix5 y]
  pointwise [val_main_v191, val_main_v190, val_main_v189]
  by_cases h0 : (y 1).val = 0
  · refine Eq.trans ((if_pos h0).trans ?_) (dif_pos (by omega)).symm
    exact (headF_apply _ _ _ _ _ (kOf_real hP _ _) (vOf_real hP _ _) _ _).trans (v96_real W hP _ _ _ _).symm
  · refine Eq.trans ((if_neg h0).trans ?_) (dif_neg (by omega)).symm
    exact (headB_apply _ _ _ _ _ (kOf_real hP _ _) (vOf_real hP _ _) _ _).trans (v184_real W hP _ _ _ _).symm

end

end Cert.Proof.Ret

end
-- ==== Proof.RetPre.lean ====
/- The precondition read back: the part of the projection the retention reads holds reals. -/
module

public import proofs.«01_k».proof.Defs
public import Idealize.ShloMosaic.Lib.ReduceAll
public import Idealize.ShloMosaic.Lib.Pointwise

@[expose] public section

noncomputable section

namespace Cert.Proof.Ret

open Idealize.ShloMosaic Idealize.ShloMosaic.Pointwise

/-- Where the precondition holds, the queries, keys and values are reals. -/
theorem real_of_pre [Cert.Pre_finite.Facts] (P : Vec Ideal Cert.Pre_finite.S16384x6144 .bf16) (W : Vec Ideal Cert.Pre_finite.S2x4 .f32)
    (h : Cert.Pre_finite.fn (F := Ideal) P W = (fun _ => 1#1)) (r : Fin 8192) (c : Fin 4096) :
    P (ix2 ⟨r.val, by omega⟩ ⟨c.val, by omega⟩) = ((EReal.toReal (P (ix2 ⟨r.val, by omega⟩ ⟨c.val, by omega⟩)) : ℝ) : EReal) := by
  haveI : Subsingleton Cert.Pre_finite.S_.Idx := ⟨fun a b => funext fun i => i.elim0⟩
  have e := Host.reduce_andi_all _ _ _ _ ix0 (congrFun h ix0) (ix2 r c)
  pointwise at e
  have top : Ideal.ofBits .f32 0x7F800000#32 = (⊤ : EReal) := by simp [Ideal.ofBits, Ideal.ieee]
  rw [top] at e
  generalize P (ix2 ⟨r.val, by omega⟩ ⟨c.val, by omega⟩) = x at e
  have lt : max x (-x) < (⊤ : EReal) := by
    by_contra hn
    rw [show decide (FloatOps.absf (F := Ideal) (φ := .f32) x < (⊤ : EReal)) = false from decide_eq_false hn] at e
    exact absurd e (by decide)
  refine (EReal.coe_toReal (fun hx => ?_) (fun hx => ?_)).symm
  · rw [hx] at lt; simp at lt
  · rw [hx] at lt; simp at lt

end Cert.Proof.Ret

end
-- ==== Proof.RetClaim.lean ====
/- The retention claim: kernel and reference both run and end with equal mixed values and equal states. -/
module

public import proofs.«01_k».proof.Proof.RetEq
public import proofs.«01_k».proof.Proof.RetPre
public import proofs.«01_k».proof.Proof.Gen.ReferenceIdeal.Run

@[expose] public section

noncomputable section

namespace Cert.Proof.Ret

open Idealize.ShloMosaic Idealize.SL.Sem

theorem algebraic [Cert.Pre_finite.Facts] : Cert.algebraic_KernelIdeal_ReferenceIdeal_pre_finite := by
  intro m g m' g' hpre heq
  have real : ∀ c : Dev Cert.KernelIdeal.nD, Real8192 (m ((c.tc : Thread Cert.KernelIdeal.nD Cert.KernelIdeal.τ).loc Cert.KernelIdeal.main_arg0)) :=
    fun c r k => real_of_pre _ _ (hpre c) r k
  refine ⟨_, _, run m g, (θ_run Cert.ReferenceIdeal.defs _ _).mono (fun r h c => ?_) (Cert.ReferenceIdeal.Value.run m' g')⟩
  obtain ⟨h0, h1, h2, h3⟩ := h c
  obtain ⟨e0, e1⟩ := heq c
  refine ⟨?_, ?_, h2, h3⟩
  · rw [h0, out_eq _ (real c), ← e0, ← e1]
    exact Cert.ReferenceIdeal.Read.val_main_v188_eq (StableHlo.launchContents m' c)
  · rw [h1, state_eq _ (real c), ← e0, ← e1]
    exact Cert.ReferenceIdeal.Read.val_main_v191_eq (StableHlo.launchContents m' c)

end Cert.Proof.Ret

end
-- ==== Proof.FfnBlock.lean ====
/- What one grid point of the feed-forward kernel leaves in its output block, as one function of its input blocks, at any
   float values. A grid point is one tile of 1024 rows with 16 rows before and after it. The body norms and modulates these
   1056 rows (`hBlk`), and treats the 2816 gate columns and the 2816 value columns in eleven chunks of 256: each chunk is
   projected, convolved along the rows by three taps with the row before a segment's first and after its last replaced by
   zero (`convBlk`), and gated (`actBlk`). The eleven chunks go through the down projection and join the residual. The
   chunks of the body are one function of their columns of the weights (`out_block`). -/
module

public import proofs.«01_k».proof.Proof.Gen.KernelFfnIdeal.Value
public import Idealize.ShloMosaic.Lib.Pointwise
public import Idealize.ShloMosaic.Lib.Writes
public import Idealize.ShloMosaic.Lib.Pipeline.ValueKit.Basic

@[expose] public section

noncomputable section

namespace Cert.Proof.Ffn

open Cert.KernelFfnIdeal Cert.KernelFfnIdeal.Gen Cert.KernelFfnIdeal.Value Idealize.ShloMosaic Idealize.ShloMosaic.TcCoe Idealize.SL.Sem
open Idealize.ShloMosaic.Pointwise

variable {F : FTy → Type} [FloatOps F]

/-- The normed and modulated rows of a tile and of the 16 rows before and after it. -/
def hBlk (g : Vec F S1x1024 .f32) (sh sc : Vec F S1x1x1024 .f32) (xp : Vec F S16x1024 .f32) (xt : Vec F S1024x1024 .f32)
    (xn : Vec F S16x1024 .f32) : FVec F S1056x1024 .bf16 :=
  k0_pay7 (k0_pay2 g) (k0_pay3 sh) (k0_pay4 sc) (k0_pay5 g sh sc xp) (k0_pay6 xt g) (Scalar.ofBits .f32 0x3F800000#32) xn

/-- The first `8192` rows are the context's; a tile lies in them or not. -/
def isCtx (i : BitVec 32) : BitVec 1 := Scalar.cmpi .slt (Scalar.muli i 1024#32) 8192#32

/-- Whether row `r` of tile `i` begins a segment. -/
def firstW (i r : BitVec 32) : BitVec 1 :=
  Scalar.ori (isCtx i) (Scalar.cmpi .eq (Scalar.andi (Scalar.addi (Scalar.muli i 1024#32) r) 4095#32) 0#32)

/-- Whether the 256 rows from row `r` of tile `i` end a segment. -/
def lastW (i r : BitVec 32) : BitVec 1 :=
  Scalar.ori (isCtx i) (Scalar.cmpi .eq (Scalar.andi (Scalar.addi (Scalar.addi (Scalar.muli i 1024#32) r) 256#32) 4095#32) 0#32)

/-- Eight rows with row `k` replaced by zero where the word `w` holds. -/
def mask8 (k : BitVec 32) (w : BitVec 1) (x : FVec F S8x256 .f32) : FVec F S8x256 .f32 :=
  select (broadcastTo S8x256 (shapeCast S8x1 (andi (cmpi .eq (iota .tc S8x1 32 [0] iota_S8x1_d0_w32) (broadcast S8x1 k)) (broadcast S8x1 w))
    shapeCasts_S8x1_S8x1) broadcasts_S8x1_S8x256) (broadcast S8x256 (Scalar.ofBits .f32 0x00000000#32)) x

/-- The rows before the tile's, zero before a segment's first. -/
def prevRows (i : BitVec 32) (v : FVec F S1024x256 .f32) : FVec F S1024x256 .f32 :=
  concatenate S1024x256 0 [
    ⟨S8x256, mask8 0#32 (firstW i 0#32) (extractStridedSlice S8x256 ![0, 0] v slices_S1024x256_o0_0_S8x256)⟩,
    ⟨S248x256, extractStridedSlice S248x256 ![8, 0] v slices_S1024x256_o8_0_S248x256⟩,
    ⟨S8x256, mask8 0#32 (firstW i 256#32) (extractStridedSlice S8x256 ![256, 0] v slices_S1024x256_o256_0_S8x256)⟩,
    ⟨S248x256, extractStridedSlice S248x256 ![264, 0] v slices_S1024x256_o264_0_S248x256⟩,
    ⟨S8x256, mask8 0#32 (firstW i 512#32) (extractStridedSlice S8x256 ![512, 0] v slices_S1024x256_o512_0_S8x256)⟩,
    ⟨S248x256, extractStridedSlice S248x256 ![520, 0] v slices_S1024x256_o520_0_S248x256⟩,
    ⟨S8x256, mask8 0#32 (firstW i 768#32) (extractStridedSlice S8x256 ![768, 0] v slices_S1024x256_o768_0_S8x256)⟩,
    ⟨S248x256, extractStridedSlice S248x256 ![776, 0] v slices_S1024x256_o776_0_S248x256⟩]
    concatenates_S8x256_S248x256_S8x256_S248x256_S8x256_S248x256_S8x256_S248x256_S1024x256_d0

/-- The rows after the tile's, zero after a segment's last. -/
def nextRows (i : BitVec 32) (v : FVec F S1024x256 .f32) : FVec F S1024x256 .f32 :=
  concatenate S1024x256 0 [
    ⟨S248x256, extractStridedSlice S248x256 ![0, 0] v slices_S1024x256_o0_0_S248x256⟩,
    ⟨S8x256, mask8 7#32 (lastW i 0#32) (extractStridedSlice S8x256 ![248, 0] v slices_S1024x256_o248_0_S8x256)⟩,
    ⟨S248x256, extractStridedSlice S248x256 ![256, 0] v slices_S1024x256_o256_0_S248x256⟩,
    ⟨S8x256, mask8 7#32 (lastW i 256#32) (extractStridedSlice S8x256 ![504, 0] v slices_S1024x256_o504_0_S8x256)⟩,
    ⟨S248x256, extractStridedSlice S248x256 ![512, 0] v slices_S1024x256_o512_0_S248x256⟩,
    ⟨S8x256, mask8 7#32 (lastW i 512#32) (extractStridedSlice S8x256 ![760, 0] v slices_S1024x256_o760_0_S8x256)⟩,
    ⟨S248x256, extractStridedSlice S248x256 ![768, 0] v slices_S1024x256_o768_0_S248x256⟩,
    ⟨S8x256, mask8 7#32 (lastW i 768#32) (extractStridedSlice S8x256 ![1016, 0] v slices_S1024x256_o1016_0_S8x256)⟩]
    concatenates_S248x256_S8x256_S248x256_S8x256_S248x256_S8x256_S248x256_S8x256_S1024x256_d0

/-- Row `k` of the three taps, over the tile's rows. -/
def tap0 (cw : Vec F S3x256 .f32) : FVec F S1024x256 .f32 :=
  broadcastTo S1024x256 (extractStridedSlice S1x256 ![0, 0] cw slices_S3x256_o0_0_S1x256) broadcasts_S1x256_S1024x256
def tap1 (cw : Vec F S3x256 .f32) : FVec F S1024x256 .f32 :=
  broadcastTo S1024x256 (extractStridedSlice S1x256 ![1, 0] cw slices_S3x256_o1_0_S1x256) broadcasts_S1x256_S1024x256
def tap2 (cw : Vec F S3x256 .f32) : FVec F S1024x256 .f32 :=
  broadcastTo S1024x256 (extractStridedSlice S1x256 ![2, 0] cw slices_S3x256_o2_0_S1x256) broadcasts_S1x256_S1024x256

/-- A chunk projected: 256 columns of all 1056 rows. -/
def projBlk (h : FVec F S1056x1024 .bf16) (w : Vec F S1x1024x256 .bf16) : FVec F S1056x256 .f32 :=
  matmul dot_S1056x1024_S1024x256_S1056x256_1_0_0_1_n_n none h (shapeCast S1024x256 w shapeCasts_S1x1024x256_S1024x256)
    (constant S1056x256 .f32 0x00000000#32)

/-- A projected chunk convolved along the rows. -/
def convBlk (i : BitVec 32) (u : FVec F S1056x256 .f32) (cw : Vec F S3x256 .f32) (cb : Vec F S1x256 .f32) : FVec F S1024x256 .f32 :=
  addf (addf (addf
    (mulf (prevRows i (extractStridedSlice S1024x256 ![16, 0] (dynamicRotate 0 1#32 none u rotates_S1056x256_d0) slices_S1056x256_o16_0_S1024x256)) (tap0 cw))
    (mulf (extractStridedSlice S1024x256 ![16, 0] u slices_S1056x256_o16_0_S1024x256) (tap1 cw)))
    (mulf (nextRows i (extractStridedSlice S1024x256 ![16, 0] (dynamicRotate 0 1055#32 none u rotates_S1056x256_d0) slices_S1056x256_o16_0_S1024x256)) (tap2 cw)))
    (broadcastTo S1024x256 (shapeCast S1x256 cb shapeCasts_S1x256_S1x256) broadcasts_S1x256_S1024x256)

/-- A gate chunk and a value chunk, gated. -/
def gateBlk (a b : FVec F S1024x256 .f32) : FVec F S1024x256 .bf16 :=
  truncf .bf16 (mulf (mulf a (logistic a)) b) bitsLt_bf16_f32

/-- One chunk of the body from its columns of the weights. -/
def actBlk (i : BitVec 32) (h : FVec F S1056x1024 .bf16) (wa : Vec F S1x1024x256 .bf16) (ca : Vec F S3x256 .f32) (ba : Vec F S1x256 .f32)
    (wb : Vec F S1x1024x256 .bf16) (cb : Vec F S3x256 .f32) (bb : Vec F S1x256 .f32) : FVec F S1024x256 .bf16 :=
  gateBlk (convBlk i (projBlk h wa) ca ba) (convBlk i (projBlk h wb) cb bb)

/-- The block of tile `w`, over the rectangles of its input blocks the body loads. -/
def rawBlk (w : BitVec 32) (x0 : Vec F S16x1024 .f32) (x1 : Vec F S1024x1024 .f32) (x2 : Vec F S16x1024 .f32) (x3 : Vec F S1x1024 .f32)
    (x4 x5 x6 : Vec F S1x1x1024 .f32) (x7 : Vec F S1x1024x5632 .bf16) (x8 : Vec F S3x5632 .f32) (x9 : Vec F S1x5632 .f32) (x10 : Vec F S1x2816x1024 .bf16) :
    FVec F S1024x1024 .f32 :=
  let h := hBlk (View.ld x3 r0_1) (View.ld x4 r0_2) (View.ld x5 r0_2) (View.ld x0 r0_3) (View.ld x1 r0_0) (View.ld x2 r0_3)
  k0_pay1 (View.ld x1 r0_0)
    (actBlk w h (View.ld x7 r0_4) (View.ld x8 r0_5) (View.ld x9 r0_6) (View.ld x7 r0_7) (View.ld x8 r0_8) (View.ld x9 r0_9))
    (actBlk w h (View.ld x7 r0_10) (View.ld x8 r0_11) (View.ld x9 r0_12) (View.ld x7 r0_13) (View.ld x8 r0_14) (View.ld x9 r0_15))
    (actBlk w h (View.ld x7 r0_16) (View.ld x8 r0_17) (View.ld x9 r0_18) (View.ld x7 r0_19) (View.ld x8 r0_20) (View.ld x9 r0_21))
    (actBlk w h (View.ld x7 r0_22) (View.ld x8 r0_23) (View.ld x9 r0_24) (View.ld x7 r0_25) (View.ld x8 r0_26) (View.ld x9 r0_27))
    (actBlk w h (View.ld x7 r0_28) (View.ld x8 r0_29) (View.ld x9 r0_30) (View.ld x7 r0_31) (View.ld x8 r0_32) (View.ld x9 r0_33))
    (actBlk w h (View.ld x7 r0_34) (View.ld x8 r0_35) (View.ld x9 r0_36) (View.ld x7 r0_37) (View.ld x8 r0_38) (View.ld x9 r0_39))
    (actBlk w h (View.ld x7 r0_40) (View.ld x8 r0_41) (View.ld x9 r0_42) (View.ld x7 r0_43) (View.ld x8 r0_44) (View.ld x9 r0_45))
    (actBlk w h (View.ld x7 r0_46) (View.ld x8 r0_47) (View.ld x9 r0_48) (View.ld x7 r0_49) (View.ld x8 r0_50) (View.ld x9 r0_51))
    (actBlk w h (View.ld x7 r0_52) (View.ld x8 r0_53) (View.ld x9 r0_54) (View.ld x7 r0_55) (View.ld x8 r0_56) (View.ld x9 r0_57))
    (actBlk w h (View.ld x7 r0_58) (View.ld x8 r0_59) (View.ld x9 r0_60) (View.ld x7 r0_61) (View.ld x8 r0_62) (View.ld x9 r0_63))
    (actBlk w h (View.ld x7 r0_64) (View.ld x8 r0_65) (View.ld x9 r0_66) (View.ld x7 r0_67) (View.ld x8 r0_68) (View.ld x9 r0_69))
    (View.ld x6 r0_2) (View.ld x10 r0_70)

set_option maxHeartbeats 0 in
set_option maxRecDepth 100000 in
/-- The body's chunks are `actBlk` at their own columns. -/
theorem out_pieces (i : grid0.Coords) (x0 : Vec F S16x1024 .f32) (x1 : Vec F S1024x1024 .f32) (x2 : Vec F S16x1024 .f32) (x3 : Vec F S1x1024 .f32)
    (x4 x5 x6 : Vec F S1x1x1024 .f32) (x7 : Vec F S1x1024x5632 .bf16) (x8 : Vec F S3x5632 .f32) (x9 : Vec F S1x5632 .f32) (x10 : Vec F S1x2816x1024 .bf16) :
    out0_11 i x0 x1 x2 x3 x4 x5 x6 x7 x8 x9 x10
      = View.canon [⟨r0_0, rawBlk (BitVec.ofNat 32 (i 0).val) x0 x1 x2 x3 x4 x5 x6 x7 x8 x9 x10⟩] := by
  unfold out0_11
  rfl

/-- Columns `o …` of the up projection's weights. -/
def colsW (x : Vec F S1x1024x5632 .bf16) (o : ℕ) (ho : o ≤ 5376) : Vec F S1x1024x256 .bf16 := fun j =>
  x (ix3 (n0 := 1) (n1 := 1024) (n2 := 5632) 0 (j 1) ⟨o + (j 2).val, by have : (j 2).val < 256 := (j 2).isLt; omega⟩)

/-- Columns `o …` of the three taps. -/
def colsC (x : Vec F S3x5632 .f32) (o : ℕ) (ho : o ≤ 5376) : Vec F S3x256 .f32 := fun j =>
  x (ix2 (n0 := 3) (n1 := 5632) (j 0) ⟨o + (j 1).val, by have : (j 1).val < 256 := (j 1).isLt; omega⟩)

/-- Columns `o …` of the convolution's bias. -/
def colsB (x : Vec F S1x5632 .f32) (o : ℕ) (ho : o ≤ 5376) : Vec F S1x256 .f32 := fun j =>
  x (ix2 (n0 := 1) (n1 := 5632) 0 ⟨o + (j 1).val, by have : (j 1).val < 256 := (j 1).isLt; omega⟩)

theorem ld_colsW (x : Vec F S1x1024x5632 .bf16) (o : ℕ) (ho : o ≤ 5376) (hb) :
    View.ld x (Rect.unit (s := S1x1024x5632) ![0, 0, o] S1x1024x256.size hb) = colsW x o ho := by
  funext j
  have h0 : (j 0).val < 1 := (j 0).isLt
  refine congrArg x (funext fun a => Fin.ext ?_)
  match a with
  | ⟨0, _⟩ => show 0 + 1 * (j 0).val = 0; omega
  | ⟨1, _⟩ => show 0 + 1 * (j 1).val = (j 1).val; omega
  | ⟨2, _⟩ => show o + 1 * (j 2).val = o + (j 2).val; omega

theorem ld_colsC (x : Vec F S3x5632 .f32) (o : ℕ) (ho : o ≤ 5376) (hb) :
    View.ld x (Rect.unit (s := S3x5632) ![0, o] S3x256.size hb) = colsC x o ho := by
  funext j
  refine congrArg x (funext fun a => Fin.ext ?_)
  match a with
  | ⟨0, _⟩ => show 0 + 1 * (j 0).val = (j 0).val; omega
  | ⟨1, _⟩ => show o + 1 * (j 1).val = o + (j 1).val; omega

theorem ld_colsB (x : Vec F S1x5632 .f32) (o : ℕ) (ho : o ≤ 5376) (hb) :
    View.ld x (Rect.unit (s := S1x5632) ![0, o] S1x256.size hb) = colsB x o ho := by
  funext j
  have h0 : (j 0).val < 1 := (j 0).isLt
  refine congrArg x (funext fun a => Fin.ext ?_)
  match a with
  | ⟨0, _⟩ => show 0 + 1 * (j 0).val = 0; omega
  | ⟨1, _⟩ => show o + 1 * (j 1).val = o + (j 1).val; omega

/-- Chunk `c` of the gated activations. -/
def actC (w : BitVec 32) (h : FVec F S1056x1024 .bf16) (x7 : Vec F S1x1024x5632 .bf16) (x8 : Vec F S3x5632 .f32) (x9 : Vec F S1x5632 .f32)
    (c : Fin 11) : FVec F S1024x256 .bf16 :=
  actBlk w h (colsW x7 (256 * c.val) (by omega)) (colsC x8 (256 * c.val) (by omega)) (colsB x9 (256 * c.val) (by omega))
    (colsW x7 (2816 + 256 * c.val) (by omega)) (colsC x8 (2816 + 256 * c.val) (by omega)) (colsB x9 (2816 + 256 * c.val) (by omega))

/-- The down projection of the eleven chunks, joined to the residual. -/
def downBlk (xt : Vec F S1024x1024 .f32) (A : Fin 11 → FVec F S1024x256 .bf16) (ga : Vec F S1x1x1024 .f32) (wd : Vec F S1x2816x1024 .bf16) :
    FVec F S1024x1024 .f32 :=
  k0_pay1 xt (A 0) (A 1) (A 2) (A 3) (A 4) (A 5) (A 6) (A 7) (A 8) (A 9) (A 10) ga wd

/-- The block of tile `w`, over its input blocks whole. -/
theorem raw_block (w : BitVec 32) (x0 : Vec F S16x1024 .f32) (x1 : Vec F S1024x1024 .f32) (x2 : Vec F S16x1024 .f32) (x3 : Vec F S1x1024 .f32)
    (x4 x5 x6 : Vec F S1x1x1024 .f32) (x7 : Vec F S1x1024x5632 .bf16) (x8 : Vec F S3x5632 .f32) (x9 : Vec F S1x5632 .f32) (x10 : Vec F S1x2816x1024 .bf16) :
    rawBlk w x0 x1 x2 x3 x4 x5 x6 x7 x8 x9 x10 = downBlk x1 (actC w (hBlk x3 x4 x5 x0 x1 x2) x7 x8 x9) x6 x10 := by
  have e0 : View.ld x0 r0_3 = x0 := View.ld_unit_lit _ _ (by decide)
  have e1 : View.ld x1 r0_0 = x1 := View.ld_unit_lit _ _ (by decide)
  have e2 : View.ld x2 r0_3 = x2 := View.ld_unit_lit _ _ (by decide)
  have e3 : View.ld x3 r0_1 = x3 := View.ld_unit_lit _ _ (by decide)
  have e4 : View.ld x4 r0_2 = x4 := View.ld_unit_lit _ _ (by decide)
  have e5 : View.ld x5 r0_2 = x5 := View.ld_unit_lit _ _ (by decide)
  have e6 : View.ld x6 r0_2 = x6 := View.ld_unit_lit _ _ (by decide)
  have e10 : View.ld x10 r0_70 = x10 := View.ld_unit_lit _ _ (by decide)
  unfold rawBlk
  rw [e0, e1, e2, e3, e4, e5, e6, e10]
  simp (discharger := decide) only [ld_colsW, ld_colsC, ld_colsB]
  rfl

/-- The block a grid point leaves. -/
theorem out_block (i : grid0.Coords) (x0 : Vec F S16x1024 .f32) (x1 : Vec F S1024x1024 .f32) (x2 : Vec F S16x1024 .f32) (x3 : Vec F S1x1024 .f32)
    (x4 x5 x6 : Vec F S1x1x1024 .f32) (x7 : Vec F S1x1024x5632 .bf16) (x8 : Vec F S3x5632 .f32) (x9 : Vec F S1x5632 .f32) (x10 : Vec F S1x2816x1024 .bf16) :
    out0_11 i x0 x1 x2 x3 x4 x5 x6 x7 x8 x9 x10
      = downBlk x1 (actC (BitVec.ofNat 32 (i 0).val) (hBlk x3 x4 x5 x0 x1 x2) x7 x8 x9) x6 x10 := by
  rw [out_pieces]
  exact (View.canon_cons_unit_lit _ _ _ (by decide)).trans (raw_block _ _ _ _ _ _ _ _ _ _ _ _)

end Cert.Proof.Ffn

end
-- ==== Proof.FfnSpec.lean ====
/- The feed-forward layer as plain functions over the reals, row by row of the 16384 rows: `hG` the normed and modulated
   row, `uG` its up projection, `convG` the convolution along a segment's rows, `outG` the layer's result. The first 8192
   rows are the context's 32 segments of 256 rows, the others two segments of 4096. -/
module

public import proofs.«01_k».proof.Proof.Gen.KernelFfnIdeal.Skeleton
public import Idealize.ShloMosaic.Lib.Pointwise
public import Idealize.ShloMosaic.PureOps.Ideal.Laws

@[expose] public section

noncomputable section

namespace Cert.Proof.Ffn

open Cert.KernelFfnIdeal Idealize.ShloMosaic
open Idealize.ShloMosaic.Pointwise

/-- A row normed by its mean square, scaled and modulated, at one column. -/
def nrm (x g sh sc : Fin 1024 → EReal) (k : Fin 1024) : EReal :=
  x k * Ideal.rsqrt (Ideal.div (∑ l : Fin 1024, x l * x l) (Ideal.ofBits FTy.f32 1149239296#32) + Ideal.ofBits FTy.f32 897988541#32)
    * g k * (1 + sc k) + sh k

/-- Row `N` begins a segment. -/
abbrev segFirst (N : ℕ) : Prop := N % 256 = 0 ∧ (N < 8192 ∨ N % 4096 = 0)

/-- Row `N` ends a segment. -/
abbrev segLast (N : ℕ) : Prop := N % 256 = 255 ∧ (N < 8192 ∨ N % 4096 = 4095)

/-- The modulation row of row `N`: the context's, or its latent sequence's. -/
def segOf (N : ℕ) : Fin 8 := if N < 8192 then 0 else if N < 12288 then 1 else 2

/-- Three taps and a bias at row `N`, the rows outside its segment zero. -/
def convF (N : ℕ) (up uc un c0 c1 c2 b : EReal) : EReal :=
  (if segFirst N then 0 else up) * c0 + uc * c1 + (if segLast N then 0 else un) * c2 + b

/-- The gate of one column. -/
def gateF (a b : EReal) : EReal := a * Ideal.logistic a * b

/-- The arguments of the layer. -/
structure Args where
  x : Vec Ideal S16384x1024 .f32
  g : Vec Ideal S1024 .f32
  sh : Vec Ideal S8x1x1024 .f32
  sc : Vec Ideal S8x1x1024 .f32
  ga : Vec Ideal S8x1x1024 .f32
  wu : Vec Ideal S4x1024x5632 .bf16
  cw : Vec Ideal S3x5632 .f32
  cb : Vec Ideal S5632 .f32
  wd : Vec Ideal S4x2816x1024 .bf16
  layer : Fin 4

variable (A : Args)

def xG (N : ℕ) (k : Fin 1024) : EReal := A.x (ix2 (n0 := 16384) (n1 := 1024) ⟨min N 16383, by omega⟩ k)

def hG (N : ℕ) : Fin 1024 → EReal :=
  nrm (xG A N) (fun k => A.g (ix1 (n0 := 1024) k)) (fun k => A.sh (ix3 (n0 := 8) (n1 := 1) (n2 := 1024) (segOf N) 0 k))
    (fun k => A.sc (ix3 (n0 := 8) (n1 := 1) (n2 := 1024) (segOf N) 0 k))

def uG (N : ℕ) (f : Fin 5632) : EReal := ∑ k : Fin 1024, hG A N k * A.wu (ix3 (n0 := 4) (n1 := 1024) (n2 := 5632) A.layer k f)

def convG (N : ℕ) (f : Fin 5632) : EReal :=
  convF N (uG A (N - 1) f) (uG A N f) (uG A (N + 1) f) (A.cw (ix2 (n0 := 3) (n1 := 5632) 0 f)) (A.cw (ix2 (n0 := 3) (n1 := 5632) 1 f))
    (A.cw (ix2 (n0 := 3) (n1 := 5632) 2 f)) (A.cb (ix1 (n0 := 5632) f))

def actG (N : ℕ) (f : Fin 2816) : EReal := gateF (convG A N ⟨f.val, by omega⟩) (convG A N ⟨2816 + f.val, by omega⟩)

def outG (N : ℕ) (j : Fin 1024) : EReal :=
  xG A N j + A.ga (ix3 (n0 := 8) (n1 := 1) (n2 := 1024) (segOf N) 0 j)
    * ∑ f : Fin 2816, actG A N f * A.wd (ix3 (n0 := 4) (n1 := 2816) (n2 := 1024) A.layer f j)

/-- The layer's result as an array. -/
def outA : Vec Ideal S16384x1024 .f32 := fun y => outG A (y 0).val (y 1)

end Cert.Proof.Ffn

end
-- ==== Proof.FfnRead.lean ====
/- The block of the feed-forward kernel read at an index over the reals: row `n` of tile `t` is row `1024 t + n`, its
   neighbours are rows `15 + n` and `17 + n` of the tile with its halo, and the masks are the segments' ends. -/
module

public import proofs.«01_k».proof.Proof.FfnBlock
public import proofs.«01_k».proof.Proof.FfnSpec

@[expose] public section

noncomputable section

namespace Cert.Proof.Ffn

open Cert.KernelFfnIdeal Cert.KernelFfnIdeal.Gen Idealize.ShloMosaic Idealize.ShloMosaic.TcCoe Idealize.SL.Sem
open Idealize.ShloMosaic.Pointwise

theorem hBlk_apply (g : Vec Ideal S1x1024 .f32) (sh sc : Vec Ideal S1x1x1024 .f32) (xp : Vec Ideal S16x1024 .f32) (xt : Vec Ideal S1024x1024 .f32)
    (xn : Vec Ideal S16x1024 .f32) (r : Fin 1056) (k : Fin 1024) :
    hBlk g sh sc xp xt xn (ix2 r k)
      = nrm (fun l => if h : r.val < 16 then xp (ix2 ⟨r.val, h⟩ l) else if h : r.val - 16 < 1024 then xt (ix2 ⟨r.val - 16, h⟩ l)
          else xn (ix2 ⟨r.val - 16 - 1024, by omega⟩ l))
          (fun l => g (ix2 0 l)) (fun l => sh (ix3 0 0 l)) (fun l => sc (ix3 0 0 l)) k := by
  pointwise [hBlk, k0_pay7, k0_pay2, k0_pay3, k0_pay4, k0_pay5, k0_pay6]
  unfold nrm
  split_ifs <;> rfl

theorem proj_apply (h : FVec Ideal S1056x1024 .bf16) (w : Vec Ideal S1x1024x256 .bf16) (r : Fin 1056) (j : Fin 256) :
    projBlk h w (ix2 r j) = ∑ k : Fin 1024, h (ix2 r k) * w (ix3 0 k j) := by
  pointwise [projBlk, dot_S1056x1024_S1024x256_S1056x256_1_0_0_1_n_n]

/-- The masks at the first and at the last row. -/
theorem first_iff : ∀ (t : Fin 16) (q : Fin 4), firstW (BitVec.ofNat 32 t.val) (BitVec.ofNat 32 (256 * q.val)) = 1#1
    ↔ (t.val < 8 ∨ (4 * t.val + q.val) % 16 = 0) := by decide +kernel
theorem last_iff : ∀ (t : Fin 16) (q : Fin 4), lastW (BitVec.ofNat 32 t.val) (BitVec.ofNat 32 (256 * q.val)) = 1#1
    ↔ (t.val < 8 ∨ (4 * t.val + q.val) % 16 = 15) := by decide +kernel

/-- A masked row. -/
theorem select_row (a : Fin 8) (w : BitVec 1) (m : ℕ) (hm : m < 8) (y : EReal) :
    Scalar.select (IntOp.andi (IntOp.cmpi CmpIPredicate.eq (BitVec.ofNat 32 m) (BitVec.ofNat 32 a.val)) w) 0 y
      = if m = a.val ∧ w = 1#1 then 0 else y := by
  have key : ∀ (m a : Fin 8) (w : BitVec 1), IntOp.andi (IntOp.cmpi CmpIPredicate.eq (BitVec.ofNat 32 m.val) (BitVec.ofNat 32 a.val)) w
      = if m.val = a.val ∧ w = 1#1 then 1#1 else 0#1 := by decide +kernel
  rw [key ⟨m, hm⟩ a w]
  by_cases h : m = a.val ∧ w = 1#1
  · rw [if_pos h, if_pos h]; rfl
  · rw [if_neg h, if_neg h]; rfl

theorem prev_apply (t : Fin 16) (v : FVec Ideal S1024x256 .f32) (n : Fin 1024) (j : Fin 256) :
    prevRows (BitVec.ofNat 32 t.val) v (ix2 n j) = if segFirst (1024 * t.val + n.val) then 0 else v (ix2 n j) := by
  have f0 : firstW (BitVec.ofNat 32 t.val) 0#32 = 1#1 ↔ (t.val < 8 ∨ (4 * t.val + 0) % 16 = 0) := first_iff t 0
  have f1 : firstW (BitVec.ofNat 32 t.val) 256#32 = 1#1 ↔ (t.val < 8 ∨ (4 * t.val + 1) % 16 = 0) := first_iff t 1
  have f2 : firstW (BitVec.ofNat 32 t.val) 512#32 = 1#1 ↔ (t.val < 8 ∨ (4 * t.val + 2) % 16 = 0) := first_iff t 2
  have f3 : firstW (BitVec.ofNat 32 t.val) 768#32 = 1#1 ↔ (t.val < 8 ∨ (4 * t.val + 3) % 16 = 0) := first_iff t 3
  have row : ∀ (a : ℕ) (ha : a < 1024), a = n.val → v (ix2 ⟨a, ha⟩ j) = v (ix2 n j) := fun a ha e => by subst e; rfl
  have mask : ∀ (w : BitVec 1) (m a : ℕ) (hm : m < 8) (ha : a < 1024) (P : Prop), (w = 1#1 ↔ P) → a = n.val
      → (m = 0 ∧ P ↔ segFirst (1024 * t.val + n.val))
      → Scalar.select (IntOp.andi (IntOp.cmpi CmpIPredicate.eq (BitVec.ofNat 32 m) 0#32) w) 0 (v (ix2 ⟨a, ha⟩ j))
        = if segFirst (1024 * t.val + n.val) then 0 else v (ix2 n j) :=
    fun w m a hm ha P hw e hP => (select_row 0 w m hm _).trans (if_congr ((and_congr Iff.rfl hw).trans hP) rfl (row a ha e))
  have plain : ∀ (a : ℕ) (ha : a < 1024), a = n.val → ¬ segFirst (1024 * t.val + n.val)
      → v (ix2 ⟨a, ha⟩ j) = if segFirst (1024 * t.val + n.val) then 0 else v (ix2 n j) :=
    fun a ha e h => (row a ha e).trans (if_neg h).symm
  pointwise [prevRows, mask8]
  unfold segFirst at mask plain ⊢
  split
  · exact mask _ _ _ (by omega) n.isLt _ f0 (by omega) (by omega)
  split
  · exact plain _ _ (by omega) (by omega)
  split
  · exact mask _ _ _ (by omega) (by omega) _ f1 (by omega) (by omega)
  split
  · exact plain _ _ (by omega) (by omega)
  split
  · exact mask _ _ _ (by omega) (by omega) _ f2 (by omega) (by omega)
  split
  · exact plain _ _ (by omega) (by omega)
  split
  · exact mask _ _ _ (by omega) (by omega) _ f3 (by omega) (by omega)
  · exact plain _ _ (by omega) (by omega)

theorem next_apply (t : Fin 16) (v : FVec Ideal S1024x256 .f32) (n : Fin 1024) (j : Fin 256) :
    nextRows (BitVec.ofNat 32 t.val) v (ix2 n j) = if segLast (1024 * t.val + n.val) then 0 else v (ix2 n j) := by
  have f0 : lastW (BitVec.ofNat 32 t.val) 0#32 = 1#1 ↔ (t.val < 8 ∨ (4 * t.val + 0) % 16 = 15) := last_iff t 0
  have f1 : lastW (BitVec.ofNat 32 t.val) 256#32 = 1#1 ↔ (t.val < 8 ∨ (4 * t.val + 1) % 16 = 15) := last_iff t 1
  have f2 : lastW (BitVec.ofNat 32 t.val) 512#32 = 1#1 ↔ (t.val < 8 ∨ (4 * t.val + 2) % 16 = 15) := last_iff t 2
  have f3 : lastW (BitVec.ofNat 32 t.val) 768#32 = 1#1 ↔ (t.val < 8 ∨ (4 * t.val + 3) % 16 = 15) := last_iff t 3
  have row : ∀ (a : ℕ) (ha : a < 1024), a = n.val → v (ix2 ⟨a, ha⟩ j) = v (ix2 n j) := fun a ha e => by subst e; rfl
  have mask : ∀ (w : BitVec 1) (m a : ℕ) (hm : m < 8) (ha : a < 1024) (P : Prop), (w = 1#1 ↔ P) → a = n.val
      → (m = 7 ∧ P ↔ segLast (1024 * t.val + n.val))
      → Scalar.select (IntOp.andi (IntOp.cmpi CmpIPredicate.eq (BitVec.ofNat 32 m) 7#32) w) 0 (v (ix2 ⟨a, ha⟩ j))
        = if segLast (1024 * t.val + n.val) then 0 else v (ix2 n j) :=
    fun w m a hm ha P hw e hP => (select_row 7 w m hm _).trans (if_congr ((and_congr Iff.rfl hw).trans hP) rfl (row a ha e))
  have plain : ∀ (a : ℕ) (ha : a < 1024), a = n.val → ¬ segLast (1024 * t.val + n.val)
      → v (ix2 ⟨a, ha⟩ j) = if segLast (1024 * t.val + n.val) then 0 else v (ix2 n j) :=
    fun a ha e h => (row a ha e).trans (if_neg h).symm
  pointwise [nextRows, mask8]
  unfold segLast at mask plain ⊢
  split
  · exact plain _ _ (by omega) (by omega)
  split
  · exact mask _ _ _ (by omega) (by omega) _ f0 (by omega) (by omega)
  split
  · exact plain _ _ (by omega) (by omega)
  split
  · exact mask _ _ _ (by omega) (by omega) _ f1 (by omega) (by omega)
  split
  · exact plain _ _ (by omega) (by omega)
  split
  · exact mask _ _ _ (by omega) (by omega) _ f2 (by omega) (by omega)
  split
  · exact plain _ _ (by omega) (by omega)
  · exact mask _ _ _ (by omega) (by omega) _ f3 (by omega) (by omega)

theorem rot_prev (u : FVec Ideal S1056x256 .f32) (n : Fin 1024) (j : Fin 256) :
    extractStridedSlice S1024x256 ![16, 0] (dynamicRotate 0 1#32 none u rotates_S1056x256_d0) slices_S1056x256_o16_0_S1024x256 (ix2 n j)
      = u (ix2 ⟨15 + n.val, by omega⟩ j) := by
  pointwise
  exact congrArg (fun a => u (ix2 a j)) (Fin.ext (show (16 + n.val + 1056 - 1) % 1056 = 15 + n.val by omega))

theorem rot_next (u : FVec Ideal S1056x256 .f32) (n : Fin 1024) (j : Fin 256) :
    extractStridedSlice S1024x256 ![16, 0] (dynamicRotate 0 1055#32 none u rotates_S1056x256_d0) slices_S1056x256_o16_0_S1024x256 (ix2 n j)
      = u (ix2 ⟨17 + n.val, by omega⟩ j) := by
  pointwise
  exact congrArg (fun a => u (ix2 a j)) (Fin.ext (show (16 + n.val + 1056 - 1055) % 1056 = 17 + n.val by omega))

theorem conv_apply (t : Fin 16) (u : FVec Ideal S1056x256 .f32) (cw : Vec Ideal S3x256 .f32) (cb : Vec Ideal S1x256 .f32)
    (n : Fin 1024) (j : Fin 256) :
    convBlk (BitVec.ofNat 32 t.val) u cw cb (ix2 n j)
      = convF (1024 * t.val + n.val) (u (ix2 ⟨15 + n.val, by omega⟩ j)) (u (ix2 ⟨16 + n.val, by omega⟩ j)) (u (ix2 ⟨17 + n.val, by omega⟩ j))
          (cw (ix2 0 j)) (cw (ix2 1 j)) (cw (ix2 2 j)) (cb (ix2 0 j)) := by
  pointwise [convBlk, tap0, tap1, tap2]
  rw [prev_apply, next_apply, rot_prev, rot_next]
  rfl

/-- Chunk `c` of the activations at column `m`, which is column `256 c + m`. -/
theorem actC_apply (t : Fin 16) (h : FVec Ideal S1056x1024 .bf16) (x7 : Vec Ideal S1x1024x5632 .bf16) (x8 : Vec Ideal S3x5632 .f32)
    (x9 : Vec Ideal S1x5632 .f32) (c : Fin 11) (n : Fin 1024) (m : Fin 256) :
    actC (BitVec.ofNat 32 t.val) h x7 x8 x9 c (ix2 n m)
      = (fun cv : Fin 5632 → EReal => gateF (cv ⟨256 * c.val + m.val, by omega⟩) (cv ⟨2816 + 256 * c.val + m.val, by omega⟩))
        (fun f => convF (1024 * t.val + n.val) (∑ k : Fin 1024, h (ix2 ⟨15 + n.val, by omega⟩ k) * x7 (ix3 0 k f))
          (∑ k : Fin 1024, h (ix2 ⟨16 + n.val, by omega⟩ k) * x7 (ix3 0 k f)) (∑ k : Fin 1024, h (ix2 ⟨17 + n.val, by omega⟩ k) * x7 (ix3 0 k f))
          (x8 (ix2 0 f)) (x8 (ix2 1 f)) (x8 (ix2 2 f)) (x9 (ix2 0 f))) := by
  unfold actC actBlk
  pointwise [gateBlk]
  rw [conv_apply, conv_apply]
  simp only [proj_apply]
  rfl

/-- The eleven chunks side by side. -/
def catA (A : Fin 11 → FVec Ideal S1024x256 .bf16) : FVec Ideal S1024x2816 .bf16 :=
  concatenate S1024x2816 1 [⟨S1024x256, A 0⟩, ⟨S1024x256, A 1⟩, ⟨S1024x256, A 2⟩, ⟨S1024x256, A 3⟩, ⟨S1024x256, A 4⟩, ⟨S1024x256, A 5⟩,
    ⟨S1024x256, A 6⟩, ⟨S1024x256, A 7⟩, ⟨S1024x256, A 8⟩, ⟨S1024x256, A 9⟩, ⟨S1024x256, A 10⟩]
    concatenates_S1024x256_S1024x256_S1024x256_S1024x256_S1024x256_S1024x256_S1024x256_S1024x256_S1024x256_S1024x256_S1024x256_S1024x2816_d1

theorem dite_of {P : Prop} [Decidable P] {a : P → EReal} {b : ¬ P → EReal} {z : EReal} (h1 : ∀ h, a h = z) (h2 : ∀ h, b h = z) :
    dite P a b = z := by
  by_cases h : P
  · rw [dif_pos h, h1]
  · rw [dif_neg h, h2]

theorem catA_apply (A : Fin 11 → FVec Ideal S1024x256 .bf16) (n : Fin 1024) (f : Fin 2816) :
    catA A (ix2 n f) = A ⟨f.val / 256, by omega⟩ (ix2 n ⟨f.val % 256, Nat.mod_lt _ (by decide)⟩) := by
  have pick : ∀ (k : ℕ) (hk : k < 11) (y : ℕ) (hy : y < 256), k = f.val / 256 → y = f.val % 256
      → A ⟨k, hk⟩ (ix2 n ⟨y, hy⟩) = A ⟨f.val / 256, by omega⟩ (ix2 n ⟨f.val % 256, Nat.mod_lt _ (by decide)⟩) := by
    rintro k hk y hy rfl rfl; rfl
  pointwise [catA]
  refine dite_of (fun _ => pick 0 _ _ _ (by omega) (by omega)) fun _ => ?_
  refine dite_of (fun _ => pick 1 _ _ _ (by omega) (by omega)) fun _ => ?_
  refine dite_of (fun _ => pick 2 _ _ _ (by omega) (by omega)) fun _ => ?_
  refine dite_of (fun _ => pick 3 _ _ _ (by omega) (by omega)) fun _ => ?_
  refine dite_of (fun _ => pick 4 _ _ _ (by omega) (by omega)) fun _ => ?_
  refine dite_of (fun _ => pick 5 _ _ _ (by omega) (by omega)) fun _ => ?_
  refine dite_of (fun _ => pick 6 _ _ _ (by omega) (by omega)) fun _ => ?_
  refine dite_of (fun _ => pick 7 _ _ _ (by omega) (by omega)) fun _ => ?_
  refine dite_of (fun _ => pick 8 _ _ _ (by omega) (by omega)) fun _ => ?_
  refine dite_of (fun _ => pick 9 _ _ _ (by omega) (by omega)) fun _ => ?_
  exact pick 10 _ _ _ (by omega) (by omega)

/-- The down projection of an array of activations, joined to the residual. -/
def joinBlk (xt : Vec Ideal S1024x1024 .f32) (a : FVec Ideal S1024x2816 .bf16) (ga : Vec Ideal S1x1x1024 .f32) (wd : Vec Ideal S1x2816x1024 .bf16) :
    FVec Ideal S1024x1024 .f32 :=
  addf xt (mulf (broadcastTo S1024x1024 (shapeCast S1x1024 ga shapeCasts_S1x1x1024_S1x1024) broadcasts_S1x1024_S1024x1024)
    (matmul dot_S1024x2816_S2816x1024_S1024x1024_1_0_0_1_n_n none a (shapeCast S2816x1024 wd shapeCasts_S1x2816x1024_S2816x1024 : FVec Ideal S2816x1024 .bf16)
      (constant S1024x1024 .f32 0x00000000#32)))

theorem down_apply (xt : Vec Ideal S1024x1024 .f32) (A : Fin 11 → FVec Ideal S1024x256 .bf16) (ga : Vec Ideal S1x1x1024 .f32)
    (wd : Vec Ideal S1x2816x1024 .bf16) (n : Fin 1024) (j : Fin 1024) :
    downBlk xt A ga wd (ix2 n j) = xt (ix2 n j) + ga (ix3 0 0 j)
      * ∑ f : Fin 2816, A ⟨f.val / 256, by omega⟩ (ix2 n ⟨f.val % 256, Nat.mod_lt _ (by decide)⟩) * wd (ix3 0 f j) := by
  show joinBlk xt (catA A) ga wd (ix2 n j) = _
  pointwise [joinBlk, dot_S1024x2816_S2816x1024_S1024x1024_1_0_0_1_n_n]
  simp only [catA_apply]

end Cert.Proof.Ffn

end
-- ==== Proof.FfnTile.lean ====
/- A tile of the feed-forward layer: from the blocks of rows `1024 t …`, the 16 rows before and after (clamped at the array's
   ends, where they are masked) and the modulation rows of its sequence, the kernel's block is those rows of `outG`. -/
module

public import proofs.«01_k».proof.Proof.FfnRead

@[expose] public section

noncomputable section

namespace Cert.Proof.Ffn

open Cert.KernelFfnIdeal Cert.KernelFfnIdeal.Gen Idealize.ShloMosaic
open Idealize.ShloMosaic.Pointwise

/-- The modulation row of a tile. -/
def segT (t : ℕ) : ℕ := if t < 8 then 0 else if t < 12 then 1 else 2

theorem segT_eq (t n : ℕ) (hn : n < 1024) : segT t = (segOf (1024 * t + n)).val := by
  unfold segT segOf
  split_ifs <;> first | rfl | (exfalso; omega)

/-- The blocks of tile `t` of the arguments `A`, at an index. -/
structure IsTile (A : Args) (t : ℕ) (x0 : Vec Ideal S16x1024 .f32) (x1 : Vec Ideal S1024x1024 .f32) (x2 : Vec Ideal S16x1024 .f32)
    (x3 : Vec Ideal S1x1024 .f32) (x4 x5 x6 : Vec Ideal S1x1x1024 .f32) (x7 : Vec Ideal S1x1024x5632 .bf16) (x8 : Vec Ideal S3x5632 .f32)
    (x9 : Vec Ideal S1x5632 .f32) (x10 : Vec Ideal S1x2816x1024 .bf16) : Prop where
  lt : t < 16
  b0 : ∀ (r : Fin 16) (k : Fin 1024), x0 (ix2 r k) = xG A (16 * (64 * t - 1) + r.val) k
  b1 : ∀ (r k : Fin 1024), x1 (ix2 r k) = xG A (1024 * t + r.val) k
  b2 : ∀ (r : Fin 16) (k : Fin 1024), x2 (ix2 r k) = xG A (16 * min (64 * t + 64) 1023 + r.val) k
  b3 : ∀ k : Fin 1024, x3 (ix2 0 k) = A.g (ix1 k)
  b4 : ∀ (n : ℕ) (_ : n < 1024) (k : Fin 1024), x4 (ix3 0 0 k) = A.sh (ix3 (segOf (1024 * t + n)) 0 k)
  b5 : ∀ (n : ℕ) (_ : n < 1024) (k : Fin 1024), x5 (ix3 0 0 k) = A.sc (ix3 (segOf (1024 * t + n)) 0 k)
  b6 : ∀ (n : ℕ) (_ : n < 1024) (k : Fin 1024), x6 (ix3 0 0 k) = A.ga (ix3 (segOf (1024 * t + n)) 0 k)
  b7 : ∀ (k : Fin 1024) (f : Fin 5632), x7 (ix3 0 k f) = A.wu (ix3 A.layer k f)
  b8 : ∀ (k : Fin 3) (f : Fin 5632), x8 (ix2 k f) = A.cw (ix2 k f)
  b9 : ∀ f : Fin 5632, x9 (ix2 0 f) = A.cb (ix1 f)
  b10 : ∀ (f : Fin 2816) (k : Fin 1024), x10 (ix3 0 f k) = A.wd (ix3 A.layer f k)

variable {A : Args} {t : ℕ} {x0 : Vec Ideal S16x1024 .f32} {x1 : Vec Ideal S1024x1024 .f32} {x2 : Vec Ideal S16x1024 .f32}
  {x3 : Vec Ideal S1x1024 .f32} {x4 x5 x6 : Vec Ideal S1x1x1024 .f32} {x7 : Vec Ideal S1x1024x5632 .bf16} {x8 : Vec Ideal S3x5632 .f32}
  {x9 : Vec Ideal S1x5632 .f32} {x10 : Vec Ideal S1x2816x1024 .bf16}
variable (T : IsTile A t x0 x1 x2 x3 x4 x5 x6 x7 x8 x9 x10)

include T in
/-- The normed rows of a tile with its halo are those of the whole array, inside the tile's sequence. -/
theorem hrow (r : Fin 1056) (k : Fin 1024) (M : ℕ) (hM : M + 16 = 1024 * t + r.val) (hlt : M < 16384)
    (hs : segOf M = segOf (1024 * t)) :
    hBlk x3 x4 x5 x0 x1 x2 (ix2 r k) = hG A M k := by
  have ht := T.lt
  rw [hBlk_apply]
  unfold hG
  have ex : (fun l : Fin 1024 => if h : r.val < 16 then x0 (ix2 ⟨r.val, h⟩ l)
      else if h : r.val - 16 < 1024 then x1 (ix2 ⟨r.val - 16, h⟩ l)
      else x2 (ix2 ⟨r.val - 16 - 1024, by omega⟩ l)) = xG A M := by
    funext l
    refine dite_of (fun h => (T.b0 _ l).trans (congrArg (fun a => xG A a l) (show 16 * (64 * t - 1) + r.val = M by omega))) fun h0 =>
      dite_of (fun h => (T.b1 _ l).trans (congrArg (fun a => xG A a l) (show 1024 * t + (r.val - 16) = M by omega))) fun h1 =>
      (T.b2 _ l).trans (congrArg (fun a => xG A a l) (show 16 * min (64 * t + 64) 1023 + (r.val - 16 - 1024) = M by omega))
  have eg : (fun l : Fin 1024 => x3 (ix2 0 l)) = fun l => A.g (ix1 l) := funext fun l => T.b3 l
  have e4 : (fun l : Fin 1024 => x4 (ix3 0 0 l)) = fun l => A.sh (ix3 (segOf M) 0 l) :=
    funext fun l => hs ▸ T.b4 0 (by omega) l
  have e5 : (fun l : Fin 1024 => x5 (ix3 0 0 l)) = fun l => A.sc (ix3 (segOf M) 0 l) :=
    funext fun l => hs ▸ T.b5 0 (by omega) l
  rw [ex, eg, e4, e5]

theorem segOf_tile (t n : ℕ) (hn : n < 1024) : segOf (1024 * t + n) = segOf (1024 * t) := by
  unfold segOf; split_ifs <;> first | rfl | (exfalso; omega)
theorem segOf_prev (N : ℕ) (h : ¬ segFirst N) : segOf (N - 1) = segOf N := by
  unfold segFirst at h; unfold segOf; split_ifs <;> first | rfl | (exfalso; omega)
theorem segOf_next (N : ℕ) (h : ¬ segLast N) : segOf (N + 1) = segOf N := by
  unfold segLast at h; unfold segOf; split_ifs <;> first | rfl | (exfalso; omega)

/-- `convF` looks at the neighbouring rows only inside the segment. -/
theorem convF_congr (N : ℕ) (up up' uc un un' c0 c1 c2 b : EReal) (hp : ¬ segFirst N → up = up') (hn : ¬ segLast N → un = un') :
    convF N up uc un c0 c1 c2 b = convF N up' uc un' c0 c1 c2 b := by
  unfold convF
  have e1 : (if segFirst N then (0 : EReal) else up) = if segFirst N then 0 else up' := by
    by_cases h : segFirst N
    · rw [if_pos h, if_pos h]
    · rw [if_neg h, if_neg h, hp h]
  have e2 : (if segLast N then (0 : EReal) else un) = if segLast N then 0 else un' := by
    by_cases h : segLast N
    · rw [if_pos h, if_pos h]
    · rw [if_neg h, if_neg h, hn h]
  rw [e1, e2]

include T in
/-- One column of the convolution of a tile is that of the whole array. -/
theorem conv_tile (n : Fin 1024) (f : Fin 5632) (h : FVec Ideal S1056x1024 .bf16) (w : Vec Ideal S1x1024x5632 .bf16)
    (cw : Vec Ideal S3x5632 .f32) (cb : Vec Ideal S1x5632 .f32)
    (eh : h = hBlk x3 x4 x5 x0 x1 x2)
    (ew : w = x7) (ec : cw = x8) (eb : cb = x9) :
    convF (1024 * t + n.val) (∑ k : Fin 1024, h (ix2 ⟨15 + n.val, by omega⟩ k) * w (ix3 0 k f))
          (∑ k : Fin 1024, h (ix2 ⟨16 + n.val, by omega⟩ k) * w (ix3 0 k f)) (∑ k : Fin 1024, h (ix2 ⟨17 + n.val, by omega⟩ k) * w (ix3 0 k f))
          (cw (ix2 0 f)) (cw (ix2 1 f)) (cw (ix2 2 f)) (cb (ix2 0 f))
      = convG A (1024 * t + n.val) f := by
  have ht := T.lt
  have es := segOf_tile t n.val n.isLt
  have row : ∀ (r : Fin 1056) (M : ℕ), M + 16 = 1024 * t + r.val → M < 16384 → segOf M = segOf (1024 * t)
      → (∑ k : Fin 1024, h (ix2 r k) * w (ix3 0 k f)) = uG A M f := fun r M h1 h2 h3 =>
    Finset.sum_congr rfl fun k _ => congrArg₂ (· * ·) ((congrFun eh _).trans (hrow T r k M h1 h2 h3)) ((congrFun ew _).trans (T.b7 k f))
  unfold convG
  rw [row ⟨16 + n.val, by omega⟩ (1024 * t + n.val) (show _ = 1024 * t + (16 + n.val) by omega) (by omega) es,
    (congrFun ec (ix2 0 f)).trans (T.b8 0 f), (congrFun ec (ix2 1 f)).trans (T.b8 1 f), (congrFun ec (ix2 2 f)).trans (T.b8 2 f),
    (congrFun eb (ix2 0 f)).trans (T.b9 f)]
  refine convF_congr _ _ _ _ _ _ _ _ _ _ (fun hf => ?_) (fun hl => ?_)
  · refine row _ _ (show 1024 * t + n.val - 1 + 16 = 1024 * t + (15 + n.val) from ?_) (by omega) ((segOf_prev _ hf).trans es)
    unfold segFirst at hf; omega
  · refine row _ _ (show 1024 * t + n.val + 1 + 16 = 1024 * t + (17 + n.val) by omega) ?_ ((segOf_next _ hl).trans es)
    unfold segLast at hl; omega

include T in
/-- The block a grid point leaves is its rows of the layer's result. -/
theorem out_tile (n j : Fin 1024) :
    downBlk x1 (actC (BitVec.ofNat 32 t)
        (hBlk x3 x4 x5 x0 x1 x2) x7 x8 x9)
      x6 x10 (ix2 n j) = outG A (1024 * t + n.val) j := by
  have hd : ∀ f : Fin 2816, f.val / 256 < 11 := fun f => by omega
  rw [down_apply]
  unfold outG
  refine congrArg₂ (· + ·) (T.b1 n j) (congrArg₂ (· * ·) (T.b6 n.val n.isLt j) (Finset.sum_congr rfl fun f _ =>
    congrArg₂ (· * ·) ?_ (T.b10 f j)))
  refine (actC_apply (⟨t, T.lt⟩ : Fin 16) _ _ _ _ ⟨f.val / 256, hd f⟩ n ⟨f.val % 256, Nat.mod_lt _ (by decide)⟩).trans ?_
  unfold actG
  refine congrArg₂ gateF ((conv_tile T n _ _ _ _ _ rfl rfl rfl rfl).trans (congrArg (convG A _) (Fin.ext ?_)))
    ((conv_tile T n _ _ _ _ _ rfl rfl rfl rfl).trans (congrArg (convG A _) (Fin.ext ?_)))
  · show 256 * (f.val / 256) + f.val % 256 = f.val; omega
  · show 2816 + 256 * (f.val / 256) + f.val % 256 = 2816 + f.val; omega

end Cert.Proof.Ffn

end
-- ==== Proof.FfnRun.lean ====
/- The result array of the feed-forward kernel as a function of the argument arrays, over the reals: grid point `t` leaves
   rows `1024 t …` of `outA`. Its halo blocks are the 16 rows before and after its tile (clamped at the array's ends, where
   they are masked), and its modulation blocks are the rows of its sequence. -/
module

public import proofs.«01_k».proof.Proof.FfnTile
public import Idealize.ShloMosaic.Lib.StableHlo.Run

@[expose] public section

noncomputable section

namespace Cert.Proof.Ffn

open Cert.KernelFfnIdeal Cert.KernelFfnIdeal.Gen Cert.KernelFfnIdeal.Value Idealize.ShloMosaic Idealize.ShloMosaic.TcCoe Idealize.SL.Sem
open Idealize.ShloMosaic.Pointwise

variable (m : (ℓ : Loc nD τ sig) → Buf (Elt Ideal) ℓ) (ρ : Dev nD → PrngReg)

/-- The arguments a core's buffers hold. -/
def args (c : Dev nD) : Args where
  x := m ((c : Thread nD τ).loc main_arg0)
  g := m ((c : Thread nD τ).loc main_arg1)
  sh := m ((c : Thread nD τ).loc main_arg2)
  sc := m ((c : Thread nD τ).loc main_arg3)
  ga := m ((c : Thread nD τ).loc main_arg4)
  wu := m ((c : Thread nD τ).loc main_arg5)
  cw := m ((c : Thread nD τ).loc main_arg6)
  cb := m ((c : Thread nD τ).loc main_arg7)
  wd := m ((c : Thread nD τ).loc main_arg8)
  layer := 0

/-- The two reshaped arguments. -/
theorem V_v0 (c : Dev nD) (f : Fin 5632) : V m c main_v0 (ix2 (n0 := 1) (n1 := 5632) 0 f) = (args m c).cb (ix1 f) := by
  have h : V m c main_v0 = shapeCast S1x5632 (m ((c : Thread nD τ).loc main_arg7)) shapeCasts_S5632_S1x5632 := by
    show StableHlo.after hostOps0 (fun b => m (c, b)) (Proc.devRef .tc main_v0) = _
    unfold hostOps0
    after_results_simp
    rfl
  rw [h]
  exact shapeCast_apply _ shapeCasts_S5632_S1x5632 _ (ix1 (n0 := 5632) f)
    (by rw [Shape.rowMajor_val_one, Shape.rowMajor_val_two]; show f.val = 0 * 5632 + f.val; omega)
theorem V_v1 (c : Dev nD) (k : Fin 1024) : V m c main_v1 (ix2 (n0 := 1) (n1 := 1024) 0 k) = (args m c).g (ix1 k) := by
  have h : V m c main_v1 = shapeCast S1x1024 (m ((c : Thread nD τ).loc main_arg1)) shapeCasts_S1024_S1x1024 := by
    show StableHlo.after hostOps0 (fun b => m (c, b)) (Proc.devRef .tc main_v1) = _
    unfold hostOps0
    after_results_simp
    rfl
  rw [h]
  pointwise
  rfl

theorem idx0 : ∀ t : Fin cfg0.N, win0_0.index t (0 : Fin 2) = 64 * t.val - 1 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = min (64 * t.val + 64) 1023 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = segT t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = segT t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = segT t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 16 := t.isLt

/-- The blocks at an index. -/
theorem blk0 (c : Dev nD) (t : Fin cfg0.N) (r : Fin 16) (k : Fin 1024) :
    (iblk m c 0 t : Vec Ideal S16x1024 .f32) (ix2 r k) = xG (args m c) (16 * (64 * t.val - 1) + r.val) k := by
  obtain ⟨e0, e1⟩ := idx0 t
  have h := t_lt t
  refine (congrFun (V_main_arg0 m c) _).trans (congrArg (args m c).x (funext fun a => Fin.ext ?_))
  match a with
  | ⟨0, _⟩ => show win0_0.index t (0 : Fin 2) * 16 + 1 * r.val = min (16 * (64 * t.val - 1) + r.val) 16383; omega
  | ⟨1, _⟩ => show win0_0.index t (1 : Fin 2) * 1024 + 1 * k.val = k.val; omega
theorem blk1 (c : Dev nD) (t : Fin cfg0.N) (r : Fin 1024) (k : Fin 1024) :
    (iblk m c 1 t : Vec Ideal S1024x1024 .f32) (ix2 r k) = xG (args m c) (1024 * t.val + r.val) k := by
  obtain ⟨e0, e1⟩ := idx1 t
  have h := t_lt t
  refine (congrFun (V_main_arg0 m c) _).trans (congrArg (args m c).x (funext fun a => Fin.ext ?_))
  match a with
  | ⟨0, _⟩ => show win0_1.index t (0 : Fin 2) * 1024 + 1 * r.val = min (1024 * t.val + r.val) 16383; omega
  | ⟨1, _⟩ => show win0_1.index t (1 : Fin 2) * 1024 + 1 * k.val = k.val; omega
theorem blk2 (c : Dev nD) (t : Fin cfg0.N) (r : Fin 16) (k : Fin 1024) :
    (iblk m c 2 t : Vec Ideal S16x1024 .f32) (ix2 r k) = xG (args m c) (16 * min (64 * t.val + 64) 1023 + r.val) k := by
  obtain ⟨e0, e1⟩ := idx2 t
  have h := t_lt t
  refine (congrFun (V_main_arg0 m c) _).trans (congrArg (args m c).x (funext fun a => Fin.ext ?_))
  match a with
  | ⟨0, _⟩ => show win0_2.index t (0 : Fin 2) * 16 + 1 * r.val = min (16 * min (64 * t.val + 64) 1023 + r.val) 16383; omega
  | ⟨1, _⟩ => show win0_2.index t (1 : Fin 2) * 1024 + 1 * k.val = k.val; omega
theorem blk3 (c : Dev nD) (t : Fin cfg0.N) (k : Fin 1024) :
    (iblk m c 3 t : Vec Ideal S1x1024 .f32) (ix2 0 k) = (args m c).g (ix1 k) := by
  obtain ⟨e0, e1⟩ := idx3 t
  refine Eq.trans (congrArg (V m c main_v1) (funext fun a => Fin.ext ?_)) (V_v1 m c k)
  match a with
  | ⟨0, _⟩ => show win0_3.index t (0 : Fin 2) * 1 + 1 * 0 = 0; omega
  | ⟨1, _⟩ => show win0_3.index t (1 : Fin 2) * 1024 + 1 * k.val = k.val; omega
theorem blk4 (c : Dev nD) (t : Fin cfg0.N) (n : ℕ) (hn : n < 1024) (k : Fin 1024) :
    (iblk m c 4 t : Vec Ideal S1x1x1024 .f32) (ix3 0 0 k) = (args m c).sh (ix3 (segOf (1024 * t.val + n)) 0 k) := by
  obtain ⟨e0, e1, e2⟩ := idx4 t
  have h := segT_eq t.val n hn
  refine (congrFun (V_main_arg2 m c) _).trans (congrArg (args m c).sh (funext fun a => Fin.ext ?_))
  match a with
  | ⟨0, _⟩ => show win0_4.index t (0 : Fin 3) * 1 + 1 * 0 = (segOf (1024 * t.val + n)).val; omega
  | ⟨1, _⟩ => show win0_4.index t (1 : Fin 3) * 1 + 1 * 0 = 0; omega
  | ⟨2, _⟩ => show win0_4.index t (2 : Fin 3) * 1024 + 1 * k.val = k.val; omega
theorem blk5 (c : Dev nD) (t : Fin cfg0.N) (n : ℕ) (hn : n < 1024) (k : Fin 1024) :
    (iblk m c 5 t : Vec Ideal S1x1x1024 .f32) (ix3 0 0 k) = (args m c).sc (ix3 (segOf (1024 * t.val + n)) 0 k) := by
  obtain ⟨e0, e1, e2⟩ := idx5 t
  have h := segT_eq t.val n hn
  refine (congrFun (V_main_arg3 m c) _).trans (congrArg (args m c).sc (funext fun a => Fin.ext ?_))
  match a with
  | ⟨0, _⟩ => show win0_5.index t (0 : Fin 3) * 1 + 1 * 0 = (segOf (1024 * t.val + n)).val; omega
  | ⟨1, _⟩ => show win0_5.index t (1 : Fin 3) * 1 + 1 * 0 = 0; omega
  | ⟨2, _⟩ => show win0_5.index t (2 : Fin 3) * 1024 + 1 * k.val = k.val; omega
theorem blk6 (c : Dev nD) (t : Fin cfg0.N) (n : ℕ) (hn : n < 1024) (k : Fin 1024) :
    (iblk m c 6 t : Vec Ideal S1x1x1024 .f32) (ix3 0 0 k) = (args m c).ga (ix3 (segOf (1024 * t.val + n)) 0 k) := by
  obtain ⟨e0, e1, e2⟩ := idx6 t
  have h := segT_eq t.val n hn
  refine (congrFun (V_main_arg4 m c) _).trans (congrArg (args m c).ga (funext fun a => Fin.ext ?_))
  match a with
  | ⟨0, _⟩ => show win0_6.index t (0 : Fin 3) * 1 + 1 * 0 = (segOf (1024 * t.val + n)).val; omega
  | ⟨1, _⟩ => show win0_6.index t (1 : Fin 3) * 1 + 1 * 0 = 0; omega
  | ⟨2, _⟩ => show win0_6.index t (2 : Fin 3) * 1024 + 1 * k.val = k.val; omega
theorem blk7 (c : Dev nD) (t : Fin cfg0.N) (k : Fin 1024) (f : Fin 5632) :
    (iblk m c 7 t : Vec Ideal S1x1024x5632 .bf16) (ix3 0 k f) = (args m c).wu (ix3 (args m c).layer k f) := by
  obtain ⟨e0, e1, e2⟩ := idx7 t
  refine (congrFun (V_main_arg5 m c) _).trans (congrArg (args m c).wu (funext fun a => Fin.ext ?_))
  match a with
  | ⟨0, _⟩ => show win0_7.index t (0 : Fin 3) * 1 + 1 * 0 = 0; omega
  | ⟨1, _⟩ => show win0_7.index t (1 : Fin 3) * 1024 + 1 * k.val = k.val; omega
  | ⟨2, _⟩ => show win0_7.index t (2 : Fin 3) * 5632 + 1 * f.val = f.val; omega
theorem blk8 (c : Dev nD) (t : Fin cfg0.N) (k : Fin 3) (f : Fin 5632) :
    (iblk m c 8 t : Vec Ideal S3x5632 .f32) (ix2 k f) = (args m c).cw (ix2 k f) := by
  obtain ⟨e0, e1⟩ := idx8 t
  refine (congrFun (V_main_arg6 m c) _).trans (congrArg (args m c).cw (funext fun a => Fin.ext ?_))
  match a with
  | ⟨0, _⟩ => show win0_8.index t (0 : Fin 2) * 3 + 1 * k.val = k.val; omega
  | ⟨1, _⟩ => show win0_8.index t (1 : Fin 2) * 5632 + 1 * f.val = f.val; omega
theorem blk9 (c : Dev nD) (t : Fin cfg0.N) (f : Fin 5632) :
    (iblk m c 9 t : Vec Ideal S1x5632 .f32) (ix2 0 f) = (args m c).cb (ix1 f) := by
  obtain ⟨e0, e1⟩ := idx9 t
  refine Eq.trans (congrArg (V m c main_v0) (funext fun a => Fin.ext ?_)) (V_v0 m c f)
  match a with
  | ⟨0, _⟩ => show win0_9.index t (0 : Fin 2) * 1 + 1 * 0 = 0; omega
  | ⟨1, _⟩ => show win0_9.index t (1 : Fin 2) * 5632 + 1 * f.val = f.val; omega
theorem blk10 (c : Dev nD) (t : Fin cfg0.N) (f : Fin 2816) (k : Fin 1024) :
    (iblk m c 10 t : Vec Ideal S1x2816x1024 .bf16) (ix3 0 f k) = (args m c).wd (ix3 (args m c).layer f k) := by
  obtain ⟨e0, e1, e2⟩ := idx10 t
  refine (congrFun (V_main_arg8 m c) _).trans (congrArg (args m c).wd (funext fun a => Fin.ext ?_))
  match a with
  | ⟨0, _⟩ => show win0_10.index t (0 : Fin 3) * 1 + 1 * 0 = 0; omega
  | ⟨1, _⟩ => show win0_10.index t (1 : Fin 3) * 2816 + 1 * f.val = f.val; omega
  | ⟨2, _⟩ => show win0_10.index t (2 : Fin 3) * 1024 + 1 * k.val = k.val; omega

/-- They are the blocks of its tile. -/
theorem tile (c : Dev nD) (t : Fin cfg0.N) : IsTile (args m c) t.val (iblk m c 0 t) (iblk m c 1 t) (iblk m c 2 t) (iblk m c 3 t) (iblk m c 4 t)
    (iblk m c 5 t) (iblk m c 6 t) (iblk m c 7 t) (iblk m c 8 t) (iblk m c 9 t) (iblk m c 10 t) :=
  ⟨t_lt t, blk0 m c t, blk1 m c t, blk2 m c t, blk3 m c t, blk4 m c t, blk5 m c t, blk6 m c t, blk7 m c t, blk8 m c t, blk9 m c t, blk10 m c t⟩

/-- Where an index of a grid point's block lies in the array. -/
theorem emb11 (t : Fin cfg0.N) (j : S1024x1024.Idx) : ((cfg0.win 11).blk t).view.emb j
    = ix2 (n0 := 16384) (n1 := 1024) ⟨1024 * t.val + (j 0).val, by have : (j 0).val < 1024 := (j 0).isLt; have := t_lt t; omega⟩ (j 1) := by
  obtain ⟨e0, e1⟩ := idx11 t
  funext a; apply Fin.ext
  match a with
  | ⟨0, _⟩ => show win0_11.index t (0 : Fin 2) * 1024 + 1 * (j 0).val = 1024 * t.val + (j 0).val; omega
  | ⟨1, _⟩ => show win0_11.index t (1 : Fin 2) * 1024 + 1 * (j 1).val = (j 1).val; omega

/-- What a grid point writes back is its block of `outA`. -/
theorem flushed_eq (c : Dev nD) (t : Fin cfg0.N) :
    (dats m 0 c).flushed 11 t = ((cfg0.win 11).blk t).view.read (Elt Ideal) (outA (args m c)) := by
  rw [flushed11, out_block, coord t]
  refine funext fun (j : S1024x1024.Idx) => ?_
  have ej : j = ix2 (n0 := 1024) (n1 := 1024) (j 0) (j 1) := by funext a; match a with | ⟨0, _⟩ => rfl | ⟨1, _⟩ => rfl
  refine Eq.trans ?_ (congrArg (outA (args m c)) (emb11 t j)).symm
  refine Eq.trans ?_ (out_tile (tile m c t) (j 0) (j 1))
  rw [← ej]
  rfl

/-- Every index of the result is in the block of its tile's grid point. -/
theorem covered (i : S16384x1024.Idx) :
    ∃ t : Fin cfg0.N, (cfg0.win 11).flush t = true ∧ i ∈ ((cfg0.win 11).blk t).view.set := by
  have h0 : (i 0).val < 16384 := (i 0).isLt
  refine ⟨(⟨(i 0).val / 1024, show (i 0).val / 1024 < 16 by omega⟩ : Fin cfg0.N), flush0_11 _, ?_⟩
  have h := ((cfg0.win 11).blk (⟨(i 0).val / 1024, show (i 0).val / 1024 < 16 by omega⟩ : Fin cfg0.N)).view.emb_mem_set
    (ix2 (n0 := 1024) (n1 := 1024) ⟨(i 0).val % 1024, Nat.mod_lt _ (by decide)⟩ (i 1) : S1024x1024.Idx)
  rw [emb11] at h
  refine (congrArg (· ∈ _) (funext fun a => Fin.ext ?_)).mp h
  match a with
  | ⟨0, _⟩ => show 1024 * ((i 0).val / 1024) + (i 0).val % 1024 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v2) = outA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((dats m 0 c).arrAt_eq_of_cover 11 (outA (args m c)) (fun t _ => flushed_eq m c t) covered),
    (h c).2⟩) (run_blocks m ρ)

end Cert.Proof.Ffn

end
-- ==== Proof.FfnHost.lean ====
/- The stages of the plain feed-forward layer on whole arrays, for the context's 32 segments of 256 rows (`…C`) and for the
   two latent segments of 4096 rows (`…L`), each read at an index: the norm with its modulation, the convolution along a
   segment, the gate. -/
module

public import proofs.«01_k».proof.Proof.Gen.ReferenceFfnIdeal.Run
public import proofs.«01_k».proof.Proof.FfnSpec
public import Idealize.ShloMosaic.Lib.Pipeline.Value
public import Idealize.ShloMosaic.Lib.KernelVsHost

@[expose] public section

noncomputable section

namespace Cert.Proof.Ffn

open Cert.ReferenceFfnIdeal Cert.ReferenceFfnIdeal.Gen Idealize.ShloMosaic Idealize.ShloMosaic.TcCoe
open Idealize.ShloMosaic.Pointwise

/-- The scalar zero and one of the plain layer. -/
def zeroS : FVec Ideal S_ .f32 := constant S_ .f32 0x00000000#32
def oneS : FVec Ideal S_ .f32 := constant S_ .f32 0x3F800000#32

/-- The padding of the plain convolution, converted from an integer zero. -/
def padS : FVec Ideal S_ .f32 := sitofp .f32 (constantI S_ 32 0#32)

theorem padS_apply (i : S_.Idx) : padS i = 0 := by
  show (((0#32 : BitVec 32).toInt : ℝ) : EReal) = 0
  simp

/-- Row `a` of the convolution's weights as one row of an array. -/
def tapRow (a : ℕ) (h : S3x5632.Slices ![a, 0] S1x5632) (cw : FVec Ideal S3x5632 .f32) : FVec Ideal S1x1x5632 .f32 :=
  broadcastInDim S1x1x5632 ![2] bcast_S5632_S1x1x5632_2
    (shapeCast _ (extractStridedSlice S1x5632 ![a, 0] cw h) shapeCasts_S1x5632_S5632 : FVec Ideal S5632 .f32)

theorem flatRow_apply (w : FVec Ideal S1x5632 .f32) (f : Fin 5632) :
    (shapeCast _ w shapeCasts_S1x5632_S5632 : FVec Ideal S5632 .f32) (ix1 f) = w (ix2 0 f) :=
  shapeCast_apply _ shapeCasts_S1x5632_S5632 _ (ix2 0 f) (by
    rw [Shape.rowMajor_val_one, Shape.rowMajor_val_two]; show 0 * 5632 + f.val = f.val; omega)

theorem tapRow_apply (a : ℕ) (ha : a < 3) (h : S3x5632.Slices ![a, 0] S1x5632) (cw : FVec Ideal S3x5632 .f32) (f : Fin 5632) :
    tapRow a h cw (ix3 0 0 f) = cw (ix2 ⟨a, ha⟩ f) := by
  refine Eq.trans ?_ ((flatRow_apply (extractStridedSlice S1x5632 ![a, 0] cw h) f).trans ?_)
  · unfold tapRow
    generalize (shapeCast _ (extractStridedSlice S1x5632 ![a, 0] cw h) shapeCasts_S1x5632_S5632 : FVec Ideal S5632 .f32) = w
    pointwise
  · exact extractStridedSlice_apply _ _ _ _ _ (fun b => match b with | ⟨0, _⟩ => by show a = a + 0; omega | ⟨1, _⟩ => by show f.val = 0 + f.val; omega)

/- The context -/

/-- The context's rows normed, scaled and modulated. -/
def hC (x : FVec Ideal S32x256x1024 .f32) (g : FVec Ideal S1024 .f32) (sh sc : FVec Ideal S1x1x1024 .f32) : FVec Ideal S32x256x1024 .f32 :=
  (addf (mulf (mulf
    (mulf x (broadcastInDim S32x256x1024 ![0, 1, 2] bcast_S32x256x1_S32x256x1024_0_1_2
      (Host.rsqrt (addf (Host.divf
        (broadcastInDim S32x256x1 ![0, 1] bcast_S32x256_S32x256x1_0_1 (Host.reduceAdd (mulf x x) zeroS reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
    (broadcastInDim S32x256x1024 ![0, 1, 2] bcast_S1x1x1024_S32x256x1024_0_1_2 (broadcastInDim S1x1x1024 ![2] bcast_S1024_S1x1x1024_2 g)))
    (broadcastInDim S32x256x1024 ![0, 1, 2] bcast_S1x1x1024_S32x256x1024_0_1_2 (addf (broadcastInDim S1x1x1024 ![] bcast_S_S1x1x1024 oneS) sc)))
    (broadcastInDim S32x256x1024 ![0, 1, 2] bcast_S1x1x1024_S32x256x1024_0_1_2 sh))

theorem hC_apply (x : FVec Ideal S32x256x1024 .f32) (g : FVec Ideal S1024 .f32) (sh sc : FVec Ideal S1x1x1024 .f32)
    (b : Fin 32) (p : Fin 256) (k : Fin 1024) :
    hC x g sh sc (ix3 b p k) = nrm (fun l => x (ix3 b p l)) (fun l => g (ix1 l)) (fun l => sh (ix3 0 0 l)) (fun l => sc (ix3 0 0 l)) k := by
  pointwise [hC, zeroS, oneS]
  unfold nrm
  rfl

/-- The context's up projection between two rows of zeros. -/
def padC (u : FVec Ideal S32x256x5632 .f32) : FVec Ideal S32x258x5632 .f32 :=
  pad S32x258x5632 ![0, 1, 0] ![0, 1, 0] ![0, 0, 0] u padS pads_S32x256x5632_S32x258x5632_000_110_000 h_S_

theorem padC_inner (u : FVec Ideal S32x256x5632 .f32) (b : Fin 32) (q : Fin 258) (p : Fin 256) (f : Fin 5632) (h : q.val = 1 + p.val) :
    padC u (ix3 b q f) = u (ix3 b p f) :=
  pad_apply_of_inside _ _ _ u padS pads_S32x256x5632_S32x258x5632_000_110_000 h_S_ _ (ix3 b p f) (fun a => match a with
    | ⟨0, _⟩ => by show b.val = 0 + b.val * (0 + 1); omega
    | ⟨1, _⟩ => by show q.val = 1 + p.val * (0 + 1); omega
    | ⟨2, _⟩ => by show f.val = 0 + f.val * (0 + 1); omega)

theorem padC_outer (u : FVec Ideal S32x256x5632 .f32) (b : Fin 32) (q : Fin 258) (f : Fin 5632) (h : q.val = 0 ∨ q.val = 257) :
    padC u (ix3 b q f) = 0 :=
  (pad_apply_of_not_inside _ _ _ u padS pads_S32x256x5632_S32x258x5632_000_110_000 h_S_ _ (1 : Fin 3) (fun hin => by
    have h1 : 1 ≤ q.val := hin.1
    have h2 : (q.val - 1) / (0 + 1) < 256 := hin.2.2
    omega)).trans (padS_apply _)

/-- The three taps of the context's convolution and the bias. -/
def tapsC (u : FVec Ideal S32x256x5632 .f32) (cw : FVec Ideal S3x5632 .f32) (cb : FVec Ideal S5632 .f32) : FVec Ideal S32x256x5632 .f32 :=
  addf (addf (addf
    (mulf (extractStridedSlice S32x256x5632 ![0, 0, 0] (padC u) slices_S32x258x5632_S32x256x5632_0_0_0)
      (broadcastInDim S32x256x5632 ![0, 1, 2] bcast_S1x1x5632_S32x256x5632_0_1_2 (tapRow 0 slices_S3x5632_S1x5632_0_0 cw)))
    (mulf (extractStridedSlice S32x256x5632 ![0, 1, 0] (padC u) slices_S32x258x5632_S32x256x5632_0_1_0)
      (broadcastInDim S32x256x5632 ![0, 1, 2] bcast_S1x1x5632_S32x256x5632_0_1_2 (tapRow 1 slices_S3x5632_S1x5632_1_0 cw))))
    (mulf (extractStridedSlice S32x256x5632 ![0, 2, 0] (padC u) slices_S32x258x5632_S32x256x5632_0_2_0)
      (broadcastInDim S32x256x5632 ![0, 1, 2] bcast_S1x1x5632_S32x256x5632_0_1_2 (tapRow 2 slices_S3x5632_S1x5632_2_0 cw))))
    (broadcastInDim S32x256x5632 ![0, 1, 2] bcast_S1x1x5632_S32x256x5632_0_1_2 (broadcastInDim S1x1x5632 ![2] bcast_S5632_S1x1x5632_2 cb))

theorem tapsC_apply (u : FVec Ideal S32x256x5632 .f32) (cw : FVec Ideal S3x5632 .f32) (cb : FVec Ideal S5632 .f32)
    (b : Fin 32) (p : Fin 256) (f : Fin 5632) :
    tapsC u cw cb (ix3 b p f)
      = padC u (ix3 b ⟨p.val, by omega⟩ f) * cw (ix2 0 f) + padC u (ix3 b ⟨1 + p.val, by omega⟩ f) * cw (ix2 1 f)
        + padC u (ix3 b ⟨2 + p.val, by omega⟩ f) * cw (ix2 2 f) + cb (ix1 f) := by
  have t0 := tapRow_apply 0 (by decide) slices_S3x5632_S1x5632_0_0 cw f
  have t1 := tapRow_apply 1 (by decide) slices_S3x5632_S1x5632_1_0 cw f
  have t2 := tapRow_apply 2 (by decide) slices_S3x5632_S1x5632_2_0 cw f
  unfold tapsC
  generalize tapRow 0 slices_S3x5632_S1x5632_0_0 cw = r0 at t0 ⊢
  generalize tapRow 1 slices_S3x5632_S1x5632_1_0 cw = r1 at t1 ⊢
  generalize tapRow 2 slices_S3x5632_S1x5632_2_0 cw = r2 at t2 ⊢
  generalize padC u = v
  pointwise
  rw [t0, t1, t2]
  rfl

/-- The convolution along the context's segments, of the up projection's rows. -/
theorem convC_apply (A : Args) (u : FVec Ideal S32x256x5632 .f32)
    (hu : ∀ (b : Fin 32) (p : Fin 256) (f : Fin 5632), u (ix3 b p f) = uG A (256 * b.val + p.val) f) (b : Fin 32) (p : Fin 256) (f : Fin 5632) :
    tapsC u A.cw A.cb (ix3 b p f) = convG A (256 * b.val + p.val) f := by
  have hb := b.isLt
  have hp := p.isLt
  rw [tapsC_apply, padC_inner u b ⟨1 + p.val, by omega⟩ p f rfl, hu b p f]
  have lo : padC u (ix3 b ⟨p.val, by omega⟩ f) = if segFirst (256 * b.val + p.val) then 0 else uG A (256 * b.val + p.val - 1) f := by
    by_cases h : p.val = 0
    · rw [padC_outer u b _ f (Or.inl h), if_pos (by unfold segFirst; omega)]
    · rw [padC_inner u b _ ⟨p.val - 1, by omega⟩ f (by show p.val = 1 + (p.val - 1); omega), hu, if_neg (by unfold segFirst; omega)]
      exact congrArg (uG A · f) (by show 256 * b.val + (p.val - 1) = _; omega)
  have hi : padC u (ix3 b ⟨2 + p.val, by omega⟩ f) = if segLast (256 * b.val + p.val) then 0 else uG A (256 * b.val + p.val + 1) f := by
    by_cases h : p.val = 255
    · rw [padC_outer u b _ f (Or.inr (by show 2 + p.val = 257; omega)), if_pos (by unfold segLast; omega)]
    · rw [padC_inner u b _ ⟨1 + p.val, by omega⟩ f (by show 2 + p.val = 1 + (1 + p.val); omega), hu, if_neg (by unfold segLast; omega)]
      exact congrArg (uG A · f) (by show 256 * b.val + (1 + p.val) = _; omega)
  rw [lo, hi]
  rfl

/-- The context's gate. -/
def actHC (c : FVec Ideal S32x256x5632 .f32) : FVec Ideal S32x256x2816 .f32 :=
  let a : FVec Ideal S32x256x2816 .f32 := extractStridedSlice S32x256x2816 ![0, 0, 0] c slices_S32x256x5632_S32x256x2816_0_0_0
  (mulf (mulf a (Host.divf (broadcastInDim S32x256x2816 ![] bcast_S_S32x256x2816 oneS)
    (addf (broadcastInDim S32x256x2816 ![] bcast_S_S32x256x2816 oneS) (Host.exp (Host.negf a)))))
    (extractStridedSlice S32x256x2816 ![0, 0, 2816] c slices_S32x256x5632_S32x256x2816_0_0_2816))

theorem actHC_apply (c : FVec Ideal S32x256x5632 .f32) (b : Fin 32) (p : Fin 256) (f : Fin 2816) :
    actHC c (ix3 b p f) = gateF (c (ix3 b p ⟨f.val, by omega⟩)) (c (ix3 b p ⟨2816 + f.val, by omega⟩)) := by
  pointwise [actHC, oneS]
  unfold gateF
  rfl

/- The latent sequences -/

/-- The latent rows normed, scaled and modulated. -/
def hL (x : FVec Ideal S2x4096x1024 .f32) (g : FVec Ideal S1024 .f32) (sh sc : FVec Ideal S2x1x1024 .f32) : FVec Ideal S2x4096x1024 .f32 :=
  (addf (mulf (mulf
    (mulf x (broadcastInDim S2x4096x1024 ![0, 1, 2] bcast_S2x4096x1_S2x4096x1024_0_1_2
      (Host.rsqrt (addf (Host.divf
        (broadcastInDim S2x4096x1 ![0, 1] bcast_S2x4096_S2x4096x1_0_1 (Host.reduceAdd (mulf x x) zeroS reducesTo_S2x4096x1024_S2x4096_d2 h_S_))
        (broadcastInDim S2x4096x1 ![] bcast_S_S2x4096x1 (constant S_ .f32 0x44800000#32)))
        (broadcastInDim S2x4096x1 ![] bcast_S_S2x4096x1 (constant S_ .f32 0x358637BD#32))))))
    (broadcastInDim S2x4096x1024 ![0, 1, 2] bcast_S1x1x1024_S2x4096x1024_0_1_2 (broadcastInDim S1x1x1024 ![2] bcast_S1024_S1x1x1024_2 g)))
    (broadcastInDim S2x4096x1024 ![0, 1, 2] bcast_S2x1x1024_S2x4096x1024_0_1_2 (addf (broadcastInDim S2x1x1024 ![] bcast_S_S2x1x1024 oneS) sc)))
    (broadcastInDim S2x4096x1024 ![0, 1, 2] bcast_S2x1x1024_S2x4096x1024_0_1_2 sh))

theorem hL_apply (x : FVec Ideal S2x4096x1024 .f32) (g : FVec Ideal S1024 .f32) (sh sc : FVec Ideal S2x1x1024 .f32)
    (b : Fin 2) (p : Fin 4096) (k : Fin 1024) :
    hL x g sh sc (ix3 b p k) = nrm (fun l => x (ix3 b p l)) (fun l => g (ix1 l)) (fun l => sh (ix3 b 0 l)) (fun l => sc (ix3 b 0 l)) k := by
  pointwise [hL, zeroS, oneS]
  unfold nrm
  rfl

/-- The latent up projection between two rows of zeros. -/
def padL (u : FVec Ideal S2x4096x5632 .f32) : FVec Ideal S2x4098x5632 .f32 :=
  pad S2x4098x5632 ![0, 1, 0] ![0, 1, 0] ![0, 0, 0] u padS pads_S2x4096x5632_S2x4098x5632_000_110_000 h_S_

theorem padL_inner (u : FVec Ideal S2x4096x5632 .f32) (b : Fin 2) (q : Fin 4098) (p : Fin 4096) (f : Fin 5632) (h : q.val = 1 + p.val) :
    padL u (ix3 b q f) = u (ix3 b p f) :=
  pad_apply_of_inside _ _ _ u padS pads_S2x4096x5632_S2x4098x5632_000_110_000 h_S_ _ (ix3 b p f) (fun a => match a with
    | ⟨0, _⟩ => by show b.val = 0 + b.val * (0 + 1); omega
    | ⟨1, _⟩ => by show q.val = 1 + p.val * (0 + 1); omega
    | ⟨2, _⟩ => by show f.val = 0 + f.val * (0 + 1); omega)

theorem padL_outer (u : FVec Ideal S2x4096x5632 .f32) (b : Fin 2) (q : Fin 4098) (f : Fin 5632) (h : q.val = 0 ∨ q.val = 4097) :
    padL u (ix3 b q f) = 0 :=
  (pad_apply_of_not_inside _ _ _ u padS pads_S2x4096x5632_S2x4098x5632_000_110_000 h_S_ _ (1 : Fin 3) (fun hin => by
    have h1 : 1 ≤ q.val := hin.1
    have h2 : (q.val - 1) / (0 + 1) < 4096 := hin.2.2
    omega)).trans (padS_apply _)

/-- The three taps of the latent convolution and the bias. -/
def tapsL (u : FVec Ideal S2x4096x5632 .f32) (cw : FVec Ideal S3x5632 .f32) (cb : FVec Ideal S5632 .f32) : FVec Ideal S2x4096x5632 .f32 :=
  addf (addf (addf
    (mulf (extractStridedSlice S2x4096x5632 ![0, 0, 0] (padL u) slices_S2x4098x5632_S2x4096x5632_0_0_0)
      (broadcastInDim S2x4096x5632 ![0, 1, 2] bcast_S1x1x5632_S2x4096x5632_0_1_2 (tapRow 0 slices_S3x5632_S1x5632_0_0 cw)))
    (mulf (extractStridedSlice S2x4096x5632 ![0, 1, 0] (padL u) slices_S2x4098x5632_S2x4096x5632_0_1_0)
      (broadcastInDim S2x4096x5632 ![0, 1, 2] bcast_S1x1x5632_S2x4096x5632_0_1_2 (tapRow 1 slices_S3x5632_S1x5632_1_0 cw))))
    (mulf (extractStridedSlice S2x4096x5632 ![0, 2, 0] (padL u) slices_S2x4098x5632_S2x4096x5632_0_2_0)
      (broadcastInDim S2x4096x5632 ![0, 1, 2] bcast_S1x1x5632_S2x4096x5632_0_1_2 (tapRow 2 slices_S3x5632_S1x5632_2_0 cw))))
    (broadcastInDim S2x4096x5632 ![0, 1, 2] bcast_S1x1x5632_S2x4096x5632_0_1_2 (broadcastInDim S1x1x5632 ![2] bcast_S5632_S1x1x5632_2 cb))

theorem tapsL_apply (u : FVec Ideal S2x4096x5632 .f32) (cw : FVec Ideal S3x5632 .f32) (cb : FVec Ideal S5632 .f32)
    (b : Fin 2) (p : Fin 4096) (f : Fin 5632) :
    tapsL u cw cb (ix3 b p f)
      = padL u (ix3 b ⟨p.val, by omega⟩ f) * cw (ix2 0 f) + padL u (ix3 b ⟨1 + p.val, by omega⟩ f) * cw (ix2 1 f)
        + padL u (ix3 b ⟨2 + p.val, by omega⟩ f) * cw (ix2 2 f) + cb (ix1 f) := by
  have t0 := tapRow_apply 0 (by decide) slices_S3x5632_S1x5632_0_0 cw f
  have t1 := tapRow_apply 1 (by decide) slices_S3x5632_S1x5632_1_0 cw f
  have t2 := tapRow_apply 2 (by decide) slices_S3x5632_S1x5632_2_0 cw f
  unfold tapsL
  generalize tapRow 0 slices_S3x5632_S1x5632_0_0 cw = r0 at t0 ⊢
  generalize tapRow 1 slices_S3x5632_S1x5632_1_0 cw = r1 at t1 ⊢
  generalize tapRow 2 slices_S3x5632_S1x5632_2_0 cw = r2 at t2 ⊢
  generalize padL u = v
  pointwise
  rw [t0, t1, t2]
  rfl

/-- The convolution along the latent sequences, of the up projection's rows. -/
theorem convL_apply (A : Args) (u : FVec Ideal S2x4096x5632 .f32)
    (hu : ∀ (b : Fin 2) (p : Fin 4096) (f : Fin 5632), u (ix3 b p f) = uG A (8192 + 4096 * b.val + p.val) f) (b : Fin 2) (p : Fin 4096) (f : Fin 5632) :
    tapsL u A.cw A.cb (ix3 b p f) = convG A (8192 + 4096 * b.val + p.val) f := by
  have hb := b.isLt
  have hp := p.isLt
  rw [tapsL_apply, padL_inner u b ⟨1 + p.val, by omega⟩ p f rfl, hu b p f]
  have lo : padL u (ix3 b ⟨p.val, by omega⟩ f) = if segFirst (8192 + 4096 * b.val + p.val) then 0 else uG A (8192 + 4096 * b.val + p.val - 1) f := by
    by_cases h : p.val = 0
    · rw [padL_outer u b _ f (Or.inl h), if_pos (by unfold segFirst; omega)]
    · rw [padL_inner u b _ ⟨p.val - 1, by omega⟩ f (by show p.val = 1 + (p.val - 1); omega), hu, if_neg (by unfold segFirst; omega)]
      exact congrArg (uG A · f) (by show 8192 + 4096 * b.val + (p.val - 1) = _; omega)
  have hi : padL u (ix3 b ⟨2 + p.val, by omega⟩ f) = if segLast (8192 + 4096 * b.val + p.val) then 0 else uG A (8192 + 4096 * b.val + p.val + 1) f := by
    by_cases h : p.val = 4095
    · rw [padL_outer u b _ f (Or.inr (by show 2 + p.val = 4097; omega)), if_pos (by unfold segLast; omega)]
    · rw [padL_inner u b _ ⟨1 + p.val, by omega⟩ f (by show 2 + p.val = 1 + (1 + p.val); omega), hu, if_neg (by unfold segLast; omega)]
      exact congrArg (uG A · f) (by show 8192 + 4096 * b.val + (1 + p.val) = _; omega)
  rw [lo, hi]
  rfl

/-- The latent gate. -/
def actHL (c : FVec Ideal S2x4096x5632 .f32) : FVec Ideal S2x4096x2816 .f32 :=
  let a : FVec Ideal S2x4096x2816 .f32 := extractStridedSlice S2x4096x2816 ![0, 0, 0] c slices_S2x4096x5632_S2x4096x2816_0_0_0
  (mulf (mulf a (Host.divf (broadcastInDim S2x4096x2816 ![] bcast_S_S2x4096x2816 oneS)
    (addf (broadcastInDim S2x4096x2816 ![] bcast_S_S2x4096x2816 oneS) (Host.exp (Host.negf a)))))
    (extractStridedSlice S2x4096x2816 ![0, 0, 2816] c slices_S2x4096x5632_S2x4096x2816_0_0_2816))

theorem actHL_apply (c : FVec Ideal S2x4096x5632 .f32) (b : Fin 2) (p : Fin 4096) (f : Fin 2816) :
    actHL c (ix3 b p f) = gateF (c (ix3 b p ⟨f.val, by omega⟩)) (c (ix3 b p ⟨2816 + f.val, by omega⟩)) := by
  pointwise [actHL, oneS]
  unfold gateF
  rfl

/- The layer -/

/-- The modulation rows of the context and of the latent sequences. -/
def segC (_ : Fin 1) : Fin 8 := 0
def segL (b : Fin 2) : Fin 8 := ⟨1 + b.val, by omega⟩

/-- The context's rows after the layer. -/
def resC (x : FVec Ideal S32x256x1024 .f32) (g : FVec Ideal S1024 .f32) (sh sc ga : FVec Ideal S1x1x1024 .f32) (wu : FVec Ideal S1024x5632 .f32)
    (cw : FVec Ideal S3x5632 .f32) (cb : FVec Ideal S5632 .f32) (wd : FVec Ideal S2816x1024 .f32) : FVec Ideal S32x256x1024 .f32 :=
  addf x (mulf (broadcastInDim S32x256x1024 ![0, 1, 2] bcast_S1x1x1024_S32x256x1024_0_1_2 ga)
    (Host.dotGeneral dot_S32x256x2816_S2816x1024_S32x256x1024_2_0_01_1_n_n none
      (actHC (tapsC (Host.dotGeneral dot_S32x256x1024_S1024x5632_S32x256x5632_2_0_01_1_n_n none (hC x g sh sc) wu) cw cb)) wd))

theorem dotUpC_apply (h : FVec Ideal S32x256x1024 .f32) (w : FVec Ideal S1024x5632 .f32) (b : Fin 32) (p : Fin 256) (f : Fin 5632) :
    (Host.dotGeneral dot_S32x256x1024_S1024x5632_S32x256x5632_2_0_01_1_n_n none h w : FVec Ideal S32x256x5632 .f32) (ix3 b p f)
      = ∑ k : Fin 1024, h (ix3 b p k) * w (ix2 k f) := by
  pointwise [dot_S32x256x1024_S1024x5632_S32x256x5632_2_0_01_1_n_n]

theorem dotDnC_apply (ga : FVec Ideal S1x1x1024 .f32) (x : FVec Ideal S32x256x1024 .f32) (a : FVec Ideal S32x256x2816 .f32) (w : FVec Ideal S2816x1024 .f32)
    (b : Fin 32) (p : Fin 256) (j : Fin 1024) :
    addf x (mulf (broadcastInDim S32x256x1024 ![0, 1, 2] bcast_S1x1x1024_S32x256x1024_0_1_2 ga)
      (Host.dotGeneral dot_S32x256x2816_S2816x1024_S32x256x1024_2_0_01_1_n_n none a w)) (ix3 b p j)
      = x (ix3 b p j) + ga (ix3 0 0 j) * ∑ f : Fin 2816, a (ix3 b p f) * w (ix2 f j) := by
  pointwise [dot_S32x256x2816_S2816x1024_S32x256x1024_2_0_01_1_n_n]

theorem resC_apply (A : Args) (x : FVec Ideal S32x256x1024 .f32) (sh sc ga : FVec Ideal S1x1x1024 .f32) (wu : FVec Ideal S1024x5632 .f32)
    (wd : FVec Ideal S2816x1024 .f32) (hx : ∀ (b : Fin 32) (p : Fin 256) (k : Fin 1024), x (ix3 b p k) = xG A (256 * b.val + p.val) k)
    (hsh : ∀ (b : Fin 1) k, sh (ix3 b 0 k) = A.sh (ix3 (segC b) 0 k)) (hsc : ∀ (b : Fin 1) k, sc (ix3 b 0 k) = A.sc (ix3 (segC b) 0 k))
    (hga : ∀ (b : Fin 1) k, ga (ix3 b 0 k) = A.ga (ix3 (segC b) 0 k)) (hwu : ∀ k f, wu (ix2 k f) = A.wu (ix3 A.layer k f))
    (hwd : ∀ f j, wd (ix2 f j) = A.wd (ix3 A.layer f j)) (b : Fin 32) (p : Fin 256) (j : Fin 1024) :
    resC x A.g sh sc ga wu A.cw A.cb wd (ix3 b p j) = outG A (256 * b.val + p.val) j := by
  have hs : ∀ (b : Fin 32) (p : Fin 256), segOf (256 * b.val + p.val) = segC 0 := fun b p => by
    have hb := b.isLt
    have hp := p.isLt
    unfold segOf segC
    rw [if_pos (by omega)]
  have hh : ∀ (b : Fin 32) (p : Fin 256) k, hC x A.g sh sc (ix3 b p k) = hG A (256 * b.val + p.val) k := fun b p k => by
    rw [hC_apply, show (fun l => x (ix3 b p l)) = xG A (256 * b.val + p.val) from funext (hx b p),
      show (fun l => sh (ix3 0 0 l)) = _ from funext (hsh 0), show (fun l => sc (ix3 0 0 l)) = _ from funext (hsc 0), ← hs b p]
    rfl
  have hu : ∀ (b : Fin 32) (p : Fin 256) (f : Fin 5632),
      (Host.dotGeneral dot_S32x256x1024_S1024x5632_S32x256x5632_2_0_01_1_n_n none (hC x A.g sh sc) wu : FVec Ideal S32x256x5632 .f32) (ix3 b p f)
        = uG A (256 * b.val + p.val) f := fun b p f =>
    (dotUpC_apply _ _ b p f).trans (Finset.sum_congr rfl fun k _ => congr (congrArg _ (hh b p k)) (hwu k f))
  refine (dotDnC_apply ga x _ wd b p j).trans ?_
  rw [hx b p j, hga 0 j, ← hs b p]
  refine congrArg (xG A _ j + A.ga _ * ·) (Finset.sum_congr rfl fun f _ => ?_)
  rw [actHC_apply, convC_apply A _ hu, convC_apply A _ hu, hwd f j]
  rfl

/-- The latent rows after the layer. -/
def resL (x : FVec Ideal S2x4096x1024 .f32) (g : FVec Ideal S1024 .f32) (sh sc ga : FVec Ideal S2x1x1024 .f32) (wu : FVec Ideal S1024x5632 .f32)
    (cw : FVec Ideal S3x5632 .f32) (cb : FVec Ideal S5632 .f32) (wd : FVec Ideal S2816x1024 .f32) : FVec Ideal S2x4096x1024 .f32 :=
  addf x (mulf (broadcastInDim S2x4096x1024 ![0, 1, 2] bcast_S2x1x1024_S2x4096x1024_0_1_2 ga)
    (Host.dotGeneral dot_S2x4096x2816_S2816x1024_S2x4096x1024_2_0_01_1_n_n none
      (actHL (tapsL (Host.dotGeneral dot_S2x4096x1024_S1024x5632_S2x4096x5632_2_0_01_1_n_n none (hL x g sh sc) wu) cw cb)) wd))

theorem dotUpL_apply (h : FVec Ideal S2x4096x1024 .f32) (w : FVec Ideal S1024x5632 .f32) (b : Fin 2) (p : Fin 4096) (f : Fin 5632) :
    (Host.dotGeneral dot_S2x4096x1024_S1024x5632_S2x4096x5632_2_0_01_1_n_n none h w : FVec Ideal S2x4096x5632 .f32) (ix3 b p f)
      = ∑ k : Fin 1024, h (ix3 b p k) * w (ix2 k f) := by
  pointwise [dot_S2x4096x1024_S1024x5632_S2x4096x5632_2_0_01_1_n_n]

theorem dotDnL_apply (ga : FVec Ideal S2x1x1024 .f32) (x : FVec Ideal S2x4096x1024 .f32) (a : FVec Ideal S2x4096x2816 .f32) (w : FVec Ideal S2816x1024 .f32)
    (b : Fin 2) (p : Fin 4096) (j : Fin 1024) :
    addf x (mulf (broadcastInDim S2x4096x1024 ![0, 1, 2] bcast_S2x1x1024_S2x4096x1024_0_1_2 ga)
      (Host.dotGeneral dot_S2x4096x2816_S2816x1024_S2x4096x1024_2_0_01_1_n_n none a w)) (ix3 b p j)
      = x (ix3 b p j) + ga (ix3 b 0 j) * ∑ f : Fin 2816, a (ix3 b p f) * w (ix2 f j) := by
  pointwise [dot_S2x4096x2816_S2816x1024_S2x4096x1024_2_0_01_1_n_n]

theorem resL_apply (A : Args) (x : FVec Ideal S2x4096x1024 .f32) (sh sc ga : FVec Ideal S2x1x1024 .f32) (wu : FVec Ideal S1024x5632 .f32)
    (wd : FVec Ideal S2816x1024 .f32) (hx : ∀ (b : Fin 2) (p : Fin 4096) (k : Fin 1024), x (ix3 b p k) = xG A (8192 + 4096 * b.val + p.val) k)
    (hsh : ∀ (b : Fin 2) k, sh (ix3 b 0 k) = A.sh (ix3 (segL b) 0 k)) (hsc : ∀ (b : Fin 2) k, sc (ix3 b 0 k) = A.sc (ix3 (segL b) 0 k))
    (hga : ∀ (b : Fin 2) k, ga (ix3 b 0 k) = A.ga (ix3 (segL b) 0 k)) (hwu : ∀ k f, wu (ix2 k f) = A.wu (ix3 A.layer k f))
    (hwd : ∀ f j, wd (ix2 f j) = A.wd (ix3 A.layer f j)) (b : Fin 2) (p : Fin 4096) (j : Fin 1024) :
    resL x A.g sh sc ga wu A.cw A.cb wd (ix3 b p j) = outG A (8192 + 4096 * b.val + p.val) j := by
  have hs : ∀ (b : Fin 2) (p : Fin 4096), segOf (8192 + 4096 * b.val + p.val) = segL b := fun b p => by
    have hb := b.isLt
    have hp := p.isLt
    unfold segOf segL
    rw [if_neg (by omega)]
    match b, hb with
    | ⟨0, _⟩, _ => rw [if_pos (by show 8192 + 4096 * 0 + p.val < _; omega)]; rfl
    | ⟨1, _⟩, _ => rw [if_neg (by show ¬ 8192 + 4096 * 1 + p.val < _; omega)]; rfl
  have hh : ∀ (b : Fin 2) (p : Fin 4096) k, hL x A.g sh sc (ix3 b p k) = hG A (8192 + 4096 * b.val + p.val) k := fun b p k => by
    rw [hL_apply, show (fun l => x (ix3 b p l)) = xG A (8192 + 4096 * b.val + p.val) from funext (hx b p),
      show (fun l => sh (ix3 b 0 l)) = _ from funext (hsh b), show (fun l => sc (ix3 b 0 l)) = _ from funext (hsc b), ← hs b p]
    rfl
  have hu : ∀ (b : Fin 2) (p : Fin 4096) (f : Fin 5632),
      (Host.dotGeneral dot_S2x4096x1024_S1024x5632_S2x4096x5632_2_0_01_1_n_n none (hL x A.g sh sc) wu : FVec Ideal S2x4096x5632 .f32) (ix3 b p f)
        = uG A (8192 + 4096 * b.val + p.val) f := fun b p f =>
    (dotUpL_apply _ _ b p f).trans (Finset.sum_congr rfl fun k _ => congr (congrArg _ (hh b p k)) (hwu k f))
  refine (dotDnL_apply ga x _ wd b p j).trans ?_
  rw [hx b p j, hga b j, ← hs b p]
  refine congrArg (xG A _ j + A.ga _ * ·) (Finset.sum_congr rfl fun f _ => ?_)
  rw [actHL_apply, convL_apply A _ hu, convL_apply A _ hu, hwd f j]
  rfl

end Cert.Proof.Ffn

end
-- ==== Proof.FfnRef.lean ====
/- The plain feed-forward layer's result as an array: row by row it is `outG` of the arguments. -/
module

public import proofs.«01_k».proof.Proof.Gen.ReferenceFfnIdeal.Read
public import proofs.«01_k».proof.Proof.FfnHost

@[expose] public section

noncomputable section

namespace Cert.Proof.Ffn

open Cert.ReferenceFfnIdeal Cert.ReferenceFfnIdeal.Gen Cert.ReferenceFfnIdeal.Read Idealize.ShloMosaic Idealize.ShloMosaic.TcCoe
open Idealize.ShloMosaic.Pointwise

variable (A : Args)

/-- The two halves of the rows as segments. -/
theorem rowsC_apply (x : FVec Ideal S16384x1024 .f32) (b : Fin 32) (p : Fin 256) (k : Fin 1024) :
    val_main_v5 (F := Ideal) x (ix3 b p k) = x (ix2 ⟨min (256 * b.val + p.val) 16383, by omega⟩ k) := by
  have hb := b.isLt
  have hp := p.isLt
  refine (shapeCast_apply (val_main_v4 (F := Ideal) x) shapeCasts_S8192x1024_S32x256x1024 (ix3 b p k)
    (ix2 (n0 := 8192) (n1 := 1024) ⟨256 * b.val + p.val, by omega⟩ k) (by
      rw [Shape.rowMajor_val_two, Shape.rowMajor_val_three]
      show (256 * b.val + p.val) * 1024 + k.val = (b.val * 256 + p.val) * 1024 + k.val; omega)).trans ?_
  exact extractStridedSlice_apply _ _ slices_S16384x1024_S8192x1024_0_0 _ (ix2 (n0 := 16384) (n1 := 1024) _ k) (fun a => match a with
    | ⟨0, _⟩ => by show min (256 * b.val + p.val) 16383 = 0 + (256 * b.val + p.val); omega
    | ⟨1, _⟩ => by show k.val = 0 + k.val; omega)

theorem rowsL_apply (x : FVec Ideal S16384x1024 .f32) (b : Fin 2) (p : Fin 4096) (k : Fin 1024) :
    val_main_v64 (F := Ideal) x (ix3 b p k) = x (ix2 ⟨min (8192 + 4096 * b.val + p.val) 16383, by omega⟩ k) := by
  have hb := b.isLt
  have hp := p.isLt
  refine (shapeCast_apply (val_main_v63 (F := Ideal) x) shapeCasts_S8192x1024_S2x4096x1024 (ix3 b p k)
    (ix2 (n0 := 8192) (n1 := 1024) ⟨4096 * b.val + p.val, by omega⟩ k) (by
      rw [Shape.rowMajor_val_two, Shape.rowMajor_val_three]
      show (4096 * b.val + p.val) * 1024 + k.val = (b.val * 4096 + p.val) * 1024 + k.val; omega)).trans ?_
  exact extractStridedSlice_apply _ _ slices_S16384x1024_S8192x1024_8192_0 _ (ix2 (n0 := 16384) (n1 := 1024) _ k) (fun a => match a with
    | ⟨0, _⟩ => by show min (8192 + 4096 * b.val + p.val) 16383 = 8192 + (4096 * b.val + p.val); omega
    | ⟨1, _⟩ => by show k.val = 0 + k.val; omega)

/-- A modulation row. -/
theorem modC_apply (m : FVec Ideal S8x1x1024 .f32) (b : Fin 1) (k : Fin 1024) :
    (extractStridedSlice S1x1x1024 ![0, 0, 0] m slices_S8x1x1024_S1x1x1024_0_0_0 : FVec Ideal S1x1x1024 .f32) (ix3 b 0 k) = m (ix3 (segC b) 0 k) :=
  extractStridedSlice_apply _ _ slices_S8x1x1024_S1x1x1024_0_0_0 _ (ix3 (n0 := 8) (n1 := 1) (n2 := 1024) (segC b) 0 k) (fun a => match a with
    | ⟨0, _⟩ => by show 0 = 0 + b.val; omega
    | ⟨1, _⟩ => rfl
    | ⟨2, _⟩ => by show k.val = 0 + k.val; omega)

theorem modL_apply (m : FVec Ideal S8x1x1024 .f32) (b : Fin 2) (k : Fin 1024) :
    (extractStridedSlice S2x1x1024 ![1, 0, 0] m slices_S8x1x1024_S2x1x1024_1_0_0 : FVec Ideal S2x1x1024 .f32) (ix3 b 0 k) = m (ix3 (segL b) 0 k) :=
  extractStridedSlice_apply _ _ slices_S8x1x1024_S2x1x1024_1_0_0 _ (ix3 (n0 := 8) (n1 := 1) (n2 := 1024) (segL b) 0 k) (fun a => match a with
    | ⟨0, _⟩ => rfl
    | ⟨1, _⟩ => rfl
    | ⟨2, _⟩ => by show k.val = 0 + k.val; omega)

/-- The weights of one layer. -/
theorem upLayer_apply (l : ℕ) (hl : l < 4) (h : S4x1024x5632.Slices ![l, 0, 0] S1x1024x5632) (w : FVec Ideal S4x1024x5632 .bf16) (k : Fin 1024) (f : Fin 5632) :
    (shapeCast _ (extractStridedSlice S1x1024x5632 ![l, 0, 0] w h) shapeCasts_S1x1024x5632_S1024x5632 : FVec Ideal S1024x5632 .bf16) (ix2 k f)
      = w (ix3 ⟨l, hl⟩ k f) :=
  (shapeCast_apply _ shapeCasts_S1x1024x5632_S1024x5632 _ (ix3 (n0 := 1) (n1 := 1024) (n2 := 5632) 0 k f) (by
    rw [Shape.rowMajor_val_two, Shape.rowMajor_val_three]
    show (0 * 1024 + k.val) * 5632 + f.val = k.val * 5632 + f.val; omega)).trans
  (extractStridedSlice_apply _ _ h _ (ix3 (n0 := 4) (n1 := 1024) (n2 := 5632) ⟨l, hl⟩ k f) (fun a => match a with
    | ⟨0, _⟩ => by show l = l + 0; omega
    | ⟨1, _⟩ => by show k.val = 0 + k.val; omega
    | ⟨2, _⟩ => by show f.val = 0 + f.val; omega))

theorem dnLayer_apply (l : ℕ) (hl : l < 4) (h : S4x2816x1024.Slices ![l, 0, 0] S1x2816x1024) (w : FVec Ideal S4x2816x1024 .bf16) (k : Fin 2816) (f : Fin 1024) :
    (shapeCast _ (extractStridedSlice S1x2816x1024 ![l, 0, 0] w h) shapeCasts_S1x2816x1024_S2816x1024 : FVec Ideal S2816x1024 .bf16) (ix2 k f)
      = w (ix3 ⟨l, hl⟩ k f) :=
  (shapeCast_apply _ shapeCasts_S1x2816x1024_S2816x1024 _ (ix3 (n0 := 1) (n1 := 2816) (n2 := 1024) 0 k f) (by
    rw [Shape.rowMajor_val_two, Shape.rowMajor_val_three]
    show (0 * 2816 + k.val) * 1024 + f.val = k.val * 1024 + f.val; omega)).trans
  (extractStridedSlice_apply _ _ h _ (ix3 (n0 := 4) (n1 := 2816) (n2 := 1024) ⟨l, hl⟩ k f) (fun a => match a with
    | ⟨0, _⟩ => by show l = l + 0; omega
    | ⟨1, _⟩ => by show k.val = 0 + k.val; omega
    | ⟨2, _⟩ => by show f.val = 0 + f.val; omega))

/-- The two halves as whole rows again. -/
theorem flatC_apply (y : FVec Ideal S32x256x1024 .f32) (n : Fin 8192) (j : Fin 1024) :
    (shapeCast _ y shapeCasts_S32x256x1024_S8192x1024 : FVec Ideal S8192x1024 .f32) (ix2 n j)
      = y (ix3 ⟨n.val / 256, by omega⟩ ⟨n.val % 256, by omega⟩ j) :=
  shapeCast_apply _ shapeCasts_S32x256x1024_S8192x1024 _ (ix3 (n0 := 32) (n1 := 256) (n2 := 1024) ⟨n.val / 256, by omega⟩ ⟨n.val % 256, by omega⟩ j) (by
    rw [Shape.rowMajor_val_two, Shape.rowMajor_val_three]
    show (n.val / 256 * 256 + n.val % 256) * 1024 + j.val = n.val * 1024 + j.val; omega)

theorem flatL_apply (y : FVec Ideal S2x4096x1024 .f32) (n : Fin 8192) (j : Fin 1024) :
    (shapeCast _ y shapeCasts_S2x4096x1024_S8192x1024 : FVec Ideal S8192x1024 .f32) (ix2 n j)
      = y (ix3 ⟨n.val / 4096, by omega⟩ ⟨n.val % 4096, by omega⟩ j) :=
  shapeCast_apply _ shapeCasts_S2x4096x1024_S8192x1024 _ (ix3 (n0 := 2) (n1 := 4096) (n2 := 1024) ⟨n.val / 4096, by omega⟩ ⟨n.val % 4096, by omega⟩ j) (by
    rw [Shape.rowMajor_val_two, Shape.rowMajor_val_three]
    show (n.val / 4096 * 4096 + n.val % 4096) * 1024 + j.val = n.val * 1024 + j.val; omega)

theorem catRows_apply (y z : FVec Ideal S8192x1024 .f32) (n : Fin 16384) (j : Fin 1024) :
    (concatenate S16384x1024 0 [⟨S8192x1024, y⟩, ⟨S8192x1024, z⟩] concatenates_S8192x1024_S8192x1024_S16384x1024_d0 : FVec Ideal S16384x1024 .f32) (ix2 n j)
      = if h : n.val < 8192 then y (ix2 ⟨n.val, h⟩ j) else z (ix2 ⟨n.val - 8192, by omega⟩ j) := by
  pointwise

/-- The plain layer's result from the two halves' results. -/
def joined (y : FVec Ideal S32x256x1024 .f32) (z : FVec Ideal S2x4096x1024 .f32) : FVec Ideal S16384x1024 .f32 :=
  concatenate S16384x1024 0 [⟨S8192x1024, (shapeCast _ y shapeCasts_S32x256x1024_S8192x1024 : FVec Ideal S8192x1024 .f32)⟩,
    ⟨S8192x1024, (shapeCast _ z shapeCasts_S2x4096x1024_S8192x1024 : FVec Ideal S8192x1024 .f32)⟩] concatenates_S8192x1024_S8192x1024_S16384x1024_d0

theorem joined_eq (y : FVec Ideal S32x256x1024 .f32) (z : FVec Ideal S2x4096x1024 .f32) (r : ℕ → Fin 1024 → EReal)
    (hy : ∀ (b : Fin 32) (p : Fin 256) (j : Fin 1024), y (ix3 b p j) = r (256 * b.val + p.val) j)
    (hz : ∀ (b : Fin 2) (p : Fin 4096) (j : Fin 1024), z (ix3 b p j) = r (8192 + 4096 * b.val + p.val) j) :
    joined y z = fun i => r (i 0).val (i 1) := by
  funext i
  obtain ⟨n, j, rfl⟩ : ∃ (n : Fin 16384) (j : Fin 1024), i = ix2 n j := ⟨i 0, i 1, by funext a; match a with | ⟨0, _⟩ => rfl | ⟨1, _⟩ => rfl⟩
  refine (catRows_apply _ _ n j).trans ?_
  show _ = r n.val j
  by_cases h : n.val < 8192
  · rw [dif_pos h, flatC_apply, hy]
    exact congrArg (r · j) (by show 256 * (n.val / 256) + n.val % 256 = n.val; omega)
  · rw [dif_neg h, flatL_apply, hz]
    exact congrArg (r · j) (by show 8192 + 4096 * ((n.val - 8192) / 4096) + (n.val - 8192) % 4096 = n.val; omega)

/-- The plain layer, with the weights of layer 0. -/
theorem ref_eq (hl : A.layer = 0) :
    val_main_v124 (F := Ideal) A.x A.g A.sh A.sc A.ga A.wu A.cw A.cb A.wd = outA A := by
  have h0 : A.layer = ⟨0, by decide⟩ := hl
  refine (show _ = joined
      (resC (val_main_v5 A.x) A.g (val_main_v6 A.sh) (val_main_v7 A.sc) (val_main_v8 A.ga) (val_main_v28 A.wu) A.cw A.cb (val_main_v58 A.wd))
      (resL (val_main_v64 A.x) A.g (val_main_v65 A.sh) (val_main_v66 A.sc) (val_main_v67 A.ga) (val_main_v87 A.wu) A.cw A.cb (val_main_v117 A.wd)) from rfl).trans
    (joined_eq _ _ (outG A)
      (resC_apply A _ _ _ _ _ _ (rowsC_apply A.x) (modC_apply A.sh) (modC_apply A.sc) (modC_apply A.ga)
        (fun k f => (upLayer_apply 0 _ slices_S4x1024x5632_S1x1024x5632_0_0_0 A.wu k f).trans (by rw [h0])) (fun f j => (dnLayer_apply 0 _ slices_S4x2816x1024_S1x2816x1024_0_0_0 A.wd f j).trans (by rw [h0])))
      (resL_apply A _ _ _ _ _ _ (rowsL_apply A.x) (modL_apply A.sh) (modL_apply A.sc) (modL_apply A.ga)
        (fun k f => (upLayer_apply 0 _ slices_S4x1024x5632_S1x1024x5632_0_0_0 A.wu k f).trans (by rw [h0])) (fun f j => (dnLayer_apply 0 _ slices_S4x2816x1024_S1x2816x1024_0_0_0 A.wd f j).trans (by rw [h0]))))

end Cert.Proof.Ffn

end
-- ==== Proof.FfnClaim.lean ====
/- The feed-forward claim: kernel and reference both run and end with equal rows. -/
module

public import proofs.«01_k».proof.Defs
public import proofs.«01_k».proof.Proof.FfnRun
public import proofs.«01_k».proof.Proof.FfnRef

@[expose] public section

noncomputable section

namespace Cert.Proof.Ffn

open Idealize.ShloMosaic Idealize.SL.Sem

theorem algebraic : Cert.algebraic_KernelFfnIdeal_ReferenceFfnIdeal := by
  intro m g m' g' _ heq
  refine ⟨fun c => outA (args m c), run m g, (θ_run Cert.ReferenceFfnIdeal.defs _ _).mono (fun r h c => ?_) (Cert.ReferenceFfnIdeal.Value.run m' g')⟩
  refine ⟨?_, (h c).2⟩
  obtain ⟨e0, e1, e2, e3, e4, e5, e6, e7, e8⟩ := heq c
  refine ((h c).1.trans (Cert.ReferenceFfnIdeal.Read.val_main_v124_eq m' c)).trans ?_
  rw [e0, e1, e2, e3, e4, e5, e6, e7, e8]
  exact ref_eq (args m c) rfl

/-- The reference of the feed-forward layer runs and leaves its arguments alone; it has no semaphore. -/
theorem frame_reference : Cert.quiescent_ReferenceFfnIdeal := fun m ρ _ =>
  (θ_run Cert.ReferenceFfnIdeal.defs _ _).mono (fun r h => ⟨fun c => (h c).2,
    Idealize.ShloMosaic.sem_eq_zero_of_no_sems (by decide) r.2⟩) (Cert.ReferenceFfnIdeal.Value.run (F := Ideal) m ρ)

end Cert.Proof.Ffn

end
-- ==== Proof.ProjSpec.lean ====
/- A normed projection as plain functions over the reals, row by row of the 16384 rows: `hR` the normed and modulated row,
   `prodR` its product with weights of any width. The retention's projection, whose rows are one array of 6144 columns'
   products, is `projA`. -/
module

public import proofs.«01_k».proof.Proof.Gen.KernelProjIdeal.Skeleton
public import proofs.«01_k».proof.Proof.FfnSpec

@[expose] public section

noncomputable section

namespace Cert.Proof.Proj

open Cert.KernelProjIdeal Idealize.ShloMosaic
open Idealize.ShloMosaic.Pointwise
open Cert.Proof.Ffn (nrm segOf)

/-- What the rows of a normed projection are computed from. -/
structure Rows where
  x : ℕ → Fin 1024 → EReal
  g : Vec Ideal S1024 .f32
  sh : Vec Ideal S8x1x1024 .f32
  sc : Vec Ideal S8x1x1024 .f32

def hR (R : Rows) (N : ℕ) : Fin 1024 → EReal :=
  nrm (R.x N) (fun k => R.g (ix1 (n0 := 1024) k)) (fun k => R.sh (ix3 (n0 := 8) (n1 := 1) (n2 := 1024) (segOf N) 0 k))
    (fun k => R.sc (ix3 (n0 := 8) (n1 := 1) (n2 := 1024) (segOf N) 0 k))

def prodR {n : ℕ} (R : Rows) (w : Vec Ideal ⟨2, ![1024, n]⟩ .bf16) (N : ℕ) (f : Fin n) : EReal :=
  ∑ k : Fin 1024, hR R N k * w (ix2 (n0 := 1024) (n1 := n) k f)

/-- The rows of one array. -/
def rowOf (x : Vec Ideal S16384x1024 .f32) (N : ℕ) (k : Fin 1024) : EReal := x (ix2 (n0 := 16384) (n1 := 1024) ⟨min N 16383, by omega⟩ k)

/-- The arguments of a projection of the rows of one array to `n` columns. -/
structure Args (n : ℕ) where
  x : Vec Ideal S16384x1024 .f32
  g : Vec Ideal S1024 .f32
  sh : Vec Ideal S8x1x1024 .f32
  sc : Vec Ideal S8x1x1024 .f32
  w : Vec Ideal ⟨2, ![1024, n]⟩ .bf16

variable {n : ℕ} (A : Args n)

def Args.rows : Rows := ⟨rowOf A.x, A.g, A.sh, A.sc⟩

/-- The projection as an array. -/
def projA : Vec Ideal ⟨2, ![16384, n]⟩ .f32 := fun y => prodR A.rows A.w (y 0).val (y 1)

end Cert.Proof.Proj

end
-- ==== Proof.ProjBlock.lean ====
/- What one grid point of the normed projection leaves in its output block: its 512 rows, normed and modulated, times the
   whole weights. The body treats the 6144 columns in four chunks of 1536, each the same function of its columns. -/
module

public import proofs.«01_k».proof.Proof.Gen.KernelProjIdeal.Value
public import proofs.«01_k».proof.Proof.ProjSpec
public import Idealize.ShloMosaic.Lib.Writes
public import Idealize.ShloMosaic.Lib.Pipeline.ValueKit.Basic

@[expose] public section

noncomputable section

namespace Cert.Proof.Proj

open Cert.KernelProjIdeal Cert.KernelProjIdeal.Gen Cert.KernelProjIdeal.Value Idealize.ShloMosaic Idealize.ShloMosaic.TcCoe Idealize.SL.Sem
open Idealize.ShloMosaic.Pointwise
open Cert.Proof.Ffn (nrm segOf)

/-- The rows a tile reads: the context's for the first 16 tiles, else the latent ones. -/
theorem rows_apply (t : Fin 32) (v1 v2 : Vec Ideal S512x1024 .f32) :
    Scalar.select (Scalar.cmpi .slt (BitVec.ofNat 32 t.val) 16#32) v1 v2 = if t.val < 16 then v1 else v2 := by
  have h : (Scalar.cmpi .slt (BitVec.ofNat 32 t.val) 16#32 = 1#1) = (t.val < 16) :=
    (by decide +kernel : ∀ t : Fin 32, (Scalar.cmpi .slt (BitVec.ofNat 32 t.val) 16#32 = 1#1) = (t.val < 16)) t
  show (if Scalar.cmpi .slt (BitVec.ofNat 32 t.val) 16#32 = 1#1 then v1 else v2) = _
  simp only [h]

/-- The normed and modulated rows of a tile. -/
theorem h_apply (i : grid0.Coords) (v1 v2 : Vec Ideal S512x1024 .f32) (g : Vec Ideal S1x1024 .f32) (sh sc : Vec Ideal S1x1x1024 .f32)
    (r : Fin 512) (k : Fin 1024) :
    k0_pay4 i v1 v2 g sh sc (ix2 r k)
      = nrm (fun l => (if (i 0).val < 16 then v1 else v2) (ix2 r l)) (fun l => g (ix2 0 l)) (fun l => sh (ix3 0 0 l)) (fun l => sc (ix3 0 0 l)) k := by
  unfold k0_pay4
  simp only [rows_apply (i 0) v1 v2]
  generalize (if (i 0).val < 16 then v1 else v2) = x
  pointwise
  rfl

/-- One chunk of columns of the projection. -/
theorem chunk_apply (h : FVec Ideal S512x1024 .bf16) (w : Vec Ideal S1024x1536 .bf16) (r : Fin 512) (f : Fin 1536) :
    k0_pay1 h w (ix2 r f) = ∑ k : Fin 1024, h (ix2 r k) * w (ix2 k f) := by
  pointwise [k0_pay1, dot_S512x1024_S1024x1536_S512x1536_1_0_0_1_n_n]

/-- What the blocks a tile reads hold. -/
structure IsTile (R : Rows) (t : ℕ) (v1 v2 : Vec Ideal S512x1024 .f32) (g : Vec Ideal S1x1024 .f32) (sh sc : Vec Ideal S1x1x1024 .f32) : Prop where
  ctx : t < 16 → ∀ r k, v1 (ix2 r k) = R.x (512 * t + r.val) k
  lat : ¬ t < 16 → ∀ r k, v2 (ix2 r k) = R.x (512 * t + r.val) k
  gw : ∀ k, g (ix2 0 k) = R.g (ix1 k)
  shift : ∀ n < 512, ∀ k, sh (ix3 0 0 k) = R.sh (ix3 (segOf (512 * t + n)) 0 k)
  scale : ∀ n < 512, ∀ k, sc (ix3 0 0 k) = R.sc (ix3 (segOf (512 * t + n)) 0 k)

/-- The normed rows of a tile are those of the whole array. -/
theorem tile_rows {R : Rows} {t : ℕ} {v1 v2 : Vec Ideal S512x1024 .f32} {g : Vec Ideal S1x1024 .f32} {sh sc : Vec Ideal S1x1x1024 .f32}
    (H : IsTile R t v1 v2 g sh sc) (i : grid0.Coords) (hi : (i 0).val = t) (r : Fin 512) (k : Fin 1024) :
    k0_pay4 i v1 v2 g sh sc (ix2 r k) = hR R (512 * t + r.val) k := by
  refine (h_apply i v1 v2 g sh sc r k).trans ?_
  unfold hR
  have ex : (fun l : Fin 1024 => (if (i 0).val < 16 then v1 else v2) (ix2 r l)) = R.x (512 * t + r.val) := by
    funext l
    rw [hi]
    by_cases h : t < 16
    · rw [if_pos h]; exact H.ctx h r l
    · rw [if_neg h]; exact H.lat h r l
  exact congrFun (congr (congr (congr (congrArg nrm ex) (funext fun l => H.gw l)) (funext fun l => H.shift r.val r.isLt l))
    (funext fun l => H.scale r.val r.isLt l)) k

/-- The block a grid point leaves. -/
def outBlk {n : ℕ} (φ : FTy) (h : FVec Ideal S512x1024 .bf16) (w : Vec Ideal ⟨2, ![1024, n]⟩ .bf16) : FVec Ideal ⟨2, ![512, n]⟩ φ := fun y =>
  ∑ k : Fin 1024, h (ix2 (n0 := 512) (n1 := 1024) (y 0) k) * w (ix2 (n0 := 1024) (n1 := n) k (y 1))

/-- A chunk of columns is `outBlk` there. -/
theorem chunk_eq {n : ℕ} (h : FVec Ideal S512x1024 .bf16) (w : Vec Ideal ⟨2, ![1024, n]⟩ .bf16) (off : ℕ) (hw : _) (ho : _) (y : S512x1536.Idx) :
    k0_pay1 h (View.ld w (Rect.unit (s := ⟨2, ![1024, n]⟩) ![0, off] S1024x1536.size hw)) y
      = outBlk .bf16 h w ((Rect.unit (s := ⟨2, ![512, n]⟩) ![0, off] S512x1536.size ho).emb y) := by
  obtain ⟨r, f, rfl⟩ : ∃ (r : Fin 512) (f : Fin 1536), y = ix2 r f := ⟨y 0, y 1, by funext a; match a with | ⟨0, _⟩ => rfl | ⟨1, _⟩ => rfl⟩
  refine (chunk_apply _ _ r f).trans (Finset.sum_congr rfl fun k _ => congrArg₂ (· * ·) (congrArg h (funext fun a => Fin.ext ?_))
    (congrArg w (funext fun a => Fin.ext ?_)))
  · match a with
    | ⟨0, _⟩ => show r.val = 0 + 1 * r.val; omega
    | ⟨1, _⟩ => rfl
  · match a with
    | ⟨0, _⟩ => show 0 + 1 * k.val = k.val; omega
    | ⟨1, _⟩ => rfl

/-- The block of a tile is the tile's rows of the product. -/
theorem tile_out {R : Rows} {t : ℕ} {v1 v2 : Vec Ideal S512x1024 .f32} {g : Vec Ideal S1x1024 .f32} {sh sc : Vec Ideal S1x1x1024 .f32}
    (H : IsTile R t v1 v2 g sh sc) (i : grid0.Coords) (hi : (i 0).val = t) {n : ℕ} {φ : FTy} {w w' : Vec Ideal ⟨2, ![1024, n]⟩ .bf16}
    (hw : ∀ k f, w (ix2 k f) = w' (ix2 k f)) (j : (⟨2, ![512, n]⟩ : Shape).Idx) :
    outBlk φ (k0_pay4 i v1 v2 g sh sc) w j = prodR R w' (512 * t + (j 0).val) (j 1) :=
  Finset.sum_congr rfl fun k _ => congrArg₂ (· * ·) (tile_rows H i hi (j 0) k) (hw k (j 1))

/-- The modulation row of a tile. -/
def segT (t : ℕ) : ℕ := if t < 16 then 0 else if t < 24 then 1 else 2

theorem segT_eq (t n : ℕ) (hn : n < 512) : segT t = (segOf (512 * t + n)).val := by
  unfold segT segOf
  split_ifs <;> first | rfl | (exfalso; omega)

/-- Equal indices of a table of rows, of an array of modulations. -/
theorem at2 {n0 n1 : ℕ} {e : EltTy} (X : Vec Ideal ⟨2, ![n0, n1]⟩ e) (p : (⟨2, ![n0, n1]⟩ : Shape).Idx) (a : Fin n0) (b : Fin n1)
    (h0 : (p 0).val = a.val) (h1 : (p 1).val = b.val) : X p = X (ix2 a b) :=
  congrArg X (funext fun q => Fin.ext (match q with | ⟨0, _⟩ => h0 | ⟨1, _⟩ => h1))
theorem at3 {n0 n1 n2 : ℕ} {e : EltTy} (X : Vec Ideal ⟨3, ![n0, n1, n2]⟩ e) (p : (⟨3, ![n0, n1, n2]⟩ : Shape).Idx) (a : Fin n0) (b : Fin n1) (d : Fin n2)
    (h0 : (p 0).val = a.val) (h1 : (p 1).val = b.val) (h2 : (p 2).val = d.val) : X p = X (ix3 a b d) :=
  congrArg X (funext fun q => Fin.ext (match q with | ⟨0, _⟩ => h0 | ⟨1, _⟩ => h1 | ⟨2, _⟩ => h2))

/-- What a grid point leaves is `outBlk` of its normed rows. -/
theorem out_block (i : grid0.Coords) (x0 x1 : Vec Ideal S512x1024 .f32) (x2 : Vec Ideal S1x1024 .f32) (x3 x4 : Vec Ideal S1x1x1024 .f32)
    (x5 : Vec Ideal S1024x6144 .bf16) :
    out0_6 i x0 x1 x2 x3 x4 x5 = outBlk (n := 6144) .bf16 (k0_pay4 i x0 x1 x2 x3 x4) x5 := by
  have e0 : View.ld x0 r0_0 = x0 := View.ld_unit_lit _ _ (by decide)
  have e1 : View.ld x1 r0_0 = x1 := View.ld_unit_lit _ _ (by decide)
  have e2 : View.ld x2 r0_1 = x2 := View.ld_unit_lit _ _ (by decide)
  have e3 : View.ld x3 r0_2 = x3 := View.ld_unit_lit _ _ (by decide)
  have e4 : View.ld x4 r0_2 = x4 := View.ld_unit_lit _ _ (by decide)
  unfold_out out0_6
  rw [e0, e1, e2, e3, e4]
  funext y
  refine View.canon_apply_of_pieces (Val := Elt Ideal) (outBlk (n := 6144) .bf16 (k0_pay4 i x0 x1 x2 x3 x4) x5) _ ?_ y (cover0_6 _ _ _ _ y)
  intro p hp
  rcases List.mem_cons.mp hp with rfl | hp
  · exact chunk_eq (n := 6144) (k0_pay4 i x0 x1 x2 x3 x4) x5 4608 inb_S1024x6144_S1024x1536_0_4608 inb_S512x6144_S512x1536_0_4608
  rcases List.mem_cons.mp hp with rfl | hp
  · exact chunk_eq (n := 6144) (k0_pay4 i x0 x1 x2 x3 x4) x5 3072 inb_S1024x6144_S1024x1536_0_3072 inb_S512x6144_S512x1536_0_3072
  rcases List.mem_cons.mp hp with rfl | hp
  · exact chunk_eq (n := 6144) (k0_pay4 i x0 x1 x2 x3 x4) x5 1536 inb_S1024x6144_S1024x1536_0_1536 inb_S512x6144_S512x1536_0_1536
  obtain rfl := List.mem_singleton.mp hp
  exact chunk_eq (n := 6144) (k0_pay4 i x0 x1 x2 x3 x4) x5 0 inb_S1024x6144_S1024x1536_0_0 inb_S512x6144_S512x1536_0_0

end Cert.Proof.Proj

end
-- ==== Proof.ProjRun.lean ====
/- The result array of the normed projection as a function of the argument arrays, over the reals: grid point `t` leaves rows
   `512 t …` of `projA`. The rows come through two windows on the one array, the first for the context's tiles and the
   second for the latent ones; the modulation blocks are the rows of the tile's sequence. -/
module

public import proofs.«01_k».proof.Proof.ProjBlock
public import proofs.«01_k».proof.Proof.ProjSpec
public import Idealize.ShloMosaic.Lib.StableHlo.Run

@[expose] public section

noncomputable section

namespace Cert.Proof.Proj

open Cert.KernelProjIdeal Cert.KernelProjIdeal.Gen Cert.KernelProjIdeal.Value Idealize.ShloMosaic Idealize.ShloMosaic.TcCoe Idealize.SL.Sem
open Idealize.ShloMosaic.Pointwise
open Cert.Proof.Ffn (nrm segOf)

variable (m : (ℓ : Loc nD τ sig) → Buf (Elt Ideal) ℓ) (ρ : Dev nD → PrngReg)

/-- The arguments a core's buffers hold. -/
def args (c : Dev nD) : Args 6144 where
  x := m ((c : Thread nD τ).loc main_arg0)
  g := m ((c : Thread nD τ).loc main_arg1)
  sh := m ((c : Thread nD τ).loc main_arg2)
  sc := m ((c : Thread nD τ).loc main_arg3)
  w := m ((c : Thread nD τ).loc main_arg4)

/-- The reshaped norm weights. -/
theorem V_v0 (c : Dev nD) (k : Fin 1024) : V m c main_v0 (ix2 (n0 := 1) (n1 := 1024) 0 k) = (args m c).g (ix1 k) := by
  have h : V m c main_v0 = shapeCast S1x1024 (m ((c : Thread nD τ).loc main_arg1)) shapeCasts_S1024_S1x1024 := by
    show StableHlo.after hostOps0 (fun b => m (c, b)) (Proc.devRef .tc main_v0) = _
    unfold hostOps0
    after_results_simp
    rfl
  rw [h]
  pointwise
  rfl

theorem idx0 : ∀ t : Fin cfg0.N, win0_0.index t (0 : Fin 2) = min t.val 15 ∧ win0_0.index t (1 : Fin 2) = 0 :=
  (by decide +kernel : ∀ t : Fin grid0.N, _)
theorem idx1 : ∀ t : Fin cfg0.N, win0_1.index t (0 : Fin 2) = max t.val 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = segT t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = segT t.val ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 32 := t.isLt

/-- The blocks a grid point reads are the tile's. -/
theorem isTile (c : Dev nD) (t : Fin cfg0.N) :
    IsTile (args m c).rows t.val (iblk m c 0 t) (iblk m c 1 t) (iblk m c 2 t) (iblk m c 3 t) (iblk m c 4 t) where
  ctx ht r k := by
    obtain ⟨e0, e1⟩ := idx0 t
    exact (congrFun (V_main_arg0 m c) _).trans (at2 (args m c).x _ _ _
      (show win0_0.index t (0 : Fin 2) * 512 + 1 * r.val = min (512 * t.val + r.val) 16383 by omega)
      (show win0_0.index t (1 : Fin 2) * 1024 + 1 * k.val = k.val by omega))
  lat ht r k := by
    obtain ⟨e0, e1⟩ := idx1 t
    have h := t_lt t
    exact (congrFun (V_main_arg0 m c) _).trans (at2 (args m c).x _ _ _
      (show win0_1.index t (0 : Fin 2) * 512 + 1 * r.val = min (512 * t.val + r.val) 16383 by omega)
      (show win0_1.index t (1 : Fin 2) * 1024 + 1 * k.val = k.val by omega))
  gw k := by
    obtain ⟨e0, e1⟩ := idx2 t
    exact (at2 (V m c main_v0) _ _ _ (show win0_2.index t (0 : Fin 2) * 1 + 1 * 0 = 0 by omega)
      (show win0_2.index t (1 : Fin 2) * 1024 + 1 * k.val = k.val by omega)).trans (V_v0 m c k)
  shift n hn k := by
    obtain ⟨e0, e1, e2⟩ := idx3 t
    have h := segT_eq t.val n hn
    exact (congrFun (V_main_arg2 m c) _).trans (at3 (args m c).sh _ _ _ _
      (show win0_3.index t (0 : Fin 3) * 1 + 1 * 0 = (segOf (512 * t.val + n)).val by omega)
      (show win0_3.index t (1 : Fin 3) * 1 + 1 * 0 = 0 by omega)
      (show win0_3.index t (2 : Fin 3) * 1024 + 1 * k.val = k.val by omega))
  scale n hn k := by
    obtain ⟨e0, e1, e2⟩ := idx4 t
    have h := segT_eq t.val n hn
    exact (congrFun (V_main_arg3 m c) _).trans (at3 (args m c).sc _ _ _ _
      (show win0_4.index t (0 : Fin 3) * 1 + 1 * 0 = (segOf (512 * t.val + n)).val by omega)
      (show win0_4.index t (1 : Fin 3) * 1 + 1 * 0 = 0 by omega)
      (show win0_4.index t (2 : Fin 3) * 1024 + 1 * k.val = k.val by omega))

theorem weights (c : Dev nD) (t : Fin cfg0.N) (k : Fin 1024) (f : Fin 6144) :
    (iblk m c 5 t : Vec Ideal S1024x6144 .bf16) (ix2 k f) = (args m c).w (ix2 k f) := by
  obtain ⟨e0, e1⟩ := idx5 t
  exact (congrFun (V_main_arg4 m c) _).trans (at2 (args m c).w _ _ _ (show win0_5.index t (0 : Fin 2) * 1024 + 1 * k.val = k.val by omega)
    (show win0_5.index t (1 : Fin 2) * 6144 + 1 * f.val = f.val by omega))

/-- Where an index of a grid point's block lies in the array. -/
theorem emb6 (t : Fin cfg0.N) (j : S512x6144.Idx) : ((cfg0.win 6).blk t).view.emb j
    = ix2 (n0 := 16384) (n1 := 6144) ⟨512 * t.val + (j 0).val, by have : (j 0).val < 512 := (j 0).isLt; have := t_lt t; omega⟩ (j 1) := by
  obtain ⟨e0, e1⟩ := idx6 t
  funext a; apply Fin.ext
  match a with
  | ⟨0, _⟩ => show win0_6.index t (0 : Fin 2) * 512 + 1 * (j 0).val = 512 * t.val + (j 0).val; omega
  | ⟨1, _⟩ => show win0_6.index t (1 : Fin 2) * 6144 + 1 * (j 1).val = (j 1).val; omega

/-- What a grid point writes back is its block of `projA`. -/
theorem flushed_eq (c : Dev nD) (t : Fin cfg0.N) :
    (dats m 0 c).flushed 6 t = ((cfg0.win 6).blk t).view.read (Elt Ideal) (projA (args m c)) := by
  rw [flushed6, out_block]
  refine funext fun (j : S512x6144.Idx) => ?_
  refine Eq.trans ?_ (congrArg (projA (args m c)) (emb6 t j)).symm
  exact tile_out (isTile m c t) (grid0.coords t) (coord t) (weights m c t) j

/-- Every index of the result is in the block of its tile's grid point. -/
theorem covered (i : S16384x6144.Idx) :
    ∃ t : Fin cfg0.N, (cfg0.win 6).flush t = true ∧ i ∈ ((cfg0.win 6).blk t).view.set := by
  have h0 : (i 0).val < 16384 := (i 0).isLt
  refine ⟨(⟨(i 0).val / 512, show (i 0).val / 512 < 32 by omega⟩ : Fin cfg0.N), flush0_6 _, ?_⟩
  have h := ((cfg0.win 6).blk (⟨(i 0).val / 512, show (i 0).val / 512 < 32 by omega⟩ : Fin cfg0.N)).view.emb_mem_set
    (ix2 (n0 := 512) (n1 := 6144) ⟨(i 0).val % 512, Nat.mod_lt _ (by decide)⟩ (i 1) : S512x6144.Idx)
  rw [emb6] at h
  refine (congrArg (· ∈ _) (funext fun a => Fin.ext ?_)).mp h
  match a with
  | ⟨0, _⟩ => show 512 * ((i 0).val / 512) + (i 0).val % 512 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v1) = projA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 6 (projA (args m c)) (fun t _ => flushed_eq m c t) covered),
    (h c).2⟩) (run_blocks m ρ)

end Cert.Proof.Proj

end
-- ==== Proof.ProjRef.lean ====
/- The plain projection's result as an array: row by row it is `projG` of the arguments. -/
module

public import proofs.«01_k».proof.Proof.Gen.ReferenceProjIdeal.Read
public import proofs.«01_k».proof.Proof.ProjSpec
public import proofs.«01_k».proof.Proof.FfnRef

@[expose] public section

noncomputable section

namespace Cert.Proof.Proj

open Cert.ReferenceProjIdeal Cert.ReferenceProjIdeal.Gen Cert.ReferenceProjIdeal.Read Idealize.ShloMosaic Idealize.ShloMosaic.TcCoe
open Idealize.ShloMosaic.Pointwise
open Cert.Proof.Ffn (nrm segOf hC hL hC_apply hL_apply rowsC_apply rowsL_apply modC_apply modL_apply segC segL)

theorem dotC_apply (h : FVec Ideal S32x256x1024 .f32) (w : FVec Ideal S1024x6144 .f32) (b : Fin 32) (p : Fin 256) (f : Fin 6144) :
    (Host.dotGeneral dot_S32x256x1024_S1024x6144_S32x256x6144_2_0_01_1_n_n none h w : FVec Ideal S32x256x6144 .f32) (ix3 b p f)
      = ∑ k : Fin 1024, h (ix3 b p k) * w (ix2 k f) := by
  pointwise [dot_S32x256x1024_S1024x6144_S32x256x6144_2_0_01_1_n_n]

theorem dotL_apply (h : FVec Ideal S2x4096x1024 .f32) (w : FVec Ideal S1024x6144 .f32) (b : Fin 2) (p : Fin 4096) (f : Fin 6144) :
    (Host.dotGeneral dot_S2x4096x1024_S1024x6144_S2x4096x6144_2_0_01_1_n_n none h w : FVec Ideal S2x4096x6144 .f32) (ix3 b p f)
      = ∑ k : Fin 1024, h (ix3 b p k) * w (ix2 k f) := by
  pointwise [dot_S2x4096x1024_S1024x6144_S2x4096x6144_2_0_01_1_n_n]

theorem catRows_apply {n : ℕ} (y z : FVec Ideal ⟨2, ![8192, n]⟩ .f32)
    (cat : Shape.Concatenates [⟨2, ![8192, n]⟩, ⟨2, ![8192, n]⟩] ⟨2, ![16384, n]⟩ 0) (N : Fin 16384) (j : Fin n) :
    (concatenate ⟨2, ![16384, n]⟩ 0 [⟨⟨2, ![8192, n]⟩, y⟩, ⟨⟨2, ![8192, n]⟩, z⟩] cat : FVec Ideal ⟨2, ![16384, n]⟩ .f32) (ix2 N j)
      = if h : N.val < 8192 then y (ix2 ⟨N.val, h⟩ j) else z (ix2 ⟨N.val - 8192, by omega⟩ j) := by
  pointwise
  by_cases h : N.val < 8192
  · rw [dif_pos h, dif_pos h]
    exact congrArg y (funext fun a => Fin.ext (match a with | ⟨0, _⟩ => rfl | ⟨1, _⟩ => rfl))
  · rw [dif_neg h, dif_neg h]
    exact congrArg z (funext fun a => Fin.ext (match a with | ⟨0, _⟩ => rfl | ⟨1, _⟩ => rfl))

/-- A product of the rows' two halves, joined again, is the product of the rows. -/
theorem joined_prod {n : ℕ} (R : Rows) (w : Vec Ideal ⟨2, ![1024, n]⟩ .bf16)
    (y : FVec Ideal ⟨3, ![32, 256, n]⟩ .f32) (z : FVec Ideal ⟨3, ![2, 4096, n]⟩ .f32)
    (hy : ∀ (b : Fin 32) (p : Fin 256) (f : Fin n), y (ix3 b p f) = prodR R w (256 * b.val + p.val) f)
    (hz : ∀ (b : Fin 2) (p : Fin 4096) (f : Fin n), z (ix3 b p f) = prodR R w (8192 + 4096 * b.val + p.val) f)
    (sy : (⟨3, ![32, 256, n]⟩ : Shape).ShapeCasts ⟨2, ![8192, n]⟩) (sz : (⟨3, ![2, 4096, n]⟩ : Shape).ShapeCasts ⟨2, ![8192, n]⟩)
    (cat : Shape.Concatenates [⟨2, ![8192, n]⟩, ⟨2, ![8192, n]⟩] ⟨2, ![16384, n]⟩ 0) :
    (concatenate ⟨2, ![16384, n]⟩ 0 [⟨⟨2, ![8192, n]⟩, (shapeCast _ y sy : FVec Ideal ⟨2, ![8192, n]⟩ .f32)⟩,
        ⟨⟨2, ![8192, n]⟩, (shapeCast _ z sz : FVec Ideal ⟨2, ![8192, n]⟩ .f32)⟩] cat : FVec Ideal ⟨2, ![16384, n]⟩ .f32)
      = fun i => prodR R w (i 0).val (i 1) := by
  funext i
  obtain ⟨N, j, rfl⟩ : ∃ (N : Fin 16384) (j : Fin n), i = ix2 N j := ⟨i 0, i 1, by funext a; match a with | ⟨0, _⟩ => rfl | ⟨1, _⟩ => rfl⟩
  refine (catRows_apply _ _ cat N j).trans ?_
  show _ = prodR R w N.val j
  by_cases h : N.val < 8192
  · rw [dif_pos h]
    refine (shapeCast_apply _ sy _ (ix3 (n0 := 32) (n1 := 256) (n2 := n) ⟨N.val / 256, by omega⟩ ⟨N.val % 256, by omega⟩ j) ?_).trans ((hy _ _ j).trans
      (congrArg (prodR R w · j) (show 256 * (N.val / 256) + N.val % 256 = N.val by omega)))
    rw [Shape.rowMajor_val_two, Shape.rowMajor_val_three]
    show (N.val / 256 * 256 + N.val % 256) * n + j.val = N.val * n + j.val
    rw [show N.val / 256 * 256 + N.val % 256 = N.val by omega]
  · rw [dif_neg h]
    refine (shapeCast_apply _ sz _ (ix3 (n0 := 2) (n1 := 4096) (n2 := n) ⟨(N.val - 8192) / 4096, by omega⟩ ⟨(N.val - 8192) % 4096, by omega⟩ j) ?_).trans
      ((hz _ _ j).trans (congrArg (prodR R w · j) (show 8192 + 4096 * ((N.val - 8192) / 4096) + (N.val - 8192) % 4096 = N.val by omega)))
    rw [Shape.rowMajor_val_two, Shape.rowMajor_val_three]
    show ((N.val - 8192) / 4096 * 4096 + (N.val - 8192) % 4096) * n + j.val = (N.val - 8192) * n + j.val
    rw [show (N.val - 8192) / 4096 * 4096 + (N.val - 8192) % 4096 = N.val - 8192 by omega]

theorem segOf_C (b : Fin 32) (p : Fin 256) : segOf (256 * b.val + p.val) = segC 0 := by
  have hb := b.isLt
  have hp := p.isLt
  unfold segOf segC
  rw [if_pos (by omega)]

theorem segOf_L (b : Fin 2) (p : Fin 4096) : segOf (8192 + 4096 * b.val + p.val) = segL b := by
  have hb := b.isLt
  have hp := p.isLt
  apply Fin.ext
  unfold segOf segL
  rw [if_neg (by omega)]
  by_cases h : b.val = 0
  · rw [if_pos (by omega)]; show 1 = 1 + b.val; omega
  · rw [if_neg (by omega)]; show 2 = 1 + b.val; omega

/-- The normed rows of the halves, of rows `x` and `y` as they are read. -/
theorem hRowsC (R : Rows) (x : FVec Ideal S32x256x1024 .f32) (hx : ∀ b p k, x (ix3 b p k) = R.x (256 * b.val + p.val) k)
    (b : Fin 32) (p : Fin 256) (k : Fin 1024) :
    hC x R.g (val_main_v21 (F := Ideal) R.sh) (val_main_v16 (F := Ideal) R.sc) (ix3 b p k) = hR R (256 * b.val + p.val) k := by
  refine (hC_apply _ _ _ _ b p k).trans ?_
  unfold hR
  rw [segOf_C b p]
  exact congrFun (congr (congr (congr (congrArg nrm (funext fun l => hx b p l)) rfl) (funext fun l => modC_apply R.sh 0 l))
    (funext fun l => modC_apply R.sc 0 l)) k

theorem hRowsL (R : Rows) (x : FVec Ideal S2x4096x1024 .f32) (hx : ∀ b p k, x (ix3 b p k) = R.x (8192 + 4096 * b.val + p.val) k)
    (b : Fin 2) (p : Fin 4096) (k : Fin 1024) :
    hL x R.g (val_main_v45 (F := Ideal) R.sh) (val_main_v40 (F := Ideal) R.sc) (ix3 b p k) = hR R (8192 + 4096 * b.val + p.val) k := by
  refine (hL_apply _ _ _ _ b p k).trans ?_
  unfold hR
  rw [segOf_L b p]
  exact congrFun (congr (congr (congr (congrArg nrm (funext fun l => hx b p l)) rfl) (funext fun l => modL_apply R.sh b l))
    (funext fun l => modL_apply R.sc b l)) k

/-- The normed rows of one array. -/
theorem hRowsC1 {n : ℕ} (A : Args n) (b : Fin 32) (p : Fin 256) (k : Fin 1024) :
    val_main_v23 (F := Ideal) A.x A.g A.sh A.sc (ix3 b p k) = hR A.rows (256 * b.val + p.val) k :=
  hRowsC A.rows (val_main_v2 (F := Ideal) A.x) (rowsC_apply A.x) b p k

theorem hRowsL1 {n : ℕ} (A : Args n) (b : Fin 2) (p : Fin 4096) (k : Fin 1024) :
    val_main_v47 (F := Ideal) A.x A.g A.sh A.sc (ix3 b p k) = hR A.rows (8192 + 4096 * b.val + p.val) k :=
  hRowsL A.rows (val_main_v26 (F := Ideal) A.x) (rowsL_apply A.x) b p k

/-- The plain projection. -/
theorem ref_eq (A : Args 6144) : val_main_v52 (F := Ideal) A.x A.g A.sh A.sc A.w = projA A :=
  joined_prod A.rows A.w (val_main_v24 (F := Ideal) A.x A.g A.sh A.sc A.w) (val_main_v48 (F := Ideal) A.x A.g A.sh A.sc A.w)
    (fun b p f => (dotC_apply _ _ b p f).trans (Finset.sum_congr rfl fun k _ => congrArg (· * _) (hRowsC1 A b p k)))
    (fun b p f => (dotL_apply _ _ b p f).trans (Finset.sum_congr rfl fun k _ => congrArg (· * _) (hRowsL1 A b p k)))
    shapeCasts_S32x256x6144_S8192x6144 shapeCasts_S2x4096x6144_S8192x6144 concatenates_S8192x6144_S8192x6144_S16384x6144_d0

end Cert.Proof.Proj

end
-- ==== Proof.ProjClaim.lean ====
/- The projection's claim: kernel and reference both run and end with equal rows. -/
module

public import proofs.«01_k».proof.Defs
public import proofs.«01_k».proof.Proof.ProjRun
public import proofs.«01_k».proof.Proof.ProjRef

@[expose] public section

noncomputable section

namespace Cert.Proof.Proj

open Idealize.ShloMosaic Idealize.SL.Sem

theorem algebraic : Cert.algebraic_KernelProjIdeal_ReferenceProjIdeal := by
  intro m g m' g' _ heq
  refine ⟨fun c => projA (args m c), run m g, (θ_run Cert.ReferenceProjIdeal.defs _ _).mono (fun r h c => ?_) (Cert.ReferenceProjIdeal.Value.run m' g')⟩
  refine ⟨?_, (h c).2⟩
  obtain ⟨e0, e1, e2, e3, e4⟩ := heq c
  refine ((h c).1.trans (Cert.ReferenceProjIdeal.Read.val_main_v52_eq _ _ _ _ _)).trans ?_
  rw [e0, e1, e2, e3, e4]
  exact ref_eq (args m c)

/-- The reference of the projection runs and leaves its arguments alone; it has no semaphore. -/
theorem frame_reference : Cert.quiescent_ReferenceProjIdeal := fun m ρ _ =>
  (θ_run Cert.ReferenceProjIdeal.defs _ _).mono (fun r h => ⟨fun c => (h c).2,
    Idealize.ShloMosaic.sem_eq_zero_of_no_sems (by decide) r.2⟩) (Cert.ReferenceProjIdeal.Value.run (F := Ideal) m ρ)

end Cert.Proof.Proj

end
-- ==== Proof.QkvRun.lean ====
/- The result array of the differential attention's projection as a function of the argument arrays, over the reals: the rows
   are those of the retention's projection, the 3072 columns are treated in two chunks. -/
module

public import proofs.«01_k».proof.Proof.Gen.KernelQkvIdeal.Value
public import proofs.«01_k».proof.Proof.ProjBlock
public import proofs.«01_k».proof.Proof.ProjSpec
public import Idealize.ShloMosaic.Lib.StableHlo.Run

@[expose] public section

noncomputable section

namespace Cert.Proof.Qkv

open Cert.KernelQkvIdeal Cert.KernelQkvIdeal.Gen Cert.KernelQkvIdeal.Value Idealize.ShloMosaic Idealize.ShloMosaic.TcCoe Idealize.SL.Sem
open Idealize.ShloMosaic.Pointwise
open Cert.Proof.Ffn (segOf)
open Cert.Proof.Proj (Args projA IsTile segT segT_eq at2 at3 outBlk chunk_eq tile_out)

/-- What a grid point leaves is its normed rows' product, chunk by chunk. -/
theorem out_block (i : grid0.Coords) (x0 x1 : Vec Ideal S512x1024 .f32) (x2 : Vec Ideal S1x1024 .f32) (x3 x4 : Vec Ideal S1x1x1024 .f32)
    (x5 : Vec Ideal S1024x3072 .bf16) :
    out0_6 i x0 x1 x2 x3 x4 x5 = outBlk (n := 3072) .f32 (Cert.KernelProjIdeal.Gen.k0_pay4 i x0 x1 x2 x3 x4) x5 := by
  have e0 : View.ld x0 r0_0 = x0 := View.ld_unit_lit _ _ (by decide)
  have e1 : View.ld x1 r0_0 = x1 := View.ld_unit_lit _ _ (by decide)
  have e2 : View.ld x2 r0_1 = x2 := View.ld_unit_lit _ _ (by decide)
  have e3 : View.ld x3 r0_2 = x3 := View.ld_unit_lit _ _ (by decide)
  have e4 : View.ld x4 r0_2 = x4 := View.ld_unit_lit _ _ (by decide)
  unfold out0_6
  rw [e0, e1, e2, e3, e4]
  funext y
  refine View.canon_apply_of_pieces (Val := Elt Ideal) (outBlk (n := 3072) .f32 (Cert.KernelProjIdeal.Gen.k0_pay4 i x0 x1 x2 x3 x4) x5) _ ?_ y
    (cover0_6 _ _ y)
  intro p hp
  rcases List.mem_cons.mp hp with rfl | hp
  · exact chunk_eq (n := 3072) (Cert.KernelProjIdeal.Gen.k0_pay4 i x0 x1 x2 x3 x4) x5 1536 inb_S1024x3072_S1024x1536_0_1536 inb_S512x3072_S512x1536_0_1536
  obtain rfl := List.mem_singleton.mp hp
  exact chunk_eq (n := 3072) (Cert.KernelProjIdeal.Gen.k0_pay4 i x0 x1 x2 x3 x4) x5 0 inb_S1024x3072_S1024x1536_0_0 inb_S512x3072_S512x1536_0_0

variable (m : (ℓ : Loc nD τ sig) → Buf (Elt Ideal) ℓ) (ρ : Dev nD → PrngReg)

/-- The arguments a core's buffers hold. -/
def args (c : Dev nD) : Args 3072 where
  x := m ((c : Thread nD τ).loc main_arg0)
  g := m ((c : Thread nD τ).loc main_arg1)
  sh := m ((c : Thread nD τ).loc main_arg2)
  sc := m ((c : Thread nD τ).loc main_arg3)
  w := m ((c : Thread nD τ).loc main_arg4)

/-- The reshaped norm weights. -/
theorem V_v0 (c : Dev nD) (k : Fin 1024) : V m c main_v0 (ix2 (n0 := 1) (n1 := 1024) 0 k) = (args m c).g (ix1 k) := by
  have h : V m c main_v0 = shapeCast S1x1024 (m ((c : Thread nD τ).loc main_arg1)) shapeCasts_S1024_S1x1024 := by
    show StableHlo.after hostOps0 (fun b => m (c, b)) (Proc.devRef .tc main_v0) = _
    unfold hostOps0
    after_results_simp
    rfl
  rw [h]
  pointwise
  rfl

theorem idx0 : ∀ t : Fin cfg0.N, win0_0.index t (0 : Fin 2) = min t.val 15 ∧ win0_0.index t (1 : Fin 2) = 0 :=
  (by decide +kernel : ∀ t : Fin grid0.N, _)
theorem idx1 : ∀ t : Fin cfg0.N, win0_1.index t (0 : Fin 2) = max t.val 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = segT t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = segT t.val ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 32 := t.isLt

/-- The blocks a grid point reads are the tile's. -/
theorem isTile (c : Dev nD) (t : Fin cfg0.N) :
    IsTile (args m c).rows t.val (iblk m c 0 t) (iblk m c 1 t) (iblk m c 2 t) (iblk m c 3 t) (iblk m c 4 t) where
  ctx ht r k := by
    obtain ⟨e0, e1⟩ := idx0 t
    exact (congrFun (V_main_arg0 m c) _).trans (at2 (args m c).x _ _ _
      (show win0_0.index t (0 : Fin 2) * 512 + 1 * r.val = min (512 * t.val + r.val) 16383 by omega)
      (show win0_0.index t (1 : Fin 2) * 1024 + 1 * k.val = k.val by omega))
  lat ht r k := by
    obtain ⟨e0, e1⟩ := idx1 t
    have h := t_lt t
    exact (congrFun (V_main_arg0 m c) _).trans (at2 (args m c).x _ _ _
      (show win0_1.index t (0 : Fin 2) * 512 + 1 * r.val = min (512 * t.val + r.val) 16383 by omega)
      (show win0_1.index t (1 : Fin 2) * 1024 + 1 * k.val = k.val by omega))
  gw k := by
    obtain ⟨e0, e1⟩ := idx2 t
    exact (at2 (V m c main_v0) _ _ _ (show win0_2.index t (0 : Fin 2) * 1 + 1 * 0 = 0 by omega)
      (show win0_2.index t (1 : Fin 2) * 1024 + 1 * k.val = k.val by omega)).trans (V_v0 m c k)
  shift n hn k := by
    obtain ⟨e0, e1, e2⟩ := idx3 t
    have h := segT_eq t.val n hn
    exact (congrFun (V_main_arg2 m c) _).trans (at3 (args m c).sh _ _ _ _
      (show win0_3.index t (0 : Fin 3) * 1 + 1 * 0 = (segOf (512 * t.val + n)).val by omega)
      (show win0_3.index t (1 : Fin 3) * 1 + 1 * 0 = 0 by omega)
      (show win0_3.index t (2 : Fin 3) * 1024 + 1 * k.val = k.val by omega))
  scale n hn k := by
    obtain ⟨e0, e1, e2⟩ := idx4 t
    have h := segT_eq t.val n hn
    exact (congrFun (V_main_arg3 m c) _).trans (at3 (args m c).sc _ _ _ _
      (show win0_4.index t (0 : Fin 3) * 1 + 1 * 0 = (segOf (512 * t.val + n)).val by omega)
      (show win0_4.index t (1 : Fin 3) * 1 + 1 * 0 = 0 by omega)
      (show win0_4.index t (2 : Fin 3) * 1024 + 1 * k.val = k.val by omega))

theorem weights (c : Dev nD) (t : Fin cfg0.N) (k : Fin 1024) (f : Fin 3072) :
    (iblk m c 5 t : Vec Ideal S1024x3072 .bf16) (ix2 k f) = (args m c).w (ix2 k f) := by
  obtain ⟨e0, e1⟩ := idx5 t
  exact (congrFun (V_main_arg4 m c) _).trans (at2 (args m c).w _ _ _ (show win0_5.index t (0 : Fin 2) * 1024 + 1 * k.val = k.val by omega)
    (show win0_5.index t (1 : Fin 2) * 3072 + 1 * f.val = f.val by omega))

/-- Where an index of a grid point's block lies in the array. -/
theorem emb6 (t : Fin cfg0.N) (j : S512x3072.Idx) : ((cfg0.win 6).blk t).view.emb j
    = ix2 (n0 := 16384) (n1 := 3072) ⟨512 * t.val + (j 0).val, by have : (j 0).val < 512 := (j 0).isLt; have := t_lt t; omega⟩ (j 1) := by
  obtain ⟨e0, e1⟩ := idx6 t
  funext a; apply Fin.ext
  match a with
  | ⟨0, _⟩ => show win0_6.index t (0 : Fin 2) * 512 + 1 * (j 0).val = 512 * t.val + (j 0).val; omega
  | ⟨1, _⟩ => show win0_6.index t (1 : Fin 2) * 3072 + 1 * (j 1).val = (j 1).val; omega

/-- What a grid point writes back is its block of `projA`. -/
theorem flushed_eq (c : Dev nD) (t : Fin cfg0.N) :
    (dats m 0 c).flushed 6 t = ((cfg0.win 6).blk t).view.read (Elt Ideal) (projA (args m c)) := by
  rw [flushed6, out_block]
  refine funext fun (j : S512x3072.Idx) => ?_
  refine Eq.trans ?_ (congrArg (projA (args m c)) (emb6 t j)).symm
  exact tile_out (isTile m c t) (grid0.coords t) (coord t) (weights m c t) j

/-- Every index of the result is in the block of its tile's grid point. -/
theorem covered (i : S16384x3072.Idx) :
    ∃ t : Fin cfg0.N, (cfg0.win 6).flush t = true ∧ i ∈ ((cfg0.win 6).blk t).view.set := by
  have h0 : (i 0).val < 16384 := (i 0).isLt
  refine ⟨(⟨(i 0).val / 512, show (i 0).val / 512 < 32 by omega⟩ : Fin cfg0.N), flush0_6 _, ?_⟩
  have h := ((cfg0.win 6).blk (⟨(i 0).val / 512, show (i 0).val / 512 < 32 by omega⟩ : Fin cfg0.N)).view.emb_mem_set
    (ix2 (n0 := 512) (n1 := 3072) ⟨(i 0).val % 512, Nat.mod_lt _ (by decide)⟩ (i 1) : S512x3072.Idx)
  rw [emb6] at h
  refine (congrArg (· ∈ _) (funext fun a => Fin.ext ?_)).mp h
  match a with
  | ⟨0, _⟩ => show 512 * ((i 0).val / 512) + (i 0).val % 512 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v1) = projA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 6 (projA (args m c)) (fun t _ => flushed_eq m c t) covered),
    (h c).2⟩) (run_blocks m ρ)

end Cert.Proof.Qkv

end
-- ==== Proof.QkvRef.lean ====
/- The plain projection of the differential attention as an array: row by row it is the product of the normed rows. -/
module

public import proofs.«01_k».proof.Proof.Gen.ReferenceQkvIdeal.Read
public import proofs.«01_k».proof.Proof.ProjRef

@[expose] public section

noncomputable section

namespace Cert.Proof.Qkv

open Cert.ReferenceQkvIdeal Cert.ReferenceQkvIdeal.Gen Cert.ReferenceQkvIdeal.Read Idealize.ShloMosaic Idealize.ShloMosaic.TcCoe
open Idealize.ShloMosaic.Pointwise
open Cert.Proof.Proj (Args projA joined_prod hRowsC1 hRowsL1)

theorem dotC_apply (h : FVec Ideal S32x256x1024 .f32) (w : FVec Ideal S1024x3072 .f32) (b : Fin 32) (p : Fin 256) (f : Fin 3072) :
    (Host.dotGeneral dot_S32x256x1024_S1024x3072_S32x256x3072_2_0_01_1_n_n none h w : FVec Ideal S32x256x3072 .f32) (ix3 b p f)
      = ∑ k : Fin 1024, h (ix3 b p k) * w (ix2 k f) := by
  pointwise [dot_S32x256x1024_S1024x3072_S32x256x3072_2_0_01_1_n_n]

theorem dotL_apply (h : FVec Ideal S2x4096x1024 .f32) (w : FVec Ideal S1024x3072 .f32) (b : Fin 2) (p : Fin 4096) (f : Fin 3072) :
    (Host.dotGeneral dot_S2x4096x1024_S1024x3072_S2x4096x3072_2_0_01_1_n_n none h w : FVec Ideal S2x4096x3072 .f32) (ix3 b p f)
      = ∑ k : Fin 1024, h (ix3 b p k) * w (ix2 k f) := by
  pointwise [dot_S2x4096x1024_S1024x3072_S2x4096x3072_2_0_01_1_n_n]

/-- The plain projection. -/
theorem ref_eq (A : Args 3072) : val_main_v51 (F := Ideal) A.x A.g A.sh A.sc A.w = projA A :=
  joined_prod A.rows A.w (val_main_v24 (F := Ideal) A.x A.g A.sh A.sc A.w) (val_main_v48 (F := Ideal) A.x A.g A.sh A.sc A.w)
    (fun b p f => (dotC_apply _ _ b p f).trans (Finset.sum_congr rfl fun k _ => congrArg (· * _) (hRowsC1 A b p k)))
    (fun b p f => (dotL_apply _ _ b p f).trans (Finset.sum_congr rfl fun k _ => congrArg (· * _) (hRowsL1 A b p k)))
    shapeCasts_S32x256x3072_S8192x3072 shapeCasts_S2x4096x3072_S8192x3072 concatenates_S8192x3072_S8192x3072_S16384x3072_d0

end Cert.Proof.Qkv

end
-- ==== Proof.QkvClaim.lean ====
/- The claim of the differential attention's projection: kernel and reference both run and end with equal rows. -/
module

public import proofs.«01_k».proof.Defs
public import proofs.«01_k».proof.Proof.QkvRun
public import proofs.«01_k».proof.Proof.QkvRef

@[expose] public section

noncomputable section

namespace Cert.Proof.Qkv

open Idealize.ShloMosaic Idealize.SL.Sem

theorem algebraic : Cert.algebraic_KernelQkvIdeal_ReferenceQkvIdeal := by
  intro m g m' g' _ heq
  refine ⟨fun c => Proj.projA (args m c), run m g, (θ_run Cert.ReferenceQkvIdeal.defs _ _).mono (fun r h c => ?_) (Cert.ReferenceQkvIdeal.Value.run m' g')⟩
  refine ⟨?_, (h c).2⟩
  obtain ⟨e0, e1, e2, e3, e4⟩ := heq c
  refine ((h c).1.trans (Cert.ReferenceQkvIdeal.Read.val_main_v51_eq _ _ _ _ _)).trans ?_
  rw [e0, e1, e2, e3, e4]
  exact ref_eq (args m c)

/-- The reference of the projection runs and leaves its arguments alone; it has no semaphore. -/
theorem frame_reference : Cert.quiescent_ReferenceQkvIdeal := fun m ρ _ =>
  (θ_run Cert.ReferenceQkvIdeal.defs _ _).mono (fun r h => ⟨fun c => (h c).2,
    Idealize.ShloMosaic.sem_eq_zero_of_no_sems (by decide) r.2⟩) (Cert.ReferenceQkvIdeal.Value.run (F := Ideal) m ρ)

end Cert.Proof.Qkv

end
-- ==== Proof.OutSpec.lean ====
/- An output projection on the residual stream as a plain function over the reals, row by row of the 16384 rows: the row plus
   the gate times the product of an activation's row with the weights. -/
module

public import proofs.«01_k».proof.Proof.ProjSpec

@[expose] public section

noncomputable section

namespace Cert.Proof.Out

open Idealize.ShloMosaic Idealize.ShloMosaic.Pointwise
open Cert.Proof.Ffn (segOf)
open Cert.Proof.Proj (rowOf)

/-- Rows in two arrays: the context's, then the latent ones. -/
def twoRows {n : ℕ} {φ : FTy} (c l : FVec Ideal ⟨2, ![8192, n]⟩ φ) (N : ℕ) (k : Fin n) : EReal :=
  if N < 8192 then c (ix2 (n0 := 8192) (n1 := n) ⟨min N 8191, by omega⟩ k)
  else l (ix2 (n0 := 8192) (n1 := n) ⟨min (N - 8192) 8191, by omega⟩ k)

theorem twoRows_ctx {n : ℕ} {φ : FTy} (c l : FVec Ideal ⟨2, ![8192, n]⟩ φ) (N : ℕ) (h : N < 8192) (k : Fin n) :
    twoRows c l N k = c (ix2 (n0 := 8192) (n1 := n) ⟨N, h⟩ k) := by
  unfold twoRows
  rw [if_pos h]
  exact congrArg (fun a => c (ix2 (n0 := 8192) (n1 := n) a k)) (Fin.ext (show min N 8191 = N by omega))

theorem twoRows_lat {n : ℕ} {φ : FTy} (c l : FVec Ideal ⟨2, ![8192, n]⟩ φ) (N : ℕ) (h : 8192 ≤ N) (h' : N - 8192 < 8192) (k : Fin n) :
    twoRows c l N k = l (ix2 (n0 := 8192) (n1 := n) ⟨N - 8192, h'⟩ k) := by
  unfold twoRows
  rw [if_neg (by omega)]
  exact congrArg (fun a => l (ix2 (n0 := 8192) (n1 := n) a k)) (Fin.ext (show min (N - 8192) 8191 = N - 8192 by omega))

/-- The result at row `N`, of the activations `a`. -/
def gatedG {K : ℕ} (x : Vec Ideal ⟨2, ![16384, 1024]⟩ .f32) (ga : Vec Ideal ⟨3, ![8, 1, 1024]⟩ .f32) (a : ℕ → Fin K → EReal)
    (w : Vec Ideal ⟨2, ![K, 1024]⟩ .bf16) (N : ℕ) (j : Fin 1024) : EReal :=
  rowOf x N j + ga (ix3 (n0 := 8) (n1 := 1) (n2 := 1024) (segOf N) 0 j) * ∑ k : Fin K, a N k * w (ix2 (n0 := K) (n1 := 1024) k j)

/-- The result as an array. -/
def gatedA {K : ℕ} (x : Vec Ideal ⟨2, ![16384, 1024]⟩ .f32) (ga : Vec Ideal ⟨3, ![8, 1, 1024]⟩ .f32) (a : ℕ → Fin K → EReal)
    (w : Vec Ideal ⟨2, ![K, 1024]⟩ .bf16) : Vec Ideal ⟨2, ![16384, 1024]⟩ .f32 := fun y => gatedG x ga a w (y 0).val (y 1)

/-- What the blocks of a tile hold. -/
structure IsTile {K : ℕ} {φ : FTy} (x : Vec Ideal ⟨2, ![16384, 1024]⟩ .f32) (ga : Vec Ideal ⟨3, ![8, 1, 1024]⟩ .f32) (a : ℕ → Fin K → EReal)
    (w : Vec Ideal ⟨2, ![K, 1024]⟩ .bf16) (t : ℕ) (vx : Vec Ideal ⟨2, ![512, 1024]⟩ .f32) (vg : Vec Ideal ⟨3, ![1, 1, 1024]⟩ .f32)
    (va : FVec Ideal ⟨2, ![512, K]⟩ φ) (vw : Vec Ideal ⟨2, ![K, 1024]⟩ .bf16) : Prop where
  res : ∀ r j, vx (ix2 r j) = rowOf x (512 * t + r.val) j
  gate : ∀ n < 512, ∀ j, vg (ix3 0 0 j) = ga (ix3 (segOf (512 * t + n)) 0 j)
  act : ∀ r k, va (ix2 r k) = a (512 * t + r.val) k
  ws : ∀ k j, vw (ix2 k j) = w (ix2 k j)

/-- The block of a tile is the tile's rows of the result. -/
theorem tile_out {K : ℕ} {φ : FTy} {x : Vec Ideal ⟨2, ![16384, 1024]⟩ .f32} {ga : Vec Ideal ⟨3, ![8, 1, 1024]⟩ .f32} {a : ℕ → Fin K → EReal}
    {w : Vec Ideal ⟨2, ![K, 1024]⟩ .bf16} {t : ℕ} {vx : Vec Ideal ⟨2, ![512, 1024]⟩ .f32} {vg : Vec Ideal ⟨3, ![1, 1, 1024]⟩ .f32}
    {va : FVec Ideal ⟨2, ![512, K]⟩ φ} {vw : Vec Ideal ⟨2, ![K, 1024]⟩ .bf16} (H : IsTile x ga a w t vx vg va vw) (r : Fin 512) (j : Fin 1024) :
    vx (ix2 r j) + vg (ix3 0 0 j) * ∑ k : Fin K, va (ix2 r k) * vw (ix2 k j) = gatedG x ga a w (512 * t + r.val) j := by
  unfold gatedG
  rw [H.res, H.gate r.val r.isLt]
  exact congrArg (fun s => _ + _ * s) (Finset.sum_congr rfl fun k _ => congrArg₂ (· * ·) (H.act r k) (H.ws k j))

end Cert.Proof.Out

end
-- ==== Proof.GateSpec.lean ====
/- The retention's output stage as a plain function over the reals, row by row: each head's 512 columns normed by their mean
   square and scaled, gated by a column block of the projection, projected, and added to the residual row under the gate. -/
module

public import proofs.«01_k».proof.Proof.OutSpec

@[expose] public section

noncomputable section

namespace Cert.Proof.Gate

open Idealize.ShloMosaic Idealize.ShloMosaic.Pointwise
open Cert.Proof.Out (twoRows gatedA)

/-- A head's row normed by its mean square and scaled, at one column. -/
def headN (s g : Fin 512 → EReal) (c : Fin 512) : EReal :=
  s c * Ideal.rsqrt (Ideal.div (∑ l : Fin 512, s l * s l) (Ideal.ofBits FTy.f32 1140850688#32) + Ideal.ofBits FTy.f32 897988541#32) * g c

/-- Column `l` of head `q`. -/
def col (q : ℕ) (hq : q < 4) (l : Fin 512) : Fin 2048 := ⟨512 * q + l.val, by omega⟩

/-- A row normed head by head. -/
def rowN (o g : Fin 2048 → EReal) (k : Fin 2048) : EReal :=
  headN (fun l => o (col (k.val / 512) (by omega) l)) (fun l => g (col (k.val / 512) (by omega) l)) ⟨k.val % 512, Nat.mod_lt _ (by decide)⟩

/-- At a column of head `q` it is that head's. -/
theorem rowN_col (o g : Fin 2048 → EReal) (q : ℕ) (hq : q < 4) (c : Fin 512) :
    rowN o g (col q hq c) = headN (fun l => o (col q hq l)) (fun l => g (col q hq l)) c := by
  have e : (col q hq c).val / 512 = q := by show (512 * q + c.val) / 512 = q; omega
  have ec : (⟨(col q hq c).val % 512, Nat.mod_lt _ (by decide)⟩ : Fin 512) = c := Fin.ext (by show (512 * q + c.val) % 512 = c.val; omega)
  unfold rowN
  rw [ec]
  simp only [e]

/-- A gating column `p` on a normed row. -/
def gatedN (p : EReal) (o g : Fin 2048 → EReal) (k : Fin 2048) : EReal := p * Ideal.logistic p * rowN o g k

/-- The arguments of the stage. -/
structure Args where
  ctx : Vec Ideal ⟨2, ![8192, 2048]⟩ .f32
  lat : Vec Ideal ⟨2, ![8192, 2048]⟩ .f32
  p : Vec Ideal ⟨2, ![16384, 6144]⟩ .bf16
  g : Vec Ideal ⟨1, ![2048]⟩ .f32
  w : Vec Ideal ⟨2, ![2048, 1024]⟩ .bf16
  x : Vec Ideal ⟨2, ![16384, 1024]⟩ .f32
  ga : Vec Ideal ⟨3, ![8, 1, 1024]⟩ .f32

/-- The gating columns of row `N`. -/
def Args.pRow (A : Args) (N : ℕ) (k : Fin 2048) : EReal :=
  A.p (ix2 (n0 := 16384) (n1 := 6144) ⟨min N 16383, by omega⟩ ⟨4096 + k.val, by omega⟩)

/-- The activations of row `N`. -/
def Args.act (A : Args) (N : ℕ) (k : Fin 2048) : EReal :=
  gatedN (A.pRow N k) (twoRows (φ := .f32) A.ctx A.lat N) (fun l => A.g (ix1 (n0 := 2048) l)) k

/-- The result. -/
def gateA (A : Args) : Vec Ideal ⟨2, ![16384, 1024]⟩ .f32 := gatedA A.x A.ga A.act A.w

end Cert.Proof.Gate

end
-- ==== Proof.GateBlock.lean ====
/- What one grid point of the retention's output stage leaves, over the reals: the four heads' normed columns are one row of
   activations, and the block is the residual rows plus the gate times their product with the weights. -/
module

public import proofs.«01_k».proof.Proof.Gen.KernelGateIdeal.Value
public import Idealize.ShloMosaic.Lib.Pipeline.ValueKit
public import proofs.«01_k».proof.Proof.GateSpec

@[expose] public section

noncomputable section

namespace Cert.Proof.Gate

open Cert.KernelGateIdeal Cert.KernelGateIdeal.Gen Idealize.ShloMosaic Idealize.ShloMosaic.TcCoe Idealize.SL.Sem
open Idealize.ShloMosaic.Pointwise

/-- The rows a tile reads: the context's for the first 16 tiles, else the latent ones. -/
theorem rows_apply (t : Fin 32) (v1 v2 : Vec Ideal S512x2048 .f32) :
    Scalar.select (Scalar.cmpi .slt (BitVec.ofNat 32 t.val) 16#32) v1 v2 = if t.val < 16 then v1 else v2 := by
  have h : (Scalar.cmpi .slt (BitVec.ofNat 32 t.val) 16#32 = 1#1) = (t.val < 16) :=
    (by decide +kernel : ∀ t : Fin 32, (Scalar.cmpi .slt (BitVec.ofNat 32 t.val) 16#32 = 1#1) = (t.val < 16)) t
  show (if Scalar.cmpi .slt (BitVec.ofNat 32 t.val) 16#32 = 1#1 then v1 else v2) = _
  simp only [h]

/-- A head's columns normed and scaled. -/
def headBlk (s : FVec Ideal S512x512 .f32) (g : Vec Ideal S1x512 .f32) : FVec Ideal S512x512 .f32 :=
  mulf (mulf s (broadcastTo S512x512 (rsqrt (addf
    (divf (shapeCast S512x1 (multiReduction .add [1] S512 (mulf s s) 0x00000000#32 reduces_S512x512_S512 (.inl rfl) rfl : FVec Ideal S512 .f32) shapeCasts_S512_S512x1)
      (broadcast S512x1 (Scalar.ofBits .f32 0x44000000#32)))
    (broadcast S512x1 (Scalar.ofBits .f32 0x358637BD#32)) : FVec Ideal S512x1 .f32)) broadcasts_S512x1_S512x512))
    (broadcastTo S512x512 (shapeCast S1x512 g shapeCasts_S1x512_S1x512 : FVec Ideal S1x512 .f32) broadcasts_S1x512_S512x512)

theorem headBlk_apply (s : FVec Ideal S512x512 .f32) (g : Vec Ideal S1x512 .f32) (r c : Fin 512) :
    headBlk s g (ix2 r c) = headN (fun l => s (ix2 r l)) (fun l => g (ix2 0 l)) c := by
  unfold headBlk
  pointwise
  rfl

/-- Head `q`'s columns of a tile's rows, with its columns of the weights. -/
theorem head_apply (v : FVec Ideal S512x2048 .f32) (g : Vec Ideal S1x2048 .f32) (q : ℕ) (hq : q < 4) (hs : S512x2048.Slices ![0, 512 * q] S512x512)
    (hg : ∀ a, (![0, 512 * q] : Fin 2 → ℕ) a + S1x512.size a ≤ S1x2048.size a) (r c : Fin 512) :
    headBlk (extractStridedSlice S512x512 ![0, 512 * q] v hs) (View.ld g (Rect.unit (s := S1x2048) ![0, 512 * q] S1x512.size hg)) (ix2 r c)
      = rowN (fun l => v (ix2 r l)) (fun l => g (ix2 0 l)) (col q hq c) := by
  rw [rowN_col]
  refine (headBlk_apply _ _ r c).trans (congrFun (congr (congrArg headN (funext fun l => ?_)) (funext fun l => ?_)) c)
  · exact extractStridedSlice_apply _ v hs _ (ix2 (n0 := 512) (n1 := 2048) r (col q hq l)) (fun a => match a with
      | ⟨0, _⟩ => by show r.val = 0 + r.val; omega
      | ⟨1, _⟩ => rfl)
  · exact congrArg g (funext fun a => Fin.ext (match a with
      | ⟨0, _⟩ => rfl
      | ⟨1, _⟩ => by show 512 * q + 1 * l.val = 512 * q + l.val; omega))

/-- Four blocks of columns, side by side. -/
def cat4 (a b c d : FVec Ideal S512x512 .f32) : FVec Ideal S512x2048 .f32 :=
  concatenate S512x2048 1 [⟨S512x512, a⟩, ⟨S512x512, b⟩, ⟨S512x512, c⟩, ⟨S512x512, d⟩] concatenates_S512x512_S512x512_S512x512_S512x512_S512x2048_d1

theorem cat4_apply (a b c d : FVec Ideal S512x512 .f32) (r : Fin 512) (f : Fin 2048 → EReal)
    (ha : ∀ l, a (ix2 r l) = f (col 0 (by decide) l)) (hb : ∀ l, b (ix2 r l) = f (col 1 (by decide) l))
    (hc : ∀ l, c (ix2 r l) = f (col 2 (by decide) l)) (hd : ∀ l, d (ix2 r l) = f (col 3 (by decide) l)) (k : Fin 2048) :
    cat4 a b c d (ix2 r k) = f k := by
  unfold cat4
  pointwise
  have hk := k.isLt
  by_cases h0 : k.val < 512
  · rw [dif_pos h0]
    exact (ha _).trans (congrArg f (Fin.ext (show 512 * 0 + k.val = k.val by omega)))
  rw [dif_neg h0]
  by_cases h1 : k.val - 512 < 512
  · rw [dif_pos h1]
    exact (hb _).trans (congrArg f (Fin.ext (show 512 * 1 + (k.val - 512) = k.val by omega)))
  rw [dif_neg h1]
  by_cases h2 : k.val - 512 - 512 < 512
  · rw [dif_pos h2]
    exact (hc _).trans (congrArg f (Fin.ext (show 512 * 2 + (k.val - 512 - 512) = k.val by omega)))
  rw [dif_neg h2]
  exact (hd _).trans (congrArg f (Fin.ext (show 512 * 3 + (k.val - 512 - 512 - 512) = k.val by omega)))

/-- The activations of a tile. -/
def actBlk (p : Vec Ideal S512x2048 .bf16) (n : FVec Ideal S512x2048 .f32) : FVec Ideal S512x2048 .bf16 :=
  truncf .bf16 (mulf (mulf (extf .f32 p bitsLt_bf16_f32 : FVec Ideal S512x2048 .f32) (logistic (extf .f32 p bitsLt_bf16_f32 : FVec Ideal S512x2048 .f32))) n) bitsLt_bf16_f32

theorem actBlk_apply (p : Vec Ideal S512x2048 .bf16) (n : FVec Ideal S512x2048 .f32) (r : Fin 512) (k : Fin 2048) :
    actBlk p n (ix2 r k) = p (ix2 r k) * Ideal.logistic (p (ix2 r k)) * n (ix2 r k) := rfl

/-- The residual rows plus the gate times the product of the activations and the weights. -/
def resBlk (x : Vec Ideal S512x1024 .f32) (ga : Vec Ideal S1x1x1024 .f32) (a : FVec Ideal S512x2048 .bf16) (w : Vec Ideal S2048x1024 .bf16) : FVec Ideal S512x1024 .f32 :=
  addf x (mulf (broadcastTo S512x1024 (shapeCast S1x1024 ga shapeCasts_S1x1x1024_S1x1024 : FVec Ideal S1x1024 .f32) broadcasts_S1x1024_S512x1024)
    (matmul dot_S512x2048_S2048x1024_S512x1024_1_0_0_1_n_n none (φ₁ := .bf16) (φ₂ := .bf16) a w (constant S512x1024 .f32 0x00000000#32)))

theorem resBlk_apply (x : Vec Ideal S512x1024 .f32) (ga : Vec Ideal S1x1x1024 .f32) (a : FVec Ideal S512x2048 .bf16) (w : Vec Ideal S2048x1024 .bf16)
    (r : Fin 512) (j : Fin 1024) :
    resBlk x ga a w (ix2 r j) = x (ix2 r j) + ga (ix3 0 0 j) * ∑ k : Fin 2048, a (ix2 r k) * w (ix2 k j) := by
  unfold resBlk
  pointwise [dot_S512x2048_S2048x1024_S512x1024_1_0_0_1_n_n]

/-- The normed rows of a tile. -/
def normBlk (v : FVec Ideal S512x2048 .f32) (g : Vec Ideal S1x2048 .f32) : FVec Ideal S512x2048 .f32 :=
  cat4 (headBlk (extractStridedSlice S512x512 ![0, 0] v slices_S512x2048_o0_0_S512x512) (View.ld g r0_1))
    (headBlk (extractStridedSlice S512x512 ![0, 512] v slices_S512x2048_o0_512_S512x512) (View.ld g r0_2))
    (headBlk (extractStridedSlice S512x512 ![0, 1024] v slices_S512x2048_o0_1024_S512x512) (View.ld g r0_3))
    (headBlk (extractStridedSlice S512x512 ![0, 1536] v slices_S512x2048_o0_1536_S512x512) (View.ld g r0_4))

theorem normBlk_apply (v : FVec Ideal S512x2048 .f32) (g : Vec Ideal S1x2048 .f32) (r : Fin 512) (k : Fin 2048) :
    normBlk v g (ix2 r k) = rowN (fun l => v (ix2 r l)) (fun l => g (ix2 0 l)) k :=
  cat4_apply _ _ _ _ r (rowN (fun l => v (ix2 r l)) (fun l => g (ix2 0 l)))
    (fun l => head_apply v g 0 (by decide) slices_S512x2048_o0_0_S512x512 inb_S1x2048_S1x512_0_0 r l)
    (fun l => head_apply v g 1 (by decide) slices_S512x2048_o0_512_S512x512 inb_S1x2048_S1x512_0_512 r l)
    (fun l => head_apply v g 2 (by decide) slices_S512x2048_o0_1024_S512x512 inb_S1x2048_S1x512_0_1024 r l)
    (fun l => head_apply v g 3 (by decide) slices_S512x2048_o0_1536_S512x512 inb_S1x2048_S1x512_0_1536 r l) k

/-- What a grid point leaves. -/
theorem out_block (i : grid0.Coords) (x0 x1 : Vec Ideal S512x2048 .f32) (x2 : Vec Ideal S512x2048 .bf16) (x3 : Vec Ideal S1x2048 .f32)
    (x4 : Vec Ideal S2048x1024 .bf16) (x5 : Vec Ideal S512x1024 .f32) (x6 : Vec Ideal S1x1x1024 .f32) :
    out0_7 i x0 x1 x2 x3 x4 x5 x6 = resBlk x5 x6 (actBlk x2 (normBlk (if (i 0).val < 16 then x0 else x1) x3)) x4 := by
  have e0 : View.ld x0 r0_0 = x0 := View.ld_unit_lit _ _ (by decide)
  have e1 : View.ld x1 r0_0 = x1 := View.ld_unit_lit _ _ (by decide)
  have e2 : View.ld x2 r0_0 = x2 := View.ld_unit_lit _ _ (by decide)
  have e4 : View.ld x4 r0_7 = x4 := View.ld_unit_lit _ _ (by decide)
  have e5 : View.ld x5 r0_5 = x5 := View.ld_unit_lit _ _ (by decide)
  have e6 : View.ld x6 r0_6 = x6 := View.ld_unit_lit _ _ (by decide)
  unfold out0_7
  rw [e0, e1, e2, e4, e5, e6, ← rows_apply (i 0) x0 x1]
  exact View.canon_cons_unit_lit _ _ _ (by decide)

/-- Its activations, at an index. -/
theorem act_apply (v : FVec Ideal S512x2048 .f32) (p : Vec Ideal S512x2048 .bf16) (g : Vec Ideal S1x2048 .f32) (r : Fin 512) (k : Fin 2048) :
    actBlk p (normBlk v g) (ix2 r k) = gatedN (p (ix2 r k)) (fun l => v (ix2 r l)) (fun l => g (ix2 0 l)) k :=
  (actBlk_apply p (normBlk v g) r k).trans (congrArg (_ * ·) (normBlk_apply v g r k))

end Cert.Proof.Gate

end
-- ==== Proof.GateRun.lean ====
/- The result array of the retention's output stage as a function of the argument arrays, over the reals. -/
module

public import proofs.«01_k».proof.Proof.GateBlock
public import proofs.«01_k».proof.Proof.ProjBlock
public import Idealize.ShloMosaic.Lib.StableHlo.Run

@[expose] public section

noncomputable section

namespace Cert.Proof.Gate

open Cert.KernelGateIdeal Cert.KernelGateIdeal.Gen Cert.KernelGateIdeal.Value Idealize.ShloMosaic Idealize.ShloMosaic.TcCoe Idealize.SL.Sem
open Idealize.ShloMosaic.Pointwise
open Cert.Proof.Ffn (segOf)
open Cert.Proof.Proj (rowOf segT segT_eq at2 at3)
open Cert.Proof.Out (twoRows twoRows_ctx twoRows_lat IsTile tile_out)

variable (m : (ℓ : Loc nD τ sig) → Buf (Elt Ideal) ℓ) (ρ : Dev nD → PrngReg)

/-- The arguments a core's buffers hold. -/
def args (c : Dev nD) : Args where
  ctx := m ((c : Thread nD τ).loc main_arg0)
  lat := m ((c : Thread nD τ).loc main_arg1)
  p := m ((c : Thread nD τ).loc main_arg2)
  g := m ((c : Thread nD τ).loc main_arg3)
  w := m ((c : Thread nD τ).loc main_arg4)
  x := m ((c : Thread nD τ).loc main_arg5)
  ga := m ((c : Thread nD τ).loc main_arg6)

/-- The reshaped head weights. -/
theorem V_v0 (c : Dev nD) (k : Fin 2048) : V m c main_v0 (ix2 (n0 := 1) (n1 := 2048) 0 k) = (args m c).g (ix1 k) := by
  have h : V m c main_v0 = shapeCast S1x2048 (m ((c : Thread nD τ).loc main_arg3)) shapeCasts_S2048_S1x2048 := by
    show StableHlo.after hostOps0 (fun b => m (c, b)) (Proc.devRef .tc main_v0) = _
    unfold hostOps0
    after_results_simp
    rfl
  rw [h]
  exact shapeCast_apply _ shapeCasts_S2048_S1x2048 _ (ix1 (n0 := 2048) k) (by
    rw [Shape.rowMajor_val_one, Shape.rowMajor_val_two]
    show k.val = 0 * 2048 + k.val; omega)

theorem idx0 : ∀ t : Fin cfg0.N, win0_0.index t (0 : Fin 2) = min t.val 15 ∧ win0_0.index t (1 : Fin 2) = 0 :=
  (by decide +kernel : ∀ t : Fin grid0.N, _)
theorem idx1 : ∀ t : Fin cfg0.N, win0_1.index t (0 : Fin 2) = max t.val 16 - 16 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 2 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 3) = segT t.val ∧ win0_6.index t (1 : Fin 3) = 0 ∧ win0_6.index t (2 : Fin 3) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 32 := t.isLt

/-- The retained rows a grid point reads. -/
theorem retained (c : Dev nD) (t : Fin cfg0.N) (r : Fin 512) (k : Fin 2048) :
    (if (grid0.coords t 0).val < 16 then (iblk m c 0 t : Vec Ideal S512x2048 .f32) else (iblk m c 1 t : Vec Ideal S512x2048 .f32)) (ix2 r k)
      = twoRows (φ := .f32) (args m c).ctx (args m c).lat (512 * t.val + r.val) k := by
  rw [coord t]
  have h := t_lt t
  by_cases ht : t.val < 16
  · rw [if_pos ht]
    obtain ⟨e0, e1⟩ := idx0 t
    exact ((congrFun (V_main_arg0 m c) _).trans (at2 (args m c).ctx _ (⟨512 * t.val + r.val, by omega⟩ : Fin 8192) k
      (show win0_0.index t (0 : Fin 2) * 512 + 1 * r.val = 512 * t.val + r.val by omega)
      (show win0_0.index t (1 : Fin 2) * 2048 + 1 * k.val = k.val by omega))).trans (twoRows_ctx (φ := .f32) _ _ _ (by omega) k).symm
  · rw [if_neg ht]
    obtain ⟨e0, e1⟩ := idx1 t
    exact ((congrFun (V_main_arg1 m c) _).trans (at2 (args m c).lat _ (⟨512 * t.val + r.val - 8192, by omega⟩ : Fin 8192) k
      (show win0_1.index t (0 : Fin 2) * 512 + 1 * r.val = 512 * t.val + r.val - 8192 by omega)
      (show win0_1.index t (1 : Fin 2) * 2048 + 1 * k.val = k.val by omega))).trans (twoRows_lat (φ := .f32) _ _ _ (by omega) (by omega) k).symm

/-- The gating columns and the head weights it reads. -/
theorem gating (c : Dev nD) (t : Fin cfg0.N) (r : Fin 512) (k : Fin 2048) :
    (iblk m c 2 t : Vec Ideal S512x2048 .bf16) (ix2 r k) = (args m c).pRow (512 * t.val + r.val) k := by
  obtain ⟨e0, e1⟩ := idx2 t
  have h := t_lt t
  exact (congrFun (V_main_arg2 m c) _).trans (at2 (args m c).p _ _ _
    (show win0_2.index t (0 : Fin 2) * 512 + 1 * r.val = min (512 * t.val + r.val) 16383 by omega)
    (show win0_2.index t (1 : Fin 2) * 2048 + 1 * k.val = 4096 + k.val by omega))

theorem headWeights (c : Dev nD) (t : Fin cfg0.N) (k : Fin 2048) :
    (iblk m c 3 t : Vec Ideal S1x2048 .f32) (ix2 0 k) = (args m c).g (ix1 k) := by
  obtain ⟨e0, e1⟩ := idx3 t
  exact (at2 (V m c main_v0) _ _ _ (show win0_3.index t (0 : Fin 2) * 1 + 1 * 0 = 0 by omega)
    (show win0_3.index t (1 : Fin 2) * 2048 + 1 * k.val = k.val by omega)).trans (V_v0 m c k)

/-- The blocks a grid point reads are the tile's. -/
theorem isTile (c : Dev nD) (t : Fin cfg0.N) :
    IsTile (φ := .bf16) (args m c).x (args m c).ga (args m c).act (args m c).w t.val (iblk m c 5 t) (iblk m c 6 t)
      (actBlk (iblk m c 2 t) (normBlk (if (grid0.coords t 0).val < 16 then (iblk m c 0 t : Vec Ideal S512x2048 .f32) else (iblk m c 1 t : Vec Ideal S512x2048 .f32))
        (iblk m c 3 t))) (iblk m c 4 t) where
  res r j := by
    obtain ⟨e0, e1⟩ := idx5 t
    have h := t_lt t
    exact (congrFun (V_main_arg5 m c) _).trans (at2 (args m c).x _ _ _
      (show win0_5.index t (0 : Fin 2) * 512 + 1 * r.val = min (512 * t.val + r.val) 16383 by omega)
      (show win0_5.index t (1 : Fin 2) * 1024 + 1 * j.val = j.val by omega))
  gate n hn j := by
    obtain ⟨e0, e1, e2⟩ := idx6 t
    have h := segT_eq t.val n hn
    exact (congrFun (V_main_arg6 m c) _).trans (at3 (args m c).ga _ _ _ _
      (show win0_6.index t (0 : Fin 3) * 1 + 1 * 0 = (segOf (512 * t.val + n)).val by omega)
      (show win0_6.index t (1 : Fin 3) * 1 + 1 * 0 = 0 by omega)
      (show win0_6.index t (2 : Fin 3) * 1024 + 1 * j.val = j.val by omega))
  act r k := (act_apply _ _ _ r k).trans
    (congrFun (congr (congr (congrArg gatedN (gating m c t r k)) (funext fun l => retained m c t r l)) (funext fun l => headWeights m c t l)) k)
  ws k j := by
    obtain ⟨e0, e1⟩ := idx4 t
    exact (congrFun (V_main_arg4 m c) _).trans (at2 (args m c).w _ _ _ (show win0_4.index t (0 : Fin 2) * 2048 + 1 * k.val = k.val by omega)
      (show win0_4.index t (1 : Fin 2) * 1024 + 1 * j.val = j.val by omega))

/-- Where an index of a grid point's block lies in the array. -/
theorem emb7 (t : Fin cfg0.N) (j : S512x1024.Idx) : ((cfg0.win 7).blk t).view.emb j
    = ix2 (n0 := 16384) (n1 := 1024) ⟨512 * t.val + (j 0).val, by have : (j 0).val < 512 := (j 0).isLt; have := t_lt t; omega⟩ (j 1) := by
  obtain ⟨e0, e1⟩ := idx7 t
  funext a; apply Fin.ext
  match a with
  | ⟨0, _⟩ => show win0_7.index t (0 : Fin 2) * 512 + 1 * (j 0).val = 512 * t.val + (j 0).val; omega
  | ⟨1, _⟩ => show win0_7.index t (1 : Fin 2) * 1024 + 1 * (j 1).val = (j 1).val; omega

/-- What a grid point writes back is its block of `gateA`. -/
theorem flushed_eq (c : Dev nD) (t : Fin cfg0.N) :
    (dats m 0 c).flushed 7 t = ((cfg0.win 7).blk t).view.read (Elt Ideal) (gateA (args m c)) := by
  rw [flushed7, out_block]
  refine funext fun (y : S512x1024.Idx) => ?_
  obtain ⟨r, j, rfl⟩ : ∃ (r : Fin 512) (j : Fin 1024), y = ix2 r j := ⟨y 0, y 1, by funext a; match a with | ⟨0, _⟩ => rfl | ⟨1, _⟩ => rfl⟩
  refine Eq.trans ?_ (congrArg (gateA (args m c)) (emb7 t (ix2 r j))).symm
  exact (resBlk_apply _ _ _ _ r j).trans (tile_out (isTile m c t) r j)

/-- Every index of the result is in the block of its tile's grid point. -/
theorem covered (i : S16384x1024.Idx) :
    ∃ t : Fin cfg0.N, (cfg0.win 7).flush t = true ∧ i ∈ ((cfg0.win 7).blk t).view.set := by
  have h0 : (i 0).val < 16384 := (i 0).isLt
  refine ⟨(⟨(i 0).val / 512, show (i 0).val / 512 < 32 by omega⟩ : Fin cfg0.N), flush0_7 _, ?_⟩
  have h := ((cfg0.win 7).blk (⟨(i 0).val / 512, show (i 0).val / 512 < 32 by omega⟩ : Fin cfg0.N)).view.emb_mem_set
    (ix2 (n0 := 512) (n1 := 1024) ⟨(i 0).val % 512, Nat.mod_lt _ (by decide)⟩ (i 1) : S512x1024.Idx)
  rw [emb7] at h
  refine (congrArg (· ∈ _) (funext fun a => Fin.ext ?_)).mp h
  match a with
  | ⟨0, _⟩ => show 512 * ((i 0).val / 512) + (i 0).val % 512 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v1) = gateA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((dats m 0 c).arrAt_eq_of_cover 7 (gateA (args m c)) (fun t _ => flushed_eq m c t) covered),
    (h c).2⟩) (run_blocks m ρ)

end Cert.Proof.Gate

end
-- ==== Proof.OutRef.lean ====
/- The two halves of the plain output projections, and their joined array: the residual rows plus the gate times a product. -/
module

public import proofs.«01_k».proof.Proof.Gen.ReferenceResIdeal.Read
public import proofs.«01_k».proof.Proof.ProjRef
public import proofs.«01_k».proof.Proof.OutSpec

@[expose] public section

noncomputable section

namespace Cert.Proof.Out

open Cert.ReferenceResIdeal Cert.ReferenceResIdeal.Gen Cert.ReferenceResIdeal.Read Idealize.ShloMosaic Idealize.ShloMosaic.TcCoe
open Idealize.ShloMosaic.Pointwise
open Cert.Proof.Ffn (segOf segC segL joined joined_eq modC_apply modL_apply)
open Cert.Proof.Proj (rowOf segOf_C segOf_L)

/-- Rows in two arrays, by sequence: the context's. -/
theorem ctxRows_apply {n : ℕ} {φ : FTy} (c l : FVec Ideal ⟨2, ![8192, n]⟩ φ) (h : (⟨2, ![8192, n]⟩ : Shape).ShapeCasts ⟨3, ![32, 256, n]⟩)
    (b : Fin 32) (p : Fin 256) (k : Fin n) :
    (shapeCast ⟨3, ![32, 256, n]⟩ c h : FVec Ideal ⟨3, ![32, 256, n]⟩ φ) (ix3 b p k) = twoRows c l (256 * b.val + p.val) k := by
  have hb := b.isLt
  have hp := p.isLt
  refine (shapeCast_apply c h (ix3 b p k) (ix2 (n0 := 8192) (n1 := n) ⟨256 * b.val + p.val, by omega⟩ k) ?_).trans
    (twoRows_ctx c l _ (by omega) k).symm
  rw [Shape.rowMajor_val_two, Shape.rowMajor_val_three]
  show (256 * b.val + p.val) * n + k.val = (b.val * 256 + p.val) * n + k.val
  rw [Nat.mul_comm b.val 256]

/-- The latent ones. -/
theorem latRows_apply {n : ℕ} {φ : FTy} (c l : FVec Ideal ⟨2, ![8192, n]⟩ φ) (h : (⟨2, ![8192, n]⟩ : Shape).ShapeCasts ⟨3, ![2, 4096, n]⟩)
    (b : Fin 2) (p : Fin 4096) (k : Fin n) :
    (shapeCast ⟨3, ![2, 4096, n]⟩ l h : FVec Ideal ⟨3, ![2, 4096, n]⟩ φ) (ix3 b p k) = twoRows c l (8192 + 4096 * b.val + p.val) k := by
  have hb := b.isLt
  have hp := p.isLt
  refine (shapeCast_apply l h (ix3 b p k) (ix2 (n0 := 8192) (n1 := n) ⟨8192 + 4096 * b.val + p.val - 8192, by omega⟩ k) ?_).trans
    (twoRows_lat c l _ (by omega) (by omega) k).symm
  rw [Shape.rowMajor_val_two, Shape.rowMajor_val_three]
  show (8192 + 4096 * b.val + p.val - 8192) * n + k.val = (b.val * 4096 + p.val) * n + k.val
  rw [show 8192 + 4096 * b.val + p.val - 8192 = b.val * 4096 + p.val by omega]

/-- The gate of a context sequence and of a latent one. -/
theorem gateC_apply (ga : FVec Ideal S8x1x1024 .f32) (b : Fin 32) (p : Fin 256) (j : Fin 1024) :
    val_main_v7 (F := Ideal) ga (ix3 b p j) = ga (ix3 (segC 0) 0 j) := by
  refine Eq.trans ?_ (modC_apply ga 0 j)
  unfold val_main_v7 val_main_v3
  pointwise []

theorem gateL_apply (ga : FVec Ideal S8x1x1024 .f32) (b : Fin 2) (p : Fin 4096) (j : Fin 1024) :
    val_main_v16 (F := Ideal) ga (ix3 b p j) = ga (ix3 (segL b) 0 j) := by
  refine Eq.trans ?_ (modL_apply ga b j)
  unfold val_main_v16 val_main_v12
  pointwise []

/-- The halves with the products `y` and `z`, joined. -/
theorem gated_joined {K : ℕ} (x : Vec Ideal S16384x1024 .f32) (ga : Vec Ideal S8x1x1024 .f32) (a : ℕ → Fin K → EReal)
    (w : Vec Ideal ⟨2, ![K, 1024]⟩ .bf16) (y : FVec Ideal S32x256x1024 .f32) (z : FVec Ideal S2x4096x1024 .f32)
    (hy : ∀ b p j, y (ix3 b p j) = ∑ k : Fin K, a (256 * b.val + p.val) k * w (ix2 k j))
    (hz : ∀ b p j, z (ix3 b p j) = ∑ k : Fin K, a (8192 + 4096 * b.val + p.val) k * w (ix2 k j)) :
    joined (addf (val_main_v2 (F := Ideal) x) (mulf (val_main_v7 (F := Ideal) ga) y))
      (addf (val_main_v11 (F := Ideal) x) (mulf (val_main_v16 (F := Ideal) ga) z)) = gatedA x ga a w :=
  joined_eq _ _ (gatedG x ga a w)
    (fun b p j => by
      unfold gatedG
      rw [segOf_C b p, ← hy b p j, ← gateC_apply ga b p j]
      exact congrArg (· + _) (Ffn.rowsC_apply x b p j))
    (fun b p j => by
      unfold gatedG
      rw [segOf_L b p, ← hz b p j, ← gateL_apply ga b p j]
      exact congrArg (· + _) (Ffn.rowsL_apply x b p j))

end Cert.Proof.Out

end
-- ==== Proof.GateRef.lean ====
/- The plain output stage of the retention as an array. -/
module

public import proofs.«01_k».proof.Proof.Gen.ReferenceGateIdeal.Read
public import proofs.«01_k».proof.Proof.OutRef
public import proofs.«01_k».proof.Proof.GateSpec

@[expose] public section

noncomputable section

namespace Cert.Proof.Gate

open Cert.ReferenceGateIdeal Cert.ReferenceGateIdeal.Gen Cert.ReferenceGateIdeal.Read Idealize.ShloMosaic Idealize.ShloMosaic.TcCoe
open Idealize.ShloMosaic.Pointwise
open Cert.Proof.Out (twoRows twoRows_ctx twoRows_lat gated_joined)

theorem dotC_apply (h : FVec Ideal S32x256x2048 .f32) (w : FVec Ideal S2048x1024 .f32) (b : Fin 32) (p : Fin 256) (j : Fin 1024) :
    (Host.dotGeneral dot_S32x256x2048_S2048x1024_S32x256x1024_2_0_01_1_n_n none h w : FVec Ideal S32x256x1024 .f32) (ix3 b p j)
      = ∑ k : Fin 2048, h (ix3 b p k) * w (ix2 k j) := by
  pointwise [dot_S32x256x2048_S2048x1024_S32x256x1024_2_0_01_1_n_n]

theorem dotL_apply (h : FVec Ideal S2x4096x2048 .f32) (w : FVec Ideal S2048x1024 .f32) (b : Fin 2) (p : Fin 4096) (j : Fin 1024) :
    (Host.dotGeneral dot_S2x4096x2048_S2048x1024_S2x4096x1024_2_0_01_1_n_n none h w : FVec Ideal S2x4096x1024 .f32) (ix3 b p j)
      = ∑ k : Fin 2048, h (ix3 b p k) * w (ix2 k j) := by
  pointwise [dot_S2x4096x2048_S2048x1024_S2x4096x1024_2_0_01_1_n_n]

/-- A head's columns, a column's place among all. -/
def head (k : Fin 2048) : Fin 4 := ⟨k.val / 512, by omega⟩
def sub (k : Fin 2048) : Fin 512 := ⟨k.val % 512, Nat.mod_lt _ (by decide)⟩

/-- The head weights, by head. -/
theorem gw_apply (g : FVec Ideal S2048 .f32) (q : Fin 4) (l : Fin 512) :
    val_main_v7 (F := Ideal) g (ix2 q l) = g (ix1 (col q.val q.isLt l)) :=
  shapeCast_apply g shapeCasts_S2048_S4x512 (ix2 q l) (ix1 (n0 := 2048) (col q.val q.isLt l)) (by
    rw [Shape.rowMajor_val_one, Shape.rowMajor_val_two]
    show 512 * q.val + l.val = q.val * 512 + l.val; omega)

/-! The context's half. -/

theorem oC_apply (c l : FVec Ideal S8192x2048 .f32) (b : Fin 32) (p : Fin 256) (q : Fin 4) (f : Fin 512) :
    val_main_v6 (F := Ideal) c (ix4 b p q f) = twoRows c l (256 * b.val + p.val) (col q.val q.isLt f) := by
  have hb := b.isLt
  have hp := p.isLt
  refine (shapeCast_apply c shapeCasts_S8192x2048_S32x256x4x512 (ix4 b p q f)
    (ix2 (n0 := 8192) (n1 := 2048) ⟨256 * b.val + p.val, by omega⟩ (col q.val q.isLt f)) ?_).trans (twoRows_ctx c l _ (by omega) _).symm
  rw [Shape.rowMajor_val_two, Shape.rowMajor_val_four]
  show (256 * b.val + p.val) * 2048 + (512 * q.val + f.val) = ((b.val * 256 + p.val) * 4 + q.val) * 512 + f.val; omega

theorem headC_apply (o : FVec Ideal S8192x2048 .f32) (g : FVec Ideal S2048 .f32) (b : Fin 32) (p : Fin 256) (q : Fin 4) (f : Fin 512) :
    val_main_v20 (F := Ideal) o g (ix4 b p q f)
      = headN (fun l => val_main_v6 (F := Ideal) o (ix4 b p q l)) (fun l => val_main_v7 (F := Ideal) g (ix2 q l)) f := by
  unfold val_main_v20 val_main_v19 val_main_v18 val_main_v17 val_main_v16 val_main_v15 val_main_v14 val_main_v13 val_main_v12 val_main_v11
    val_main_v10 val_main_v9 val_main_v8 val_main_cst val_main_cst_0 val_main_cst_1
  generalize val_main_v6 (F := Ideal) o = s
  generalize val_main_v7 (F := Ideal) g = w
  pointwise
  rfl

theorem normC_apply (c l : FVec Ideal S8192x2048 .f32) (g : FVec Ideal S2048 .f32) (b : Fin 32) (p : Fin 256) (k : Fin 2048) :
    val_main_v23 (F := Ideal) c g (ix3 b p k) = rowN (twoRows c l (256 * b.val + p.val)) (fun l => g (ix1 (n0 := 2048) l)) k := by
  refine (shapeCast_apply (val_main_v20 (F := Ideal) c g) shapeCasts_S32x256x4x512_S32x256x2048 (ix3 b p k)
    (ix4 (n0 := 32) (n1 := 256) (n2 := 4) (n3 := 512) b p (head k) (sub k)) ?_).trans ?_
  · rw [Shape.rowMajor_val_four, Shape.rowMajor_val_three]
    show ((b.val * 256 + p.val) * 4 + k.val / 512) * 512 + k.val % 512 = (b.val * 256 + p.val) * 2048 + k.val; omega
  · exact (headC_apply c g b p (head k) (sub k)).trans (congrFun (congr (congrArg headN (funext fun f => oC_apply c l b p (head k) f))
      (funext fun f => gw_apply g (head k) f)) (sub k))

theorem pC_apply (A : Args) (b : Fin 32) (p : Fin 256) (k : Fin 2048) :
    val_main_v21 (F := Ideal) A.p (ix3 b p k) = A.pRow (256 * b.val + p.val) k := by
  have hb := b.isLt
  have hp := p.isLt
  refine (shapeCast_apply (val_main_v3 (F := Ideal) A.p) shapeCasts_S8192x2048_S32x256x2048 (ix3 b p k)
    (ix2 (n0 := 8192) (n1 := 2048) ⟨256 * b.val + p.val, by omega⟩ k) ?_).trans ?_
  · rw [Shape.rowMajor_val_two, Shape.rowMajor_val_three]
    show (256 * b.val + p.val) * 2048 + k.val = (b.val * 256 + p.val) * 2048 + k.val; omega
  refine (extractStridedSlice_apply _ _ slices_S16384x2048_S8192x2048_0_0 _
    (ix2 (n0 := 16384) (n1 := 2048) ⟨min (256 * b.val + p.val) 16383, by omega⟩ k) (fun a => match a with
    | ⟨0, _⟩ => by show min (256 * b.val + p.val) 16383 = 0 + (256 * b.val + p.val); omega
    | ⟨1, _⟩ => by show k.val = 0 + k.val; omega)).trans ?_
  exact extractStridedSlice_apply _ _ slices_S16384x6144_S16384x2048_0_4096 _ (ix2 (n0 := 16384) (n1 := 6144) _ ⟨4096 + k.val, by omega⟩) (fun a => match a with
    | ⟨0, _⟩ => by show min (256 * b.val + p.val) 16383 = 0 + min (256 * b.val + p.val) 16383; omega
    | ⟨1, _⟩ => rfl)

theorem siluC_apply (x : FVec Ideal S16384x6144 .bf16) (b : Fin 32) (p : Fin 256) (k : Fin 2048) :
    val_main_v22 (F := Ideal) x (ix3 b p k) = val_main_v21 (F := Ideal) x (ix3 b p k) * Ideal.logistic (val_main_v21 (F := Ideal) x (ix3 b p k)) := by
  unfold val_main_v22 val_main_call0_v5 val_main_call0_v4 val_main_call0_v3 val_main_call0_v2 val_main_call0_v1 val_main_call0_v0 val_main_call0_cst
    val_main_call0_cst_0
  generalize val_main_v21 (F := Ideal) x = y
  pointwise
  rfl

theorem actC_apply (A : Args) (b : Fin 32) (p : Fin 256) (k : Fin 2048) :
    val_main_v24 (F := Ideal) A.ctx A.p A.g (ix3 b p k) = A.act (256 * b.val + p.val) k := by
  refine (congrArg₂ (· * ·) (siluC_apply A.p b p k) (normC_apply A.ctx A.lat A.g b p k)).trans ?_
  rw [pC_apply A b p k]
  rfl

/-! The latent half. -/

theorem oL_apply (c l : FVec Ideal S8192x2048 .f32) (b : Fin 2) (p : Fin 4096) (q : Fin 4) (f : Fin 512) :
    val_main_v33 (F := Ideal) l (ix4 b p q f) = twoRows c l (8192 + 4096 * b.val + p.val) (col q.val q.isLt f) := by
  have hb := b.isLt
  have hp := p.isLt
  refine (shapeCast_apply l shapeCasts_S8192x2048_S2x4096x4x512 (ix4 b p q f)
    (ix2 (n0 := 8192) (n1 := 2048) ⟨8192 + 4096 * b.val + p.val - 8192, by omega⟩ (col q.val q.isLt f)) ?_).trans
    (twoRows_lat c l _ (by omega) (by omega) _).symm
  rw [Shape.rowMajor_val_two, Shape.rowMajor_val_four]
  show (8192 + 4096 * b.val + p.val - 8192) * 2048 + (512 * q.val + f.val) = ((b.val * 4096 + p.val) * 4 + q.val) * 512 + f.val; omega

theorem headL_apply (o : FVec Ideal S8192x2048 .f32) (g : FVec Ideal S2048 .f32) (b : Fin 2) (p : Fin 4096) (q : Fin 4) (f : Fin 512) :
    val_main_v47 (F := Ideal) o g (ix4 b p q f)
      = headN (fun l => val_main_v33 (F := Ideal) o (ix4 b p q l)) (fun l => val_main_v34 (F := Ideal) g (ix2 q l)) f := by
  unfold val_main_v47 val_main_v46 val_main_v45 val_main_v44 val_main_v43 val_main_v42 val_main_v41 val_main_v40 val_main_v39 val_main_v38
    val_main_v37 val_main_v36 val_main_v35 val_main_cst_2 val_main_cst_3 val_main_cst_4
  generalize val_main_v33 (F := Ideal) o = s
  generalize val_main_v34 (F := Ideal) g = w
  pointwise
  rfl

theorem normL_apply (c l : FVec Ideal S8192x2048 .f32) (g : FVec Ideal S2048 .f32) (b : Fin 2) (p : Fin 4096) (k : Fin 2048) :
    val_main_v50 (F := Ideal) l g (ix3 b p k) = rowN (twoRows c l (8192 + 4096 * b.val + p.val)) (fun l => g (ix1 (n0 := 2048) l)) k := by
  refine (shapeCast_apply (val_main_v47 (F := Ideal) l g) shapeCasts_S2x4096x4x512_S2x4096x2048 (ix3 b p k)
    (ix4 (n0 := 2) (n1 := 4096) (n2 := 4) (n3 := 512) b p (head k) (sub k)) ?_).trans ?_
  · rw [Shape.rowMajor_val_four, Shape.rowMajor_val_three]
    show ((b.val * 4096 + p.val) * 4 + k.val / 512) * 512 + k.val % 512 = (b.val * 4096 + p.val) * 2048 + k.val; omega
  · exact (headL_apply l g b p (head k) (sub k)).trans (congrFun (congr (congrArg headN (funext fun f => oL_apply c l b p (head k) f))
      (funext fun f => gw_apply g (head k) f)) (sub k))

theorem pL_apply (A : Args) (b : Fin 2) (p : Fin 4096) (k : Fin 2048) :
    val_main_v48 (F := Ideal) A.p (ix3 b p k) = A.pRow (8192 + 4096 * b.val + p.val) k := by
  have hb := b.isLt
  have hp := p.isLt
  refine (shapeCast_apply (val_main_v30 (F := Ideal) A.p) shapeCasts_S8192x2048_S2x4096x2048 (ix3 b p k)
    (ix2 (n0 := 8192) (n1 := 2048) ⟨4096 * b.val + p.val, by omega⟩ k) ?_).trans ?_
  · rw [Shape.rowMajor_val_two, Shape.rowMajor_val_three]
    show (4096 * b.val + p.val) * 2048 + k.val = (b.val * 4096 + p.val) * 2048 + k.val; omega
  refine (extractStridedSlice_apply _ _ slices_S16384x2048_S8192x2048_8192_0 _
    (ix2 (n0 := 16384) (n1 := 2048) ⟨min (8192 + 4096 * b.val + p.val) 16383, by omega⟩ k) (fun a => match a with
    | ⟨0, _⟩ => by show min (8192 + 4096 * b.val + p.val) 16383 = 8192 + (4096 * b.val + p.val); omega
    | ⟨1, _⟩ => by show k.val = 0 + k.val; omega)).trans ?_
  exact extractStridedSlice_apply _ _ slices_S16384x6144_S16384x2048_0_4096 _ (ix2 (n0 := 16384) (n1 := 6144) _ ⟨4096 + k.val, by omega⟩) (fun a => match a with
    | ⟨0, _⟩ => by show min (8192 + 4096 * b.val + p.val) 16383 = 0 + min (8192 + 4096 * b.val + p.val) 16383; omega
    | ⟨1, _⟩ => rfl)

theorem siluL_apply (x : FVec Ideal S16384x6144 .bf16) (b : Fin 2) (p : Fin 4096) (k : Fin 2048) :
    val_main_v49 (F := Ideal) x (ix3 b p k) = val_main_v48 (F := Ideal) x (ix3 b p k) * Ideal.logistic (val_main_v48 (F := Ideal) x (ix3 b p k)) := by
  unfold val_main_v49 val_main_call1_v5 val_main_call1_v4 val_main_call1_v3 val_main_call1_v2 val_main_call1_v1 val_main_call1_v0 val_main_call1_cst
    val_main_call1_cst_0
  generalize val_main_v48 (F := Ideal) x = y
  pointwise
  rfl

theorem actL_apply (A : Args) (b : Fin 2) (p : Fin 4096) (k : Fin 2048) :
    val_main_v51 (F := Ideal) A.lat A.p A.g (ix3 b p k) = A.act (8192 + 4096 * b.val + p.val) k := by
  refine (congrArg₂ (· * ·) (siluL_apply A.p b p k) (normL_apply A.ctx A.lat A.g b p k)).trans ?_
  rw [pL_apply A b p k]
  rfl

/-- The plain stage. -/
theorem ref_eq (A : Args) : val_main_v59 (F := Ideal) A.ctx A.lat A.p A.g A.w A.x A.ga = gateA A :=
  gated_joined A.x A.ga A.act A.w (val_main_v25 (F := Ideal) A.ctx A.p A.g A.w) (val_main_v52 (F := Ideal) A.lat A.p A.g A.w)
    (fun b p j => (dotC_apply _ _ b p j).trans (Finset.sum_congr rfl fun k _ => congrArg (· * _) (actC_apply A b p k)))
    (fun b p j => (dotL_apply _ _ b p j).trans (Finset.sum_congr rfl fun k _ => congrArg (· * _) (actL_apply A b p k)))

end Cert.Proof.Gate

end
-- ==== Proof.GateClaim.lean ====
/- The claim of the output stage of the retention: kernel and reference both run and end with equal rows. -/
module

public import proofs.«01_k».proof.Defs
public import proofs.«01_k».proof.Proof.GateRun
public import proofs.«01_k».proof.Proof.GateRef

@[expose] public section

noncomputable section

namespace Cert.Proof.Gate

open Idealize.ShloMosaic Idealize.SL.Sem

theorem algebraic : Cert.algebraic_KernelGateIdeal_ReferenceGateIdeal := by
  intro m g m' g' _ heq
  refine ⟨fun c => gateA (args m c), run m g, (θ_run Cert.ReferenceGateIdeal.defs _ _).mono (fun r h c => ?_) (Cert.ReferenceGateIdeal.Value.run m' g')⟩
  refine ⟨?_, (h c).2⟩
  obtain ⟨e0, e1, e2, e3, e4, e5, e6⟩ := heq c
  refine ((h c).1.trans (Cert.ReferenceGateIdeal.Read.val_main_v59_eq _ _)).trans ?_
  rw [e0, e1, e2, e3, e4, e5, e6]
  exact ref_eq (args m c)

/-- The reference of the output stage runs and leaves its arguments alone; it has no semaphore. -/
theorem frame_reference : Cert.quiescent_ReferenceGateIdeal := fun m ρ _ =>
  (θ_run Cert.ReferenceGateIdeal.defs _ _).mono (fun r h => ⟨fun c => (h c).2,
    Idealize.ShloMosaic.sem_eq_zero_of_no_sems (by decide) r.2⟩) (Cert.ReferenceGateIdeal.Value.run (F := Ideal) m ρ)

end Cert.Proof.Gate

end
-- ==== Proof.ResRun.lean ====
/- The result array of the differential attention's output projection as a function of the argument arrays, over the reals.
   The activations come in two arrays, the residual rows through two windows on one. -/
module

public import proofs.«01_k».proof.Proof.Gen.KernelResIdeal.Value
public import proofs.«01_k».proof.Proof.ProjBlock
public import proofs.«01_k».proof.Proof.OutSpec

@[expose] public section

noncomputable section

namespace Cert.Proof.Res

open Cert.KernelResIdeal Cert.KernelResIdeal.Gen Cert.KernelResIdeal.Value Idealize.ShloMosaic Idealize.ShloMosaic.TcCoe Idealize.SL.Sem
open Idealize.ShloMosaic.Pointwise
open Cert.Proof.Ffn (segOf)
open Cert.Proof.Proj (rowOf rows_apply segT segT_eq at2 at3)
open Cert.Proof.Out (twoRows twoRows_ctx twoRows_lat gatedG gatedA IsTile tile_out)

/-- The arguments of the output projection. -/
structure Args where
  ctx : Vec Ideal S8192x1024 .bf16
  lat : Vec Ideal S8192x1024 .bf16
  w : Vec Ideal S1024x1024 .bf16
  x : Vec Ideal S16384x1024 .f32
  ga : Vec Ideal S8x1x1024 .f32

/-- The result. -/
def resA (A : Args) : Vec Ideal S16384x1024 .f32 := gatedA A.x A.ga (twoRows (φ := .bf16) A.ctx A.lat) A.w

/-- What a grid point leaves, at an index. -/
theorem block_apply (i : grid0.Coords) (a0 a1 : Vec Ideal S512x1024 .bf16) (w : Vec Ideal S1024x1024 .bf16) (x0 x1 : Vec Ideal S512x1024 .f32)
    (g : Vec Ideal S1x1x1024 .f32) (r : Fin 512) (j : Fin 1024) :
    out0_6 i a0 a1 w x0 x1 g (ix2 r j)
      = (if (i 0).val < 16 then x0 else x1) (ix2 r j) + g (ix3 0 0 j) * ∑ k : Fin 1024, (if (i 0).val < 16 then a0 else a1) (ix2 r k) * w (ix2 k j) := by
  have e0 : View.ld a0 r0_0 = a0 := View.ld_unit_lit _ _ (by decide)
  have e1 : View.ld a1 r0_0 = a1 := View.ld_unit_lit _ _ (by decide)
  have e2 : View.ld w r0_2 = w := View.ld_unit_lit _ _ (by decide)
  have e3 : View.ld x0 r0_0 = x0 := View.ld_unit_lit _ _ (by decide)
  have e4 : View.ld x1 r0_0 = x1 := View.ld_unit_lit _ _ (by decide)
  have e5 : View.ld g r0_1 = g := View.ld_unit_lit _ _ (by decide)
  have e : out0_6 i a0 a1 w x0 x1 g = k0_pay1 i a0 a1 x0 x1 g w := by
    unfold out0_6
    rw [e0, e1, e2, e3, e4, e5]
    exact View.canon_cons_unit_lit _ _ _ (by decide)
  rw [e]
  unfold k0_pay1
  have ha : Scalar.select (Scalar.cmpi .slt (BitVec.ofNat 32 (i 0).val) 16#32) a0 a1 = if (i 0).val < 16 then a0 else a1 := rows_apply (i 0) a0 a1
  simp only [rows_apply (i 0) x0 x1, ha]
  generalize (if (i 0).val < 16 then x0 else x1) = x
  generalize (if (i 0).val < 16 then a0 else a1) = a
  pointwise [dot_S512x1024_S1024x1024_S512x1024_1_0_0_1_n_n]

variable (m : (ℓ : Loc nD τ sig) → Buf (Elt Ideal) ℓ) (ρ : Dev nD → PrngReg)

/-- The arguments a core's buffers hold. -/
def args (c : Dev nD) : Args where
  ctx := m ((c : Thread nD τ).loc main_arg0)
  lat := m ((c : Thread nD τ).loc main_arg1)
  w := m ((c : Thread nD τ).loc main_arg2)
  x := m ((c : Thread nD τ).loc main_arg3)
  ga := m ((c : Thread nD τ).loc main_arg4)

theorem idx0 : ∀ t : Fin cfg0.N, win0_0.index t (0 : Fin 2) = min t.val 15 ∧ win0_0.index t (1 : Fin 2) = 0 :=
  (by decide +kernel : ∀ t : Fin grid0.N, _)
theorem idx1 : ∀ t : Fin cfg0.N, win0_1.index t (0 : Fin 2) = max t.val 16 - 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = min t.val 15 ∧ win0_3.index t (1 : Fin 2) = 0 :=
  (by decide +kernel : ∀ t : Fin grid0.N, _)
theorem idx4 : ∀ t : Fin cfg0.N, win0_4.index t (0 : Fin 2) = max t.val 16 ∧ win0_4.index t (1 : Fin 2) = 0 :=
  (by decide +kernel : ∀ t : Fin grid0.N, _)
theorem idx5 : ∀ t : Fin cfg0.N, win0_5.index t (0 : Fin 3) = segT t.val ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 32 := t.isLt

/-- The blocks a grid point reads are the tile's. -/
theorem isTile (c : Dev nD) (t : Fin cfg0.N) :
    IsTile (φ := .bf16) (args m c).x (args m c).ga (twoRows (φ := .bf16) (args m c).ctx (args m c).lat) (args m c).w t.val
      (if (grid0.coords t 0).val < 16 then (iblk m c 3 t : Vec Ideal S512x1024 .f32) else (iblk m c 4 t : Vec Ideal S512x1024 .f32))
      (iblk m c 5 t) (if (grid0.coords t 0).val < 16 then (iblk m c 0 t : Vec Ideal S512x1024 .bf16) else (iblk m c 1 t : Vec Ideal S512x1024 .bf16))
      (iblk m c 2 t) where
  res r j := by
    rw [coord t]
    have h := t_lt t
    by_cases ht : t.val < 16
    · rw [if_pos ht]
      obtain ⟨e0, e1⟩ := idx3 t
      exact (congrFun (V_main_arg3 m c) _).trans (at2 (args m c).x _ _ _
        (show win0_3.index t (0 : Fin 2) * 512 + 1 * r.val = min (512 * t.val + r.val) 16383 by omega)
        (show win0_3.index t (1 : Fin 2) * 1024 + 1 * j.val = j.val by omega))
    · rw [if_neg ht]
      obtain ⟨e0, e1⟩ := idx4 t
      exact (congrFun (V_main_arg3 m c) _).trans (at2 (args m c).x _ _ _
        (show win0_4.index t (0 : Fin 2) * 512 + 1 * r.val = min (512 * t.val + r.val) 16383 by omega)
        (show win0_4.index t (1 : Fin 2) * 1024 + 1 * j.val = j.val by omega))
  gate n hn j := by
    obtain ⟨e0, e1, e2⟩ := idx5 t
    have h := segT_eq t.val n hn
    exact (congrFun (V_main_arg4 m c) _).trans (at3 (args m c).ga _ _ _ _
      (show win0_5.index t (0 : Fin 3) * 1 + 1 * 0 = (segOf (512 * t.val + n)).val by omega)
      (show win0_5.index t (1 : Fin 3) * 1 + 1 * 0 = 0 by omega)
      (show win0_5.index t (2 : Fin 3) * 1024 + 1 * j.val = j.val by omega))
  act r k := by
    rw [coord t]
    have h := t_lt t
    by_cases ht : t.val < 16
    · rw [if_pos ht]
      obtain ⟨e0, e1⟩ := idx0 t
      exact ((congrFun (V_main_arg0 m c) _).trans (at2 (args m c).ctx _ (⟨512 * t.val + r.val, by omega⟩ : Fin 8192) k
        (show win0_0.index t (0 : Fin 2) * 512 + 1 * r.val = 512 * t.val + r.val by omega)
        (show win0_0.index t (1 : Fin 2) * 1024 + 1 * k.val = k.val by omega))).trans (twoRows_ctx (φ := .bf16) _ _ _ (by omega) k).symm
    · rw [if_neg ht]
      obtain ⟨e0, e1⟩ := idx1 t
      exact ((congrFun (V_main_arg1 m c) _).trans (at2 (args m c).lat _ (⟨512 * t.val + r.val - 8192, by omega⟩ : Fin 8192) k
        (show win0_1.index t (0 : Fin 2) * 512 + 1 * r.val = 512 * t.val + r.val - 8192 by omega)
        (show win0_1.index t (1 : Fin 2) * 1024 + 1 * k.val = k.val by omega))).trans (twoRows_lat (φ := .bf16) _ _ _ (by omega) (by omega) k).symm
  ws k j := by
    obtain ⟨e0, e1⟩ := idx2 t
    exact (congrFun (V_main_arg2 m c) _).trans (at2 (args m c).w _ _ _ (show win0_2.index t (0 : Fin 2) * 1024 + 1 * k.val = k.val by omega)
      (show win0_2.index t (1 : Fin 2) * 1024 + 1 * j.val = j.val by omega))

/-- Where an index of a grid point's block lies in the array. -/
theorem emb6 (t : Fin cfg0.N) (j : S512x1024.Idx) : ((cfg0.win 6).blk t).view.emb j
    = ix2 (n0 := 16384) (n1 := 1024) ⟨512 * t.val + (j 0).val, by have : (j 0).val < 512 := (j 0).isLt; have := t_lt t; omega⟩ (j 1) := by
  obtain ⟨e0, e1⟩ := idx6 t
  funext a; apply Fin.ext
  match a with
  | ⟨0, _⟩ => show win0_6.index t (0 : Fin 2) * 512 + 1 * (j 0).val = 512 * t.val + (j 0).val; omega
  | ⟨1, _⟩ => show win0_6.index t (1 : Fin 2) * 1024 + 1 * (j 1).val = (j 1).val; omega

/-- What a grid point writes back is its block of `resA`. -/
theorem flushed_eq (c : Dev nD) (t : Fin cfg0.N) :
    (dats m 0 c).flushed 6 t = ((cfg0.win 6).blk t).view.read (Elt Ideal) (resA (args m c)) := by
  rw [flushed6]
  refine funext fun (y : S512x1024.Idx) => ?_
  obtain ⟨r, j, rfl⟩ : ∃ (r : Fin 512) (j : Fin 1024), y = ix2 r j := ⟨y 0, y 1, by funext a; match a with | ⟨0, _⟩ => rfl | ⟨1, _⟩ => rfl⟩
  refine Eq.trans ?_ (congrArg (resA (args m c)) (emb6 t (ix2 r j))).symm
  exact (block_apply (grid0.coords t) (iblk m c 0 t) (iblk m c 1 t) (iblk m c 2 t) (iblk m c 3 t) (iblk m c 4 t) (iblk m c 5 t) r j).trans
    (tile_out (isTile m c t) r j)

/-- Every index of the result is in the block of its tile's grid point. -/
theorem covered (i : S16384x1024.Idx) :
    ∃ t : Fin cfg0.N, (cfg0.win 6).flush t = true ∧ i ∈ ((cfg0.win 6).blk t).view.set := by
  have h0 : (i 0).val < 16384 := (i 0).isLt
  refine ⟨(⟨(i 0).val / 512, show (i 0).val / 512 < 32 by omega⟩ : Fin cfg0.N), flush0_6 _, ?_⟩
  have h := ((cfg0.win 6).blk (⟨(i 0).val / 512, show (i 0).val / 512 < 32 by omega⟩ : Fin cfg0.N)).view.emb_mem_set
    (ix2 (n0 := 512) (n1 := 1024) ⟨(i 0).val % 512, Nat.mod_lt _ (by decide)⟩ (i 1) : S512x1024.Idx)
  rw [emb6] at h
  refine (congrArg (· ∈ _) (funext fun a => Fin.ext ?_)).mp h
  match a with
  | ⟨0, _⟩ => show 512 * ((i 0).val / 512) + (i 0).val % 512 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v0) = resA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 6 (resA (args m c)) (fun t _ => flushed_eq m c t) covered),
    (h c).2⟩) (run_blocks m ρ)

end Cert.Proof.Res

end
-- ==== Proof.ResRef.lean ====
/- The plain output projection of the differential attention as an array. -/
module

public import proofs.«01_k».proof.Proof.OutRef
public import proofs.«01_k».proof.Proof.ResRun

@[expose] public section

noncomputable section

namespace Cert.Proof.Res

open Cert.ReferenceResIdeal Cert.ReferenceResIdeal.Gen Cert.ReferenceResIdeal.Read Idealize.ShloMosaic Idealize.ShloMosaic.TcCoe
open Idealize.ShloMosaic.Pointwise
open Cert.Proof.Out (twoRows gated_joined ctxRows_apply latRows_apply)

theorem dotC_apply (h : FVec Ideal S32x256x1024 .f32) (w : FVec Ideal S1024x1024 .f32) (b : Fin 32) (p : Fin 256) (j : Fin 1024) :
    (Host.dotGeneral dot_S32x256x1024_S1024x1024_S32x256x1024_2_0_01_1_n_n none h w : FVec Ideal S32x256x1024 .f32) (ix3 b p j)
      = ∑ k : Fin 1024, h (ix3 b p k) * w (ix2 k j) := by
  pointwise [dot_S32x256x1024_S1024x1024_S32x256x1024_2_0_01_1_n_n]

theorem dotL_apply (h : FVec Ideal S2x4096x1024 .f32) (w : FVec Ideal S1024x1024 .f32) (b : Fin 2) (p : Fin 4096) (j : Fin 1024) :
    (Host.dotGeneral dot_S2x4096x1024_S1024x1024_S2x4096x1024_2_0_01_1_n_n none h w : FVec Ideal S2x4096x1024 .f32) (ix3 b p j)
      = ∑ k : Fin 1024, h (ix3 b p k) * w (ix2 k j) := by
  pointwise [dot_S2x4096x1024_S1024x1024_S2x4096x1024_2_0_01_1_n_n]

/-- The plain output projection. -/
theorem ref_eq (A : Args) : val_main_v21 (F := Ideal) A.ctx A.lat A.w A.x A.ga = resA A :=
  gated_joined A.x A.ga (twoRows (φ := .bf16) A.ctx A.lat) A.w (val_main_v6 (F := Ideal) A.ctx A.w) (val_main_v15 (F := Ideal) A.lat A.w)
    (fun b p j => (dotC_apply _ _ b p j).trans (Finset.sum_congr rfl fun k _ =>
      congrArg (· * _) (ctxRows_apply (φ := .bf16) A.ctx A.lat shapeCasts_S8192x1024_S32x256x1024 b p k)))
    (fun b p j => (dotL_apply _ _ b p j).trans (Finset.sum_congr rfl fun k _ =>
      congrArg (· * _) (latRows_apply (φ := .bf16) A.ctx A.lat shapeCasts_S8192x1024_S2x4096x1024 b p k)))

end Cert.Proof.Res

end
-- ==== Proof.ResClaim.lean ====
/- The claim of the output projection of the differential attention: kernel and reference both run and end with equal rows. -/
module

public import proofs.«01_k».proof.Defs
public import proofs.«01_k».proof.Proof.ResRun
public import proofs.«01_k».proof.Proof.ResRef

@[expose] public section

noncomputable section

namespace Cert.Proof.Res

open Idealize.ShloMosaic Idealize.SL.Sem

theorem algebraic : Cert.algebraic_KernelResIdeal_ReferenceResIdeal := by
  intro m g m' g' _ heq
  refine ⟨fun c => resA (args m c), run m g, (θ_run Cert.ReferenceResIdeal.defs _ _).mono (fun r h c => ?_) (Cert.ReferenceResIdeal.Value.run m' g')⟩
  refine ⟨?_, (h c).2⟩
  obtain ⟨e0, e1, e2, e3, e4⟩ := heq c
  refine ((h c).1.trans (Cert.ReferenceResIdeal.Read.val_main_v21_eq _ _ _ _ _)).trans ?_
  rw [e0, e1, e2, e3, e4]
  exact ref_eq (args m c)

/-- The reference of the output projection runs and leaves its arguments alone; it has no semaphore. -/
theorem frame_reference : Cert.quiescent_ReferenceResIdeal := fun m ρ _ =>
  (θ_run Cert.ReferenceResIdeal.defs _ _).mono (fun r h => ⟨fun c => (h c).2,
    Idealize.ShloMosaic.sem_eq_zero_of_no_sems (by decide) r.2⟩) (Cert.ReferenceResIdeal.Value.run (F := Ideal) m ρ)

end Cert.Proof.Res

end
-- ==== Proof.AttnSpec.lean ====
/- The attention's projection as a plain function over the reals: the normed projection of rows that come in two arrays. -/
module

public import proofs.«01_k».proof.Proof.ProjSpec

@[expose] public section

noncomputable section

namespace Cert.Proof.Attn

open Idealize.ShloMosaic Idealize.ShloMosaic.Pointwise
open Cert.Proof.Proj (Rows prodR)

/-- The arguments of the attention's projection. -/
structure Args where
  ctx : Vec Ideal ⟨2, ![8192, 1024]⟩ .f32
  lat : Vec Ideal ⟨2, ![8192, 1024]⟩ .f32
  g : Vec Ideal ⟨1, ![1024]⟩ .f32
  sh : Vec Ideal ⟨3, ![8, 1, 1024]⟩ .f32
  sc : Vec Ideal ⟨3, ![8, 1, 1024]⟩ .f32
  w : Vec Ideal ⟨2, ![1024, 1536]⟩ .bf16

variable (A : Args)

/-- The rows of the context, then the latent ones. -/
def rowG (N : ℕ) (k : Fin 1024) : EReal :=
  if N < 8192 then A.ctx (ix2 (n0 := 8192) (n1 := 1024) ⟨min N 8191, by omega⟩ k)
  else A.lat (ix2 (n0 := 8192) (n1 := 1024) ⟨min (N - 8192) 8191, by omega⟩ k)

theorem ctx_row (N : ℕ) (h : N < 8192) (k : Fin 1024) : rowG A N k = A.ctx (ix2 (n0 := 8192) (n1 := 1024) ⟨N, h⟩ k) := by
  unfold rowG
  rw [if_pos h]
  exact congrArg (fun a => A.ctx (ix2 (n0 := 8192) (n1 := 1024) a k)) (Fin.ext (show min N 8191 = N by omega))

theorem lat_row (N : ℕ) (h : 8192 ≤ N) (h' : N - 8192 < 8192) (k : Fin 1024) :
    rowG A N k = A.lat (ix2 (n0 := 8192) (n1 := 1024) ⟨N - 8192, h'⟩ k) := by
  unfold rowG
  rw [if_neg (by omega)]
  exact congrArg (fun a => A.lat (ix2 (n0 := 8192) (n1 := 1024) a k)) (Fin.ext (show min (N - 8192) 8191 = N - 8192 by omega))

def Args.rows : Rows := ⟨rowG A, A.g, A.sh, A.sc⟩

/-- The projection as an array. -/
def attnA : Vec Ideal ⟨2, ![16384, 1536]⟩ .f32 := fun y => prodR A.rows A.w (y 0).val (y 1)

end Cert.Proof.Attn

end
-- ==== Proof.AttnRun.lean ====
/- The result array of the attention's projection as a function of the argument arrays, over the reals: the rows come in two
   arrays, the context's and the latent ones, the 1536 columns are one chunk. -/
module

public import proofs.«01_k».proof.Proof.Gen.KernelAttnIdeal.Value
public import proofs.«01_k».proof.Proof.ProjBlock
public import proofs.«01_k».proof.Proof.AttnSpec
public import Idealize.ShloMosaic.Lib.StableHlo.Run

@[expose] public section

noncomputable section

namespace Cert.Proof.Attn

open Cert.KernelAttnIdeal Cert.KernelAttnIdeal.Gen Cert.KernelAttnIdeal.Value Idealize.ShloMosaic Idealize.ShloMosaic.TcCoe Idealize.SL.Sem
open Idealize.ShloMosaic.Pointwise
open Cert.Proof.Ffn (segOf)
open Cert.Proof.Proj (Rows prodR IsTile segT segT_eq at2 at3 outBlk chunk_eq tile_out)

/-- What a grid point leaves is its normed rows' product. -/
theorem out_block (i : grid0.Coords) (x0 x1 : Vec Ideal S512x1024 .f32) (x2 : Vec Ideal S1x1024 .f32) (x3 x4 : Vec Ideal S1x1x1024 .f32)
    (x5 : Vec Ideal S1024x1536 .bf16) :
    out0_6 i x0 x1 x2 x3 x4 x5 = outBlk (n := 1536) .f32 (Cert.KernelProjIdeal.Gen.k0_pay4 i x0 x1 x2 x3 x4) x5 := by
  have e0 : View.ld x0 r0_0 = x0 := View.ld_unit_lit _ _ (by decide)
  have e1 : View.ld x1 r0_0 = x1 := View.ld_unit_lit _ _ (by decide)
  have e2 : View.ld x2 r0_1 = x2 := View.ld_unit_lit _ _ (by decide)
  have e3 : View.ld x3 r0_2 = x3 := View.ld_unit_lit _ _ (by decide)
  have e4 : View.ld x4 r0_2 = x4 := View.ld_unit_lit _ _ (by decide)
  unfold out0_6
  rw [e0, e1, e2, e3, e4]
  funext y
  refine View.canon_apply_of_pieces (Val := Elt Ideal) (outBlk (n := 1536) .f32 (Cert.KernelProjIdeal.Gen.k0_pay4 i x0 x1 x2 x3 x4) x5) _ ?_ y
    (cover0_6 _ y)
  intro p hp
  obtain rfl := List.mem_singleton.mp hp
  exact chunk_eq (n := 1536) (Cert.KernelProjIdeal.Gen.k0_pay4 i x0 x1 x2 x3 x4) x5 0 inb_S1024x1536_S1024x1536_0_0 inb_S512x1536_S512x1536_0_0

variable (m : (ℓ : Loc nD τ sig) → Buf (Elt Ideal) ℓ) (ρ : Dev nD → PrngReg)

/-- The arguments a core's buffers hold. -/
def args (c : Dev nD) : Args where
  ctx := m ((c : Thread nD τ).loc main_arg0)
  lat := m ((c : Thread nD τ).loc main_arg1)
  g := m ((c : Thread nD τ).loc main_arg2)
  sh := m ((c : Thread nD τ).loc main_arg3)
  sc := m ((c : Thread nD τ).loc main_arg4)
  w := m ((c : Thread nD τ).loc main_arg5)

/-- The reshaped norm weights. -/
theorem V_v0 (c : Dev nD) (k : Fin 1024) : V m c main_v0 (ix2 (n0 := 1) (n1 := 1024) 0 k) = (args m c).g (ix1 k) := by
  have h : V m c main_v0 = shapeCast S1x1024 (m ((c : Thread nD τ).loc main_arg2)) shapeCasts_S1024_S1x1024 := by
    show StableHlo.after hostOps0 (fun b => m (c, b)) (Proc.devRef .tc main_v0) = _
    unfold hostOps0
    after_results_simp
    rfl
  rw [h]
  pointwise
  rfl

theorem idx0 : ∀ t : Fin cfg0.N, win0_0.index t (0 : Fin 2) = min t.val 15 ∧ win0_0.index t (1 : Fin 2) = 0 :=
  (by decide +kernel : ∀ t : Fin grid0.N, _)
theorem idx1 : ∀ t : Fin cfg0.N, win0_1.index t (0 : Fin 2) = max t.val 16 - 16 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = segT t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = segT t.val ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 32 := t.isLt

/-- The blocks a grid point reads are the tile's. -/
theorem isTile (c : Dev nD) (t : Fin cfg0.N) :
    IsTile (args m c).rows t.val (iblk m c 0 t) (iblk m c 1 t) (iblk m c 2 t) (iblk m c 3 t) (iblk m c 4 t) where
  ctx ht r k := by
    obtain ⟨e0, e1⟩ := idx0 t
    refine ((congrFun (V_main_arg0 m c) _).trans (at2 (args m c).ctx _ (⟨512 * t.val + r.val, by omega⟩ : Fin 8192) k
      (show win0_0.index t (0 : Fin 2) * 512 + 1 * r.val = 512 * t.val + r.val by omega)
      (show win0_0.index t (1 : Fin 2) * 1024 + 1 * k.val = k.val by omega))).trans (ctx_row (args m c) _ (by omega) k).symm
  lat ht r k := by
    obtain ⟨e0, e1⟩ := idx1 t
    have h := t_lt t
    refine ((congrFun (V_main_arg1 m c) _).trans (at2 (args m c).lat _ (⟨512 * t.val + r.val - 8192, by omega⟩ : Fin 8192) k
      (show win0_1.index t (0 : Fin 2) * 512 + 1 * r.val = 512 * t.val + r.val - 8192 by omega)
      (show win0_1.index t (1 : Fin 2) * 1024 + 1 * k.val = k.val by omega))).trans (lat_row (args m c) _ (by omega) (by omega) k).symm
  gw k := by
    obtain ⟨e0, e1⟩ := idx2 t
    exact (at2 (V m c main_v0) _ _ _ (show win0_2.index t (0 : Fin 2) * 1 + 1 * 0 = 0 by omega)
      (show win0_2.index t (1 : Fin 2) * 1024 + 1 * k.val = k.val by omega)).trans (V_v0 m c k)
  shift n hn k := by
    obtain ⟨e0, e1, e2⟩ := idx3 t
    have h := segT_eq t.val n hn
    exact (congrFun (V_main_arg3 m c) _).trans (at3 (args m c).sh _ _ _ _
      (show win0_3.index t (0 : Fin 3) * 1 + 1 * 0 = (segOf (512 * t.val + n)).val by omega)
      (show win0_3.index t (1 : Fin 3) * 1 + 1 * 0 = 0 by omega)
      (show win0_3.index t (2 : Fin 3) * 1024 + 1 * k.val = k.val by omega))
  scale n hn k := by
    obtain ⟨e0, e1, e2⟩ := idx4 t
    have h := segT_eq t.val n hn
    exact (congrFun (V_main_arg4 m c) _).trans (at3 (args m c).sc _ _ _ _
      (show win0_4.index t (0 : Fin 3) * 1 + 1 * 0 = (segOf (512 * t.val + n)).val by omega)
      (show win0_4.index t (1 : Fin 3) * 1 + 1 * 0 = 0 by omega)
      (show win0_4.index t (2 : Fin 3) * 1024 + 1 * k.val = k.val by omega))

theorem weights (c : Dev nD) (t : Fin cfg0.N) (k : Fin 1024) (f : Fin 1536) :
    (iblk m c 5 t : Vec Ideal S1024x1536 .bf16) (ix2 k f) = (args m c).w (ix2 k f) := by
  obtain ⟨e0, e1⟩ := idx5 t
  exact (congrFun (V_main_arg5 m c) _).trans (at2 (args m c).w _ _ _ (show win0_5.index t (0 : Fin 2) * 1024 + 1 * k.val = k.val by omega)
    (show win0_5.index t (1 : Fin 2) * 1536 + 1 * f.val = f.val by omega))

/-- Where an index of a grid point's block lies in the array. -/
theorem emb6 (t : Fin cfg0.N) (j : S512x1536.Idx) : ((cfg0.win 6).blk t).view.emb j
    = ix2 (n0 := 16384) (n1 := 1536) ⟨512 * t.val + (j 0).val, by have : (j 0).val < 512 := (j 0).isLt; have := t_lt t; omega⟩ (j 1) := by
  obtain ⟨e0, e1⟩ := idx6 t
  funext a; apply Fin.ext
  match a with
  | ⟨0, _⟩ => show win0_6.index t (0 : Fin 2) * 512 + 1 * (j 0).val = 512 * t.val + (j 0).val; omega
  | ⟨1, _⟩ => show win0_6.index t (1 : Fin 2) * 1536 + 1 * (j 1).val = (j 1).val; omega

/-- What a grid point writes back is its block of `attnA`. -/
theorem flushed_eq (c : Dev nD) (t : Fin cfg0.N) :
    (dats m 0 c).flushed 6 t = ((cfg0.win 6).blk t).view.read (Elt Ideal) (attnA (args m c)) := by
  rw [flushed6, out_block]
  refine funext fun (j : S512x1536.Idx) => ?_
  refine Eq.trans ?_ (congrArg (attnA (args m c)) (emb6 t j)).symm
  exact tile_out (isTile m c t) (grid0.coords t) (coord t) (weights m c t) j

/-- Every index of the result is in the block of its tile's grid point. -/
theorem covered (i : S16384x1536.Idx) :
    ∃ t : Fin cfg0.N, (cfg0.win 6).flush t = true ∧ i ∈ ((cfg0.win 6).blk t).view.set := by
  have h0 : (i 0).val < 16384 := (i 0).isLt
  refine ⟨(⟨(i 0).val / 512, show (i 0).val / 512 < 32 by omega⟩ : Fin cfg0.N), flush0_6 _, ?_⟩
  have h := ((cfg0.win 6).blk (⟨(i 0).val / 512, show (i 0).val / 512 < 32 by omega⟩ : Fin cfg0.N)).view.emb_mem_set
    (ix2 (n0 := 512) (n1 := 1536) ⟨(i 0).val % 512, Nat.mod_lt _ (by decide)⟩ (i 1) : S512x1536.Idx)
  rw [emb6] at h
  refine (congrArg (· ∈ _) (funext fun a => Fin.ext ?_)).mp h
  match a with
  | ⟨0, _⟩ => show 512 * ((i 0).val / 512) + (i 0).val % 512 = (i 0).val; omega
  | ⟨1, _⟩ => rfl

/-- The kernel's run with its result as a function of its arguments. -/
theorem run : θ_run defs (onTc (τ := τ) (main (F := Ideal))) ⟨m, fun _ => 0, ρ⟩ fun r => ∀ c : Dev nD,
      r.2.mem ((c : Thread nD τ).loc main_v1) = attnA (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 (attnA (args m c)) (fun t _ => flushed_eq m c t) covered),
    (h c).2⟩) (run_blocks m ρ)

end Cert.Proof.Attn

end
-- ==== Proof.AttnRef.lean ====
/- The plain projection of the attention as an array: row by row it is the product of the normed rows of the two arrays. -/
module

public import proofs.«01_k».proof.Proof.Gen.ReferenceAttnIdeal.Read
public import proofs.«01_k».proof.Proof.ProjRef
public import proofs.«01_k».proof.Proof.AttnSpec

@[expose] public section

noncomputable section

namespace Cert.Proof.Attn

open Cert.ReferenceAttnIdeal Cert.ReferenceAttnIdeal.Gen Cert.ReferenceAttnIdeal.Read Idealize.ShloMosaic Idealize.ShloMosaic.TcCoe
open Idealize.ShloMosaic.Pointwise
open Cert.Proof.Proj (joined_prod hRowsC hRowsL)

variable (A : Args)

theorem dotC_apply (h : FVec Ideal S32x256x1024 .f32) (w : FVec Ideal S1024x1536 .f32) (b : Fin 32) (p : Fin 256) (f : Fin 1536) :
    (Host.dotGeneral dot_S32x256x1024_S1024x1536_S32x256x1536_2_0_01_1_n_n none h w : FVec Ideal S32x256x1536 .f32) (ix3 b p f)
      = ∑ k : Fin 1024, h (ix3 b p k) * w (ix2 k f) := by
  pointwise [dot_S32x256x1024_S1024x1536_S32x256x1536_2_0_01_1_n_n]

theorem dotL_apply (h : FVec Ideal S2x4096x1024 .f32) (w : FVec Ideal S1024x1536 .f32) (b : Fin 2) (p : Fin 4096) (f : Fin 1536) :
    (Host.dotGeneral dot_S2x4096x1024_S1024x1536_S2x4096x1536_2_0_01_1_n_n none h w : FVec Ideal S2x4096x1536 .f32) (ix3 b p f)
      = ∑ k : Fin 1024, h (ix3 b p k) * w (ix2 k f) := by
  pointwise [dot_S2x4096x1024_S1024x1536_S2x4096x1536_2_0_01_1_n_n]

/-- The rows of the two arrays, by sequence. -/
theorem rowsC_apply (b : Fin 32) (p : Fin 256) (k : Fin 1024) :
    val_main_v1 (F := Ideal) A.ctx (ix3 b p k) = A.rows.x (256 * b.val + p.val) k := by
  have hb := b.isLt
  have hp := p.isLt
  refine (shapeCast_apply A.ctx shapeCasts_S8192x1024_S32x256x1024 (ix3 b p k) (ix2 (n0 := 8192) (n1 := 1024) ⟨256 * b.val + p.val, by omega⟩ k) ?_).trans
    (ctx_row A _ (by omega) k).symm
  rw [Shape.rowMajor_val_two, Shape.rowMajor_val_three]
  show (256 * b.val + p.val) * 1024 + k.val = (b.val * 256 + p.val) * 1024 + k.val; omega

theorem rowsL_apply (b : Fin 2) (p : Fin 4096) (k : Fin 1024) :
    val_main_v24 (F := Ideal) A.lat (ix3 b p k) = A.rows.x (8192 + 4096 * b.val + p.val) k := by
  have hb := b.isLt
  have hp := p.isLt
  refine (shapeCast_apply A.lat shapeCasts_S8192x1024_S2x4096x1024 (ix3 b p k)
    (ix2 (n0 := 8192) (n1 := 1024) ⟨8192 + 4096 * b.val + p.val - 8192, by omega⟩ k) ?_).trans (lat_row A _ (by omega) (by omega) k).symm
  rw [Shape.rowMajor_val_two, Shape.rowMajor_val_three]
  show (8192 + 4096 * b.val + p.val - 8192) * 1024 + k.val = (b.val * 4096 + p.val) * 1024 + k.val; omega

/-- The plain projection. -/
theorem ref_eq : val_main_v49 (F := Ideal) A.ctx A.lat A.g A.sh A.sc A.w = attnA A :=
  joined_prod A.rows A.w (val_main_v23 (F := Ideal) A.ctx A.g A.sh A.sc A.w) (val_main_v46 (F := Ideal) A.lat A.g A.sh A.sc A.w)
    (fun b p f => (dotC_apply _ _ b p f).trans (Finset.sum_congr rfl fun k _ =>
      congrArg (· * _) (hRowsC A.rows (val_main_v1 (F := Ideal) A.ctx) (rowsC_apply A) b p k)))
    (fun b p f => (dotL_apply _ _ b p f).trans (Finset.sum_congr rfl fun k _ =>
      congrArg (· * _) (hRowsL A.rows (val_main_v24 (F := Ideal) A.lat) (rowsL_apply A) b p k)))
    shapeCasts_S32x256x1536_S8192x1536 shapeCasts_S2x4096x1536_S8192x1536 concatenates_S8192x1536_S8192x1536_S16384x1536_d0

end Cert.Proof.Attn

end
-- ==== Proof.AttnClaim.lean ====
/- The claim of the attention's projection: kernel and reference both run and end with equal rows. -/
module

public import proofs.«01_k».proof.Defs
public import proofs.«01_k».proof.Proof.AttnRun
public import proofs.«01_k».proof.Proof.AttnRef

@[expose] public section

noncomputable section

namespace Cert.Proof.Attn

open Idealize.ShloMosaic Idealize.SL.Sem

theorem algebraic : Cert.algebraic_KernelAttnIdeal_ReferenceAttnIdeal := by
  intro m g m' g' _ heq
  refine ⟨fun c => attnA (args m c), run m g, (θ_run Cert.ReferenceAttnIdeal.defs _ _).mono (fun r h c => ?_) (Cert.ReferenceAttnIdeal.Value.run m' g')⟩
  refine ⟨?_, (h c).2⟩
  obtain ⟨e0, e1, e2, e3, e4, e5⟩ := heq c
  refine ((h c).1.trans (Cert.ReferenceAttnIdeal.Read.val_main_v49_eq _ _ _ _ _ _)).trans ?_
  rw [e0, e1, e2, e3, e4, e5]
  exact ref_eq (args m c)

/-- The reference of the projection runs and leaves its arguments alone; it has no semaphore. -/
theorem frame_reference : Cert.quiescent_ReferenceAttnIdeal := fun m ρ _ =>
  (θ_run Cert.ReferenceAttnIdeal.defs _ _).mono (fun r h => ⟨fun c => (h c).2,
    Idealize.ShloMosaic.sem_eq_zero_of_no_sems (by decide) r.2⟩) (Cert.ReferenceAttnIdeal.Value.run (F := Ideal) m ρ)

end Cert.Proof.Attn

end
-- ==== Proof.KvdRun.lean ====
/- The four result arrays of the differential attention's preparation of the context, as functions of the projection: the scaled
   queries, keys and values side by side, and the two caches by head. -/
module

public import proofs.«01_k».proof.Proof.Gen.KernelKvdIdeal.Value
public import proofs.«01_k».proof.Proof.ProjBlock

@[expose] public section

noncomputable section

namespace Cert.Proof.Kvd

open Cert.KernelKvdIdeal Cert.KernelKvdIdeal.Gen Cert.KernelKvdIdeal.Value Idealize.ShloMosaic Idealize.ShloMosaic.TcCoe Idealize.SL.Sem
open Idealize.ShloMosaic.Pointwise
open Cert.Proof.Proj (at2)

/-- Row `n` of the projection at column `k`. -/
def cell (X : Vec Ideal S16384x3072 .f32) (n : Fin 8192) (k : Fin 3072) : EReal :=
  X (ix2 (n0 := 16384) (n1 := 3072) ⟨n.val, by omega⟩ k)

/-- The scale of the queries. -/
def qScale : EReal := (Scalar.ofBits .f32 0x3E38AA3B#32 : Ideal .f32)

/-- The scaled queries. -/
def outQ (X : Vec Ideal S16384x3072 .f32) : Vec Ideal S8192x1024 .bf16 := fun y =>
  cell X (y 0) ⟨(y 1).val, by have : (y 1).val < 1024 := (y 1).isLt; omega⟩ * qScale

/-- Keys and values side by side. -/
def outKV (X : Vec Ideal S16384x3072 .f32) : Vec Ideal S8192x2048 .bf16 := fun y =>
  cell X (y 0) ⟨1024 + (y 1).val, by have : (y 1).val < 2048 := (y 1).isLt; omega⟩

/-- A cache by head: columns from `o` on. -/
def outC (X : Vec Ideal S16384x3072 .f32) (o : ℕ) (ho : o ≤ 2048) : Vec Ideal S8192x8x128 .f32 := fun y =>
  cell X (y 0) ⟨o + (128 * (y 1).val + (y 2).val), by
    have : (y 1).val < 8 := (y 1).isLt; have : (y 2).val < 128 := (y 2).isLt; omega⟩

/-! What a grid point leaves in its four blocks. -/

theorem ld_whole (x : Vec Ideal S512x1024 .f32) : View.ld x r0_0 = x := View.ld_unit_lit _ _ (by decide)

theorem blockQ_apply (x0 x1 x2 : Vec Ideal S512x1024 .f32) (r : Fin 512) (j : Fin 1024) :
    out0_3 x0 x1 x2 (ix2 r j) = x0 (ix2 r j) * qScale := by
  have e : out0_3 x0 x1 x2 = k0_pay6 x0 := by
    unfold out0_3
    rw [ld_whole]
    exact View.canon_cons_unit_lit _ _ _ (by decide)
  rw [e]
  unfold k0_pay6
  pointwise
  rfl

/-- Two blocks side by side. -/
def pair (x1 x2 : Vec Ideal S512x1024 .f32) : Vec Ideal S512x2048 .bf16 := fun y =>
  if h : (y 1).val < 1024 then x1 (ix2 (n0 := 512) (n1 := 1024) (y 0) ⟨(y 1).val, h⟩)
  else x2 (ix2 (n0 := 512) (n1 := 1024) (y 0) ⟨(y 1).val - 1024, by have : (y 1).val < 2048 := (y 1).isLt; omega⟩)

theorem blockKV_eq (x0 x1 x2 : Vec Ideal S512x1024 .f32) : out0_4 x0 x1 x2 = pair x1 x2 := by
  unfold out0_4
  rw [ld_whole, ld_whole]
  funext y
  refine View.canon_apply_of_pieces (Val := Elt Ideal) (pair x1 x2) _ ?_ y (cover0_4 _ _ y)
  intro p hp
  rcases List.mem_cons.mp hp with rfl | hp
  · intro (z : S512x1024.Idx)
    have hz : ((r0_2.emb z : S512x2048.Idx) 1).val = 1024 + 1 * (z 1).val := rfl
    refine Eq.trans ?_ (dif_neg (by rw [hz]; omega)).symm
    refine congrArg x2 (funext fun a => Fin.ext ?_)
    match a with
    | ⟨0, _⟩ => show (z 0).val = 0 + 1 * (z 0).val; omega
    | ⟨1, _⟩ => show (z 1).val = 1024 + 1 * (z 1).val - 1024; omega
  obtain rfl := List.mem_singleton.mp hp
  intro (z : S512x1024.Idx)
  have hz : ((r0_1.emb z : S512x2048.Idx) 1).val = 0 + 1 * (z 1).val := rfl
  have h1 : (z 1).val < 1024 := (z 1).isLt
  refine Eq.trans ?_ (dif_pos (by rw [hz]; omega)).symm
  refine congrArg x1 (funext fun a => Fin.ext ?_)
  match a with
  | ⟨0, _⟩ => show (z 0).val = 0 + 1 * (z 0).val; omega
  | ⟨1, _⟩ => show (z 1).val = 0 + 1 * (z 1).val; omega

theorem blockK_apply (x0 x1 x2 : Vec Ideal S512x1024 .f32) (y : S512x8x128.Idx) : out0_5 x0 x1 x2 y = x1 (ix5_0 y) := by
  unfold out0_5
  rw [ld_whole]
  exact canon5_eq x1 y

theorem blockV_apply (x0 x1 x2 : Vec Ideal S512x1024 .f32) (y : S512x8x128.Idx) : out0_6 x0 x1 x2 y = x2 (ix6_0 y) := by
  unfold out0_6
  rw [ld_whole]
  exact canon6_eq x2 y

variable (m : (ℓ : Loc nD τ sig) → Buf (Elt Ideal) ℓ) (ρ : Dev nD → PrngReg)

/-- The projection a core's buffer holds. -/
def arg (c : Dev nD) : Vec Ideal S16384x3072 .f32 := m ((c : Thread nD τ).loc main_arg0)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = t.val ∧ win0_2.index t (1 : Fin 2) = 2 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 16 := t.isLt

/-- A row of a tile among the context's rows. -/
def rowT (t : Fin cfg0.N) (r : Fin 512) : Fin 8192 := ⟨512 * t.val + r.val, by have := t_lt t; omega⟩

/-! The blocks a grid point reads. -/

theorem in0 (c : Dev nD) (t : Fin cfg0.N) (r : Fin 512) (j : Fin 1024) :
    (iblk m c 0 t : Vec Ideal S512x1024 .f32) (ix2 r j) = cell (arg m c) (rowT t r) ⟨j.val, by omega⟩ := by
  obtain ⟨e0, e1⟩ := idx0 t
  exact (congrFun (V_main_arg0 m c) _).trans (at2 (arg m c) _ _ _ (show win0_0.index t (0 : Fin 2) * 512 + 1 * r.val = 512 * t.val + r.val by omega)
    (show win0_0.index t (1 : Fin 2) * 1024 + 1 * j.val = j.val by omega))

theorem in1 (c : Dev nD) (t : Fin cfg0.N) (r : Fin 512) (j : Fin 1024) :
    (iblk m c 1 t : Vec Ideal S512x1024 .f32) (ix2 r j) = cell (arg m c) (rowT t r) ⟨1024 + j.val, by omega⟩ := by
  obtain ⟨e0, e1⟩ := idx1 t
  exact (congrFun (V_main_arg0 m c) _).trans (at2 (arg m c) _ _ _ (show win0_1.index t (0 : Fin 2) * 512 + 1 * r.val = 512 * t.val + r.val by omega)
    (show win0_1.index t (1 : Fin 2) * 1024 + 1 * j.val = 1024 + j.val by omega))

theorem in2 (c : Dev nD) (t : Fin cfg0.N) (r : Fin 512) (j : Fin 1024) :
    (iblk m c 2 t : Vec Ideal S512x1024 .f32) (ix2 r j) = cell (arg m c) (rowT t r) ⟨2048 + j.val, by omega⟩ := by
  obtain ⟨e0, e1⟩ := idx2 t
  exact (congrFun (V_main_arg0 m c) _).trans (at2 (arg m c) _ _ _ (show win0_2.index t (0 : Fin 2) * 512 + 1 * r.val = 512 * t.val + r.val by omega)
    (show win0_2.index t (1 : Fin 2) * 1024 + 1 * j.val = 2048 + j.val by omega))

/-! Where an index of a block lies in its array. -/

theorem emb3 (t : Fin cfg0.N) (j : S512x1024.Idx) :
    ((cfg0.win 3).blk t).view.emb j = ix2 (n0 := 8192) (n1 := 1024) (rowT t (j 0)) (j 1) := by
  obtain ⟨e0, e1⟩ := idx3 t
  funext a; apply Fin.ext
  match a with
  | ⟨0, _⟩ => show win0_3.index t (0 : Fin 2) * 512 + 1 * (j 0).val = 512 * t.val + (j 0).val; omega
  | ⟨1, _⟩ => show win0_3.index t (1 : Fin 2) * 1024 + 1 * (j 1).val = (j 1).val; omega

theorem emb4 (t : Fin cfg0.N) (j : S512x2048.Idx) :
    ((cfg0.win 4).blk t).view.emb j = ix2 (n0 := 8192) (n1 := 2048) (rowT t (j 0)) (j 1) := by
  obtain ⟨e0, e1⟩ := idx4 t
  funext a; apply Fin.ext
  match a with
  | ⟨0, _⟩ => show win0_4.index t (0 : Fin 2) * 512 + 1 * (j 0).val = 512 * t.val + (j 0).val; omega
  | ⟨1, _⟩ => show win0_4.index t (1 : Fin 2) * 2048 + 1 * (j 1).val = (j 1).val; omega

theorem emb5 (t : Fin cfg0.N) (j : S512x8x128.Idx) :
    ((cfg0.win 5).blk t).view.emb j = ix3 (n0 := 8192) (n1 := 8) (n2 := 128) (rowT t (j 0)) (j 1) (j 2) := by
  obtain ⟨e0, e1, e2⟩ := idx5 t
  funext a; apply Fin.ext
  match a with
  | ⟨0, _⟩ => show win0_5.index t (0 : Fin 3) * 512 + 1 * (j 0).val = 512 * t.val + (j 0).val; omega
  | ⟨1, _⟩ => show win0_5.index t (1 : Fin 3) * 8 + 1 * (j 1).val = (j 1).val; omega
  | ⟨2, _⟩ => show win0_5.index t (2 : Fin 3) * 128 + 1 * (j 2).val = (j 2).val; omega

theorem emb6 (t : Fin cfg0.N) (j : S512x8x128.Idx) :
    ((cfg0.win 6).blk t).view.emb j = ix3 (n0 := 8192) (n1 := 8) (n2 := 128) (rowT t (j 0)) (j 1) (j 2) := by
  obtain ⟨e0, e1, e2⟩ := idx6 t
  funext a; apply Fin.ext
  match a with
  | ⟨0, _⟩ => show win0_6.index t (0 : Fin 3) * 512 + 1 * (j 0).val = 512 * t.val + (j 0).val; omega
  | ⟨1, _⟩ => show win0_6.index t (1 : Fin 3) * 8 + 1 * (j 1).val = (j 1).val; omega
  | ⟨2, _⟩ => show win0_6.index t (2 : Fin 3) * 128 + 1 * (j 2).val = (j 2).val; omega

/-! What a grid point writes back. -/

theorem flushed3_eq (c : Dev nD) (t : Fin cfg0.N) :
    (dats m 0 c).flushed 3 t = ((cfg0.win 3).blk t).view.read (Elt Ideal) (outQ (arg m c)) := by
  rw [flushed3]
  refine funext fun (y : S512x1024.Idx) => ?_
  obtain ⟨r, j, rfl⟩ : ∃ (r : Fin 512) (j : Fin 1024), y = ix2 r j := ⟨y 0, y 1, by funext a; match a with | ⟨0, _⟩ => rfl | ⟨1, _⟩ => rfl⟩
  refine Eq.trans ?_ (congrArg (outQ (arg m c)) (emb3 t (ix2 r j))).symm
  exact (blockQ_apply (iblk m c 0 t) (iblk m c 1 t) (iblk m c 2 t) r j).trans (congrArg (· * qScale) (in0 m c t r j))

theorem flushed4_eq (c : Dev nD) (t : Fin cfg0.N) :
    (dats m 0 c).flushed 4 t = ((cfg0.win 4).blk t).view.read (Elt Ideal) (outKV (arg m c)) := by
  rw [flushed4]
  refine funext fun (y : S512x2048.Idx) => ?_
  refine Eq.trans ?_ (congrArg (outKV (arg m c)) (emb4 t y)).symm
  refine (congrFun (blockKV_eq (iblk m c 0 t) (iblk m c 1 t) (iblk m c 2 t)) y).trans ?_
  have hy : (y 1).val < 2048 := (y 1).isLt
  by_cases h : (y 1).val < 1024
  · exact (dif_pos h).trans (in1 m c t (y 0) ⟨(y 1).val, h⟩)
  · exact ((dif_neg h).trans (in2 m c t (y 0) ⟨(y 1).val - 1024, by omega⟩)).trans
      (congrArg (cell (arg m c) (rowT t (y 0))) (Fin.ext (show 2048 + ((y 1).val - 1024) = 1024 + (y 1).val by omega)))

theorem flushed5_eq (c : Dev nD) (t : Fin cfg0.N) :
    (dats m 0 c).flushed 5 t = ((cfg0.win 5).blk t).view.read (Elt Ideal) (outC (arg m c) 1024 (by omega)) := by
  rw [flushed5]
  refine funext fun (y : S512x8x128.Idx) => ?_
  refine Eq.trans ?_ (congrArg (outC (arg m c) 1024 (by omega)) (emb5 t y)).symm
  refine (blockK_apply (iblk m c 0 t) (iblk m c 1 t) (iblk m c 2 t) y).trans ?_
  have h1 : (y 1).val < 8 := (y 1).isLt
  have h2 : (y 2).val < 128 := (y 2).isLt
  exact (at2 (iblk m c 1 t : Vec Ideal S512x1024 .f32) _ (y 0) ⟨128 * (y 1).val + (y 2).val, by omega⟩ rfl
    (show (y 1).val * 128 + (y 2).val = 128 * (y 1).val + (y 2).val by omega)).trans (in1 m c t (y 0) _)

theorem flushed6_eq (c : Dev nD) (t : Fin cfg0.N) :
    (dats m 0 c).flushed 6 t = ((cfg0.win 6).blk t).view.read (Elt Ideal) (outC (arg m c) 2048 (by omega)) := by
  rw [flushed6]
  refine funext fun (y : S512x8x128.Idx) => ?_
  refine Eq.trans ?_ (congrArg (outC (arg m c) 2048 (by omega)) (emb6 t y)).symm
  refine (blockV_apply (iblk m c 0 t) (iblk m c 1 t) (iblk m c 2 t) y).trans ?_
  have h1 : (y 1).val < 8 := (y 1).isLt
  have h2 : (y 2).val < 128 := (y 2).isLt
  exact (at2 (iblk m c 2 t : Vec Ideal S512x1024 .f32) _ (y 0) ⟨128 * (y 1).val + (y 2).val, by omega⟩ rfl
    (show (y 1).val * 128 + (y 2).val = 128 * (y 1).val + (y 2).val by omega)).trans (in2 m c t (y 0) _)

/-! Every index of a result is in the block of its tile's grid point. -/

/-- The tile of a row, the row's place in it. -/
def tileOf (n : Fin 8192) : Fin cfg0.N := ⟨n.val / 512, show n.val / 512 < 16 by omega⟩
def placeOf (n : Fin 8192) : Fin 512 := ⟨n.val % 512, Nat.mod_lt _ (by decide)⟩

theorem rowT_tileOf (n : Fin 8192) : (rowT (tileOf n) (placeOf n)).val = n.val :=
  show 512 * (n.val / 512) + n.val % 512 = n.val by omega

theorem covered3 (i : S8192x1024.Idx) : ∃ t : Fin cfg0.N, (cfg0.win 3).flush t = true ∧ i ∈ ((cfg0.win 3).blk t).view.set := by
  refine ⟨tileOf (i 0), flush0_3 _, ?_⟩
  have h := ((cfg0.win 3).blk (tileOf (i 0))).view.emb_mem_set (ix2 (n0 := 512) (n1 := 1024) (placeOf (i 0)) (i 1) : S512x1024.Idx)
  rw [emb3] at h
  refine (congrArg (· ∈ _) (funext fun a => Fin.ext ?_)).mp h
  match a with
  | ⟨0, _⟩ => exact rowT_tileOf (i 0)
  | ⟨1, _⟩ => rfl

theorem covered4 (i : S8192x2048.Idx) : ∃ t : Fin cfg0.N, (cfg0.win 4).flush t = true ∧ i ∈ ((cfg0.win 4).blk t).view.set := by
  refine ⟨tileOf (i 0), flush0_4 _, ?_⟩
  have h := ((cfg0.win 4).blk (tileOf (i 0))).view.emb_mem_set (ix2 (n0 := 512) (n1 := 2048) (placeOf (i 0)) (i 1) : S512x2048.Idx)
  rw [emb4] at h
  refine (congrArg (· ∈ _) (funext fun a => Fin.ext ?_)).mp h
  match a with
  | ⟨0, _⟩ => exact rowT_tileOf (i 0)
  | ⟨1, _⟩ => rfl

theorem covered5 (i : S8192x8x128.Idx) : ∃ t : Fin cfg0.N, (cfg0.win 5).flush t = true ∧ i ∈ ((cfg0.win 5).blk t).view.set := by
  refine ⟨tileOf (i 0), flush0_5 _, ?_⟩
  have h := ((cfg0.win 5).blk (tileOf (i 0))).view.emb_mem_set (ix3 (n0 := 512) (n1 := 8) (n2 := 128) (placeOf (i 0)) (i 1) (i 2) : S512x8x128.Idx)
  rw [emb5] at h
  refine (congrArg (· ∈ _) (funext fun a => Fin.ext ?_)).mp h
  match a with
  | ⟨0, _⟩ => exact rowT_tileOf (i 0)
  | ⟨1, _⟩ => rfl
  | ⟨2, _⟩ => rfl

theorem covered6 (i : S8192x8x128.Idx) : ∃ t : Fin cfg0.N, (cfg0.win 6).flush t = true ∧ i ∈ ((cfg0.win 6).blk t).view.set := by
  refine ⟨tileOf (i 0), flush0_6 _, ?_⟩
  have h := ((cfg0.win 6).blk (tileOf (i 0))).view.emb_mem_set (ix3 (n0 := 512) (n1 := 8) (n2 := 128) (placeOf (i 0)) (i 1) (i 2) : S512x8x128.Idx)
  rw [emb6] at h
  refine (congrArg (· ∈ _) (funext fun a => Fin.ext ?_)).mp h
  match a with
  | ⟨0, _⟩ => exact rowT_tileOf (i 0)
  | ⟨1, _⟩ => rfl
  | ⟨2, _⟩ => rfl

/-- The kernel's run with its results as functions of its argument. -/
theorem run : θ_run defs (onTc (τ := τ) (main (F := Ideal))) ⟨m, fun _ => 0, ρ⟩ fun r => ∀ c : Dev nD,
      r.2.mem ((c : Thread nD τ).loc main_v0_0) = outQ (arg m c)
      ∧ r.2.mem ((c : Thread nD τ).loc main_v0_1) = outKV (arg m c)
      ∧ r.2.mem ((c : Thread nD τ).loc main_v0_2) = outC (arg m c) 1024 (by omega)
      ∧ r.2.mem ((c : Thread nD τ).loc main_v0_3) = outC (arg m c) 2048 (by omega)
      ∧ r.2.mem ((c : Thread nD τ).loc main_arg0) = m ((c : Thread nD τ).loc main_arg0) :=
  (θ_run defs _ _).mono (fun r h c => ⟨(h c).1.trans ((dats m 0 c).arrAt_eq_of_cover 3 _ (fun t _ => flushed3_eq m c t) covered3),
    (h c).2.1.trans ((dats m 0 c).arrAt_eq_of_cover 4 _ (fun t _ => flushed4_eq m c t) covered4),
    (h c).2.2.1.trans ((dats m 0 c).arrAt_eq_of_cover 5 _ (fun t _ => flushed5_eq m c t) covered5),
    (h c).2.2.2.1.trans ((dats m 0 c).arrAt_eq_of_cover 6 _ (fun t _ => flushed6_eq m c t) covered6),
    (h c).2.2.2.2⟩) (run_blocks m ρ)

end Cert.Proof.Kvd

end
-- ==== Proof.KvdRef.lean ====
/- The plain preparation of the context's queries, keys and values, as arrays. -/
module

public import proofs.«01_k».proof.Proof.Gen.ReferenceKvdIdeal.Read
public import proofs.«01_k».proof.Proof.KvdRun

@[expose] public section

noncomputable section

namespace Cert.Proof.Kvd

open Cert.ReferenceKvdIdeal Cert.ReferenceKvdIdeal.Gen Cert.ReferenceKvdIdeal.Read Idealize.ShloMosaic Idealize.ShloMosaic.TcCoe
open Idealize.ShloMosaic.Pointwise
open Cert.Proof.Proj (at2)

variable (X : FVec Ideal S16384x3072 .f32)

theorem q_apply (r : Fin 8192) (j : Fin 1024) : val_main_v1 (F := Ideal) X (ix2 r j) = cell X r ⟨j.val, by omega⟩ :=
  ((val_main_v1_apply (F := Ideal) X _).trans (val_main_v0_apply (F := Ideal) X _)).trans (at2 (n0 := 16384) (n1 := 3072) (e := .f32) X (idx_main_v0 (idx_main_v1 (ix2 r j))) ⟨r.val, by omega⟩ ⟨j.val, by omega⟩ rfl rfl)

theorem k_apply (r : Fin 8192) (j : Fin 1024) : val_main_v2 (F := Ideal) X (ix2 r j) = cell X r ⟨1024 + j.val, by omega⟩ :=
  ((val_main_v2_apply (F := Ideal) X _).trans (val_main_v0_apply (F := Ideal) X _)).trans (at2 (n0 := 16384) (n1 := 3072) (e := .f32) X (idx_main_v0 (idx_main_v2 (ix2 r j))) ⟨r.val, by omega⟩ ⟨1024 + j.val, by omega⟩ rfl rfl)

theorem v_apply (r : Fin 8192) (j : Fin 1024) : val_main_v3 (F := Ideal) X (ix2 r j) = cell X r ⟨2048 + j.val, by omega⟩ :=
  ((val_main_v3_apply (F := Ideal) X _).trans (val_main_v0_apply (F := Ideal) X _)).trans (at2 (n0 := 16384) (n1 := 3072) (e := .f32) X (idx_main_v0 (idx_main_v3 (ix2 r j))) ⟨r.val, by omega⟩ ⟨2048 + j.val, by omega⟩ rfl rfl)

/-- The scaled queries. -/
theorem refQ_eq : val_main_v6 (F := Ideal) X = outQ X := by
  refine funext fun (y : S8192x1024.Idx) => ?_
  obtain ⟨r, j, rfl⟩ : ∃ (r : Fin 8192) (j : Fin 1024), y = ix2 r j := ⟨y 0, y 1, by funext a; match a with | ⟨0, _⟩ => rfl | ⟨1, _⟩ => rfl⟩
  exact congrArg₂ (· * ·) (q_apply X r j) ((val_main_v4_apply _).trans (val_main_cst_apply _))

/-- Two arrays side by side. -/
theorem sides_apply (y z : FVec Ideal S8192x1024 .f32) (r : Fin 8192) (j : Fin 2048) :
    (concatenate S8192x2048 1 [⟨S8192x1024, y⟩, ⟨S8192x1024, z⟩] concatenates_S8192x1024_S8192x1024_S8192x2048_d1 : FVec Ideal S8192x2048 .f32) (ix2 r j)
      = if h : j.val < 1024 then y (ix2 r ⟨j.val, h⟩) else z (ix2 r ⟨j.val - 1024, by omega⟩) := by
  pointwise

/-- Keys and values side by side. -/
theorem refKV_eq : val_main_v8 (F := Ideal) X = outKV X := by
  refine funext fun (y : S8192x2048.Idx) => ?_
  obtain ⟨r, j, rfl⟩ : ∃ (r : Fin 8192) (j : Fin 2048), y = ix2 r j := ⟨y 0, y 1, by funext a; match a with | ⟨0, _⟩ => rfl | ⟨1, _⟩ => rfl⟩
  refine Eq.trans (b := val_main_v7 (F := Ideal) X (ix2 r j)) rfl ?_
  refine (sides_apply _ _ r j).trans ?_
  by_cases h : j.val < 1024
  · rw [dif_pos h]; exact k_apply X r ⟨j.val, h⟩
  · rw [dif_neg h]
    exact (v_apply X r ⟨j.val - 1024, by omega⟩).trans
      (congrArg (cell X r) (Fin.ext (show 2048 + (j.val - 1024) = 1024 + j.val by omega)))

/-- The key cache, by head. -/
theorem refK_eq : val_main_v9 (F := Ideal) X = outC X 1024 (by omega) := by
  refine funext fun (y : S8192x8x128.Idx) => ?_
  have h1 : (y 1).val < 8 := (y 1).isLt
  have h2 : (y 2).val < 128 := (y 2).isLt
  refine ((val_main_v9_apply X y).trans (at2 (n0 := 8192) (n1 := 1024) (e := .f32) (val_main_v2 (F := Ideal) X) _ (y 0) ⟨128 * (y 1).val + (y 2).val, by omega⟩ ?_ ?_)).trans (k_apply X (y 0) _)
  · show (((y 0).val * 8 + (y 1).val) * 128 + (y 2).val) / 1024 = (y 0).val; omega
  · show (((y 0).val * 8 + (y 1).val) * 128 + (y 2).val) % 1024 = 128 * (y 1).val + (y 2).val; omega

/-- The value cache, by head. -/
theorem refV_eq : val_main_v10 (F := Ideal) X = outC X 2048 (by omega) := by
  refine funext fun (y : S8192x8x128.Idx) => ?_
  have h1 : (y 1).val < 8 := (y 1).isLt
  have h2 : (y 2).val < 128 := (y 2).isLt
  refine ((val_main_v10_apply X y).trans (at2 (n0 := 8192) (n1 := 1024) (e := .f32) (val_main_v3 (F := Ideal) X) _ (y 0) ⟨128 * (y 1).val + (y 2).val, by omega⟩ ?_ ?_)).trans (v_apply X (y 0) _)
  · show (((y 0).val * 8 + (y 1).val) * 128 + (y 2).val) / 1024 = (y 0).val; omega
  · show (((y 0).val * 8 + (y 1).val) * 128 + (y 2).val) % 1024 = 128 * (y 1).val + (y 2).val; omega

end Cert.Proof.Kvd

end
-- ==== Proof.KvdClaim.lean ====
/- The claim of the preparation of the context's queries, keys and values: kernel and reference both run and end with equal arrays. -/
module

public import proofs.«01_k».proof.Defs
public import proofs.«01_k».proof.Proof.Gen.ReferenceKvdIdeal.Run
public import proofs.«01_k».proof.Proof.KvdRun
public import proofs.«01_k».proof.Proof.KvdRef

@[expose] public section

noncomputable section

namespace Cert.Proof.Kvd

open Idealize.ShloMosaic Idealize.SL.Sem

theorem algebraic : Cert.algebraic_KernelKvdIdeal_ReferenceKvdIdeal := by
  intro m g m' g' _ heq
  refine ⟨fun c => outQ (arg m c), fun c => outKV (arg m c), fun c => outC (arg m c) 1024 (by omega), fun c => outC (arg m c) 2048 (by omega),
    run m g, (θ_run Cert.ReferenceKvdIdeal.defs _ _).mono (fun r h c => ?_) (Cert.ReferenceKvdIdeal.Value.run m' g')⟩
  have e := heq c
  refine ⟨(h c).1.trans ?_, (h c).2.1.trans ?_, (h c).2.2.1.trans ?_, (h c).2.2.2.1.trans ?_, (h c).2.2.2.2⟩
  · refine (Cert.ReferenceKvdIdeal.Read.val_main_v6_eq _).trans ?_
    rw [e]; exact refQ_eq (arg m c)
  · refine (Cert.ReferenceKvdIdeal.Read.val_main_v8_eq _).trans ?_
    rw [e]; exact refKV_eq (arg m c)
  · refine (Cert.ReferenceKvdIdeal.Read.val_main_v9_eq _).trans ?_
    rw [e]; exact refK_eq (arg m c)
  · refine (Cert.ReferenceKvdIdeal.Read.val_main_v10_eq _).trans ?_
    rw [e]; exact refV_eq (arg m c)

/-- The reference of the preparation runs and leaves its argument alone; it has no semaphore. -/
theorem frame_reference : Cert.quiescent_ReferenceKvdIdeal := fun m ρ _ =>
  (θ_run Cert.ReferenceKvdIdeal.defs _ _).mono (fun r h => ⟨fun c => (h c).2.2.2.2,
    Idealize.ShloMosaic.sem_eq_zero_of_no_sems (by decide) r.2⟩) (Cert.ReferenceKvdIdeal.Value.run (F := Ideal) m ρ)

end Cert.Proof.Kvd

end
-- ==== Proof.LastBlk.lean ====
module

public import proofs.«01_k».proof.Proof.FfnBlock

/-! The last FFN's block: the FFN's, its rows normed once more. -/

@[expose] public section

noncomputable section

namespace Cert.Proof.Last

open Idealize.ShloMosaic Cert.KernelFfnIdeal Cert.KernelFfnIdeal.Gen Cert.Proof.Ffn

variable {F : FTy → Type} [FloatOps F]

/-- Each row over its root mean square, by the norm's weights. -/
def normRows (y : FVec F S1024x1024 .f32) (g : FVec F S1x1024 .f32) : FVec F S1024x1024 .f32 :=
  let ss : FVec F S1024x1 .f32 := shapeCast S1024x1 (multiReduction .add [1] S1024 (mulf y y) 0x00000000#32 reduces_S1024x1024_S1024 (.inl rfl) rfl) shapeCasts_S1024_S1024x1
  let ms : FVec F S1024x1 .f32 := divf ss (broadcast S1024x1 (Scalar.ofBits .f32 0x44800000#32))
  let inv : FVec F S1024x1 .f32 := rsqrt (addf ms (broadcast S1024x1 (Scalar.ofBits .f32 0x358637BD#32)))
  mulf (mulf y (broadcastTo S1024x1024 inv broadcasts_S1024x1_S1024x1024)) (broadcastTo S1024x1024 (shapeCast S1x1024 g shapeCasts_S1x1024_S1x1024) broadcasts_S1x1024_S1024x1024)

/-- The block of tile `w`, over the rectangles of its input blocks the body loads. -/
def lastBlk (w : BitVec 32) (x0 : Vec F S16x1024 .f32) (x1 : Vec F S1024x1024 .f32) (x2 : Vec F S16x1024 .f32) (x3 : Vec F S1x1024 .f32)
    (x4 x5 x6 : Vec F S1x1x1024 .f32) (x7 : Vec F S1x1024x5632 .bf16) (x8 : Vec F S3x5632 .f32) (x9 : Vec F S1x5632 .f32) (x10 : Vec F S1x2816x1024 .bf16)
    (x11 : Vec F S1x1024 .f32) : FVec F S1024x1024 .f32 :=
  normRows (rawBlk w x0 x1 x2 x3 x4 x5 x6 x7 x8 x9 x10) (View.ld x11 r0_1)

end Cert.Proof.Last

end
-- ==== Proof.LastFrame.lean ====
module

public import proofs.«01_k».proof.Proof.LastBlk
public import proofs.«01_k».proof.Proof.Gen.KernelLastIdeal.Frame
public import proofs.«01_k».proof.Proof.Gen.KernelLastIdeal.Skeleton
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The last FFN's launch, at any values. Of its two outputs the body stores one at each grid point — the context's rows
at points 0 to 7, the latent's at points 8 to 15 — and leaves the other's staging buffer as it found it. -/

@[expose] public section

set_option maxRecDepth 16384

noncomputable section

namespace Cert.Proof.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelLastIdeal Cert.KernelLastIdeal.Gen

variable {F : FTy → Type} [FloatOps F]

local notation "𝕄" => MT nD τ sig Unit (Elt F) ℕ (UR sig nD τ) ℕ

/-- The whole block as the body's stores name it. -/
abbrev rOut : Rect S1024x1024 := Rect.unit (s := S1024x1024) ![0, 0] S1024x1024.size inb_S1024x1024_S1024x1024_0_0

/-- One store of a whole block covers it. -/
theorem cover (p : Vec F S1024x1024 .f32) (y : S1024x1024.Idx) :
    ∃ pc ∈ ([⟨rOut, p⟩] : List (View.Piece (Elt F) S1024x1024 .f32)), y ∈ pc.1.set :=
  View.cover_of_tiled [⟨rOut, p⟩] S1024x1024.size (by rfl) y

/-- The input blocks' staging buffers. -/
def ins (c : Dev nD)
    (arg1 : Memref sig .tc .vmem S16x1024 .f32) (arg2 : Memref sig .tc .vmem S1024x1024 .f32) (arg3 : Memref sig .tc .vmem S16x1024 .f32)
    (arg4 : Memref sig .tc .vmem S1x1024 .f32) (arg5 : Memref sig .tc .vmem S1x1x1024 .f32) (arg6 : Memref sig .tc .vmem S1x1x1024 .f32)
    (arg7 : Memref sig .tc .vmem S1x1x1024 .f32) (arg8 : Memref sig .tc .vmem S1x1024x5632 .bf16) (arg9 : Memref sig .tc .vmem S3x5632 .f32)
    (arg10 : Memref sig .tc .vmem S1x5632 .f32) (arg11 : Memref sig .tc .vmem S1x2816x1024 .bf16) (arg12 : Memref sig .tc .vmem S1x1024 .f32)
    (x0 : Vec F S16x1024 .f32) (x1 : Vec F S1024x1024 .f32) (x2 : Vec F S16x1024 .f32) (x3 : Vec F S1x1024 .f32) (x4 : Vec F S1x1x1024 .f32)
    (x5 : Vec F S1x1x1024 .f32) (x6 : Vec F S1x1x1024 .f32) (x7 : Vec F S1x1024x5632 .bf16) (x8 : Vec F S3x5632 .f32) (x9 : Vec F S1x5632 .f32)
    (x10 : Vec F S1x2816x1024 .bf16) (x11 : Vec F S1x1024 .f32) : sProp 𝕄 :=
  iprop(owns (c : Thread nD τ) arg1 fullShare x0 ∗
      owns (c : Thread nD τ) arg2 fullShare x1 ∗
      owns (c : Thread nD τ) arg3 fullShare x2 ∗
      owns (c : Thread nD τ) arg4 fullShare x3 ∗
      owns (c : Thread nD τ) arg5 fullShare x4 ∗
      owns (c : Thread nD τ) arg6 fullShare x5 ∗
      owns (c : Thread nD τ) arg7 fullShare x6 ∗
      owns (c : Thread nD τ) arg8 fullShare x7 ∗
      owns (c : Thread nD τ) arg9 fullShare x8 ∗
      owns (c : Thread nD τ) arg10 fullShare x9 ∗
      owns (c : Thread nD τ) arg11 fullShare x10 ∗
      owns (c : Thread nD τ) arg12 fullShare x11)

set_option maxHeartbeats 6744450 in
/-- The body, from the input blocks: an output it stores ends at the block's value, the other as it was. -/
theorem body (c : Dev nD) (E : Set ℕ) (i : grid0.Coords)
    (arg1 : Memref sig .tc .vmem S16x1024 .f32) (harg1 : arg1.IsWhole) (arg2 : Memref sig .tc .vmem S1024x1024 .f32) (harg2 : arg2.IsWhole)
    (arg3 : Memref sig .tc .vmem S16x1024 .f32) (harg3 : arg3.IsWhole) (arg4 : Memref sig .tc .vmem S1x1024 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x5632 .bf16) (harg8 : arg8.IsWhole)
    (arg9 : Memref sig .tc .vmem S3x5632 .f32) (harg9 : arg9.IsWhole) (arg10 : Memref sig .tc .vmem S1x5632 .f32) (harg10 : arg10.IsWhole)
    (arg11 : Memref sig .tc .vmem S1x2816x1024 .bf16) (harg11 : arg11.IsWhole) (arg12 : Memref sig .tc .vmem S1x1024 .f32) (harg12 : arg12.IsWhole)
    (arg13 : Memref sig .tc .vmem S1024x1024 .f32) (harg13 : arg13.IsWhole) (arg14 : Memref sig .tc .vmem S1024x1024 .f32) (harg14 : arg14.IsWhole)
    (x0 : Vec F S16x1024 .f32) (x1 : Vec F S1024x1024 .f32) (x2 : Vec F S16x1024 .f32) (x3 : Vec F S1x1024 .f32) (x4 : Vec F S1x1x1024 .f32)
    (x5 : Vec F S1x1x1024 .f32) (x6 : Vec F S1x1x1024 .f32) (x7 : Vec F S1x1024x5632 .bf16) (x8 : Vec F S3x5632 .f32) (x9 : Vec F S1x5632 .f32)
    (x10 : Vec F S1x2816x1024 .bf16) (x11 : Vec F S1x1024 .f32)
    (y12 y13 : Vec F S1024x1024 .f32) (K : PUnit → sProp 𝕄)
    (hc : k0_cond1 i = 1#1 ∧ ¬ k0_cond2 i = 1#1 ∨ ¬ k0_cond1 i = 1#1 ∧ k0_cond2 i = 1#1) :
    iprop(ins c arg1 arg2 arg3 arg4 arg5 arg6 arg7 arg8 arg9 arg10 arg11 arg12 x0 x1 x2 x3 x4 x5 x6 x7 x8 x9 x10 x11
        ∗ owns (c : Thread nD τ) arg13 fullShare y12 ∗ owns (c : Thread nD τ) arg14 fullShare y13
        ∗ (iprop(ins c arg1 arg2 arg3 arg4 arg5 arg6 arg7 arg8 arg9 arg10 arg11 arg12 x0 x1 x2 x3 x4 x5 x6 x7 x8 x9 x10 x11
            ∗ owns (c : Thread nD τ) arg13 fullShare (if k0_cond1 i = 1#1 then lastBlk (BitVec.ofNat 32 (i 0).val) x0 x1 x2 x3 x4 x5 x6 x7 x8 x9 x10 x11 else y12)
            ∗ owns (c : Thread nD τ) arg14 fullShare (if k0_cond2 i = 1#1 then lastBlk (BitVec.ofNat 32 (i 0).val) x0 x1 x2 x3 x4 x5 x6 x7 x8 x9 x10 x11 else y13)) -∗ K ⟨⟩))
      ⊢ wp frame (wpE (defs₀ (F := F)) Variants.none c none) E
          (cc0_conv_ffn i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_conv_ffn_eq_skeleton]; unfold cc0_conv_ffn_skel
  simp only [
    k0_part77_eq_skeleton, k0_part78_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton,
    k0_part47_eq_skeleton, k0_part48_eq_skeleton, k0_part49_eq_skeleton, k0_part50_eq_skeleton, k0_part51_eq_skeleton, k0_part52_eq_skeleton,
    k0_part53_eq_skeleton, k0_part54_eq_skeleton, k0_part55_eq_skeleton, k0_part56_eq_skeleton, k0_part57_eq_skeleton, k0_part58_eq_skeleton,
    k0_part59_eq_skeleton, k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton, k0_part76_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, Hk⟩
  subst hf0 hf1 hf2 hf3 hf4 hf5 hf6 hf7 hf8 hf9 hf10 hf11 hf12 hf13
  rcases hc with ⟨h1, h2⟩ | ⟨h1, h2⟩
  all_goals
    sl_exec
    sl_step
    iapply Hk
    isplitl [H0 H1 H2 H3 H4 H5 H6 H7 H8 H9 H10 H11]
    · skip
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      iexists f11; isplitr; · ipureintro; rfl
      iexact H11
  · isplitl [H12]
    · iexists _; isplitr
      swap; · iexact H12
      ipureintro
      rw [if_pos h1]
      exact (View.read_writes_eq_canon _ _ _ (cover _)).trans ((View.canon_cons_unit_lit _ _ _ (by decide)).trans rfl)
    · iexists f13; isplitr; · ipureintro; rw [if_neg h2]
      iexact H13
  · isplitl [H12]
    · iexists f12; isplitr; · ipureintro; rw [if_neg h1]
      iexact H12
    · iexists _; isplitr
      swap; · iexact H13
      ipureintro
      rw [if_pos h2]
      exact (View.read_writes_eq_canon _ _ _ (cover _)).trans ((View.canon_cons_unit_lit _ _ _ (by decide)).trans rfl)

/-! ## The proof data -/

variable (m : (ℓ : Loc nD τ sig) → Buf (Elt F) ℓ) (ρ : Dev nD → PrngReg)

/-- The block the body computes at point `t`. -/
def blk (c : Dev nD) (t : Fin cfg0.N) : Vec F S1024x1024 .f32 :=
  lastBlk (BitVec.ofNat 32 (grid0.coords t 0).val)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The point whose block the context rows' buffer holds after point `t`. -/
def ctxPt (t : Fin cfg0.N) : Fin cfg0.N := ⟨min t.val 7, by have : t.val < cfg0.N := t.isLt; omega⟩

/-- The inputs keep their blocks; the context rows' buffer keeps its last block, the latent rows' has this point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => blk m c (ctxPt t)
    | ⟨13, _⟩ => blk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_12 (c : Dev nD) (t : Fin cfg0.N) : (dats m 0 c).after 12 t = blk m c (ctxPt t) := by dsimp only [dats]
theorem after_13 (c : Dev nD) (t : Fin cfg0.N) : (dats m 0 c).after 13 t = blk m c t := by dsimp only [dats]

theorem in_0 (c : Dev nD) (t : Fin cfg0.N) (d) : (dats m 0 c).before 0 t d = iblk m c 0 t :=
  before0_0_of m (dats m 0 c) (A_eq m c 0) (fun _ => rfl) t d
theorem in_1 (c : Dev nD) (t : Fin cfg0.N) (d) : (dats m 0 c).before 1 t d = iblk m c 1 t :=
  before0_1_of m (dats m 0 c) (A_eq m c 1) (fun _ => rfl) t d
theorem in_2 (c : Dev nD) (t : Fin cfg0.N) (d) : (dats m 0 c).before 2 t d = iblk m c 2 t :=
  before0_2_of m (dats m 0 c) (A_eq m c 2) (fun _ => rfl) t d
theorem in_3 (c : Dev nD) (t : Fin cfg0.N) (d) : (dats m 0 c).before 3 t d = iblk m c 3 t :=
  before0_3_of m (dats m 0 c) (A_eq m c 3) (fun _ => rfl) t d
theorem in_4 (c : Dev nD) (t : Fin cfg0.N) (d) : (dats m 0 c).before 4 t d = iblk m c 4 t :=
  before0_4_of m (dats m 0 c) (A_eq m c 4) (fun _ => rfl) t d
theorem in_5 (c : Dev nD) (t : Fin cfg0.N) (d) : (dats m 0 c).before 5 t d = iblk m c 5 t :=
  before0_5_of m (dats m 0 c) (A_eq m c 5) (fun _ => rfl) t d
theorem in_6 (c : Dev nD) (t : Fin cfg0.N) (d) : (dats m 0 c).before 6 t d = iblk m c 6 t :=
  before0_6_of m (dats m 0 c) (A_eq m c 6) (fun _ => rfl) t d
theorem in_7 (c : Dev nD) (t : Fin cfg0.N) (d) : (dats m 0 c).before 7 t d = iblk m c 7 t :=
  before0_7_of m (dats m 0 c) (A_eq m c 7) (fun _ => rfl) t d
theorem in_8 (c : Dev nD) (t : Fin cfg0.N) (d) : (dats m 0 c).before 8 t d = iblk m c 8 t :=
  before0_8_of m (dats m 0 c) (A_eq m c 8) (fun _ => rfl) t d
theorem in_9 (c : Dev nD) (t : Fin cfg0.N) (d) : (dats m 0 c).before 9 t d = iblk m c 9 t :=
  before0_9_of m (dats m 0 c) (A_eq m c 9) (fun _ => rfl) t d
theorem in_10 (c : Dev nD) (t : Fin cfg0.N) (d) : (dats m 0 c).before 10 t d = iblk m c 10 t :=
  before0_10_of m (dats m 0 c) (A_eq m c 10) (fun _ => rfl) t d
theorem in_11 (c : Dev nD) (t : Fin cfg0.N) (d) : (dats m 0 c).before 11 t d = iblk m c 11 t :=
  before0_11_of m (dats m 0 c) (A_eq m c 11) (fun _ => rfl) t d

/-! ## The two outputs' buffers -/

/-- Which output a point stores. -/
theorem stores : ∀ t : Fin grid0.N, k0_cond1 (grid0.coords t) = 1#1 ∧ ¬ k0_cond2 (grid0.coords t) = 1#1 ∧ t.val < 8
    ∨ ¬ k0_cond1 (grid0.coords t) = 1#1 ∧ k0_cond2 (grid0.coords t) = 1#1 ∧ 8 ≤ t.val := by decide +kernel
/-- The context rows' blocks are written back when the next point's is another one, and at the end; -/
theorem flush12 : ∀ t : Fin grid0.N, win0_12.flushF t = decide (t.val < 7 ∨ t.val = 15) := by decide +kernel
/-- the latent rows' once stored. -/
theorem flush13 : ∀ t : Fin grid0.N, win0_13.flushF t = decide (8 ≤ t.val) := by decide +kernel
theorem idle12 : ∀ t : Fin grid0.N, cfg0.idle 12 (cfg0.grid.coords t) = decide (8 ≤ t.val) := by decide +kernel
theorem idle13 : ∀ t : Fin grid0.N, cfg0.idle 13 (cfg0.grid.coords t) = decide (t.val < 8) := by decide +kernel

theorem fresh12 : ∀ n, n ≤ cfg0.N → cfg0.fresh 12 n = decide (n < 8 ∨ n = 16) :=
  Cfg.fresh_tab (cfg := cfg0) 12 (fun n => decide (n < 8 ∨ n = 16)) rfl fun t => by
    rw [show (cfg0.win 12).flush t = _ from (Window.flush_eq_flushF win0_12 t).trans (flush12 t), idle12]
    have : t.val < 16 := t.isLt
    rw [Bool.eq_iff_iff]
    simp only [Bool.or_eq_true, Bool.and_eq_true, decide_eq_true_eq]
    omega

/-- At a point that does not store them the context rows' buffer holds the last context block. -/
theorem before12 (c : Dev nD) (t : Fin cfg0.N) (h8 : 8 ≤ t.val) (d) :
    (dats m 0 c).before 12 t d = (dats m 0 c).after 12 t := by
  have ht : t.val < 16 := t.isLt
  have hcarry : ∀ (s : Fin cfg0.N) (_ : s.val ≠ 0), cfg0.idle 12 (cfg0.grid.coords s) = true →
      (dats m 0 c).after 12 s = (dats m 0 c).after 12 ⟨s.val - 1, by omega⟩ := fun s _ hi => by
    have h : 8 ≤ s.val := of_decide_eq_true ((idle12 s).symm.trans hi)
    rw [after_12, after_12]
    exact congrArg (blk m c) (Fin.ext (show min s.val 7 = min (s.val - 1) 7 by omega))
  rw [Dat.before_out_traj (dats m 0 c) 12 rfl (fun _ _ => rfl) (fun s h0 hi _ => hcarry s h0 hi) t.val t rfl d,
    fresh12 t.val (by omega), if_neg (by simp; omega)]
  exact (hcarry t (by omega) ((idle12 t).trans (decide_eq_true h8))).symm

/-- What the context rows' buffer is left with. -/
theorem leave12 (c : Dev nD) (t : Fin cfg0.N) (d) :
    owns (c : Thread nD τ) (st0_12 t) fullShare (if k0_cond1 (grid0.coords t) = 1#1 then blk m c t else (dats m 0 c).before 12 t d)
      ⊢ ((dats m 0 c).leavesExact 12 t : sProp 𝕄) := by
  unfold Dat.leavesExact
  rw [show (cfg0.win 12).flush t = _ from (Window.flush_eq_flushF win0_12 t).trans (flush12 t), idle12]
  rcases stores t with ⟨h1, -, h⟩ | ⟨h1, -, h⟩
  · rw [if_pos h1, decide_eq_false (by omega), after_12, show ctxPt t = t from Fin.ext (show min t.val 7 = t.val by omega)]
  · rw [if_neg h1, decide_eq_true h, before12 m c t h]
    by_cases h15 : t.val < 7 ∨ t.val = 15
    · rw [decide_eq_true h15]
    · rw [decide_eq_false h15]
      iintro H; iexists d; rw [before12 m c t h]; iexact H

/-- What the latent rows' buffer is left with. -/
theorem leave13 (c : Dev nD) (t : Fin cfg0.N) (d) :
    owns (c : Thread nD τ) (st0_13 t) fullShare (if k0_cond2 (grid0.coords t) = 1#1 then blk m c t else (dats m 0 c).before 13 t d)
      ⊢ ((dats m 0 c).leavesExact 13 t : sProp 𝕄) := by
  unfold Dat.leavesExact
  rw [show (cfg0.win 13).flush t = _ from (Window.flush_eq_flushF win0_13 t).trans (flush13 t), idle13]
  rcases stores t with ⟨-, h2, h⟩ | ⟨-, h2, h⟩
  · rw [if_neg h2, decide_eq_true h, decide_eq_false (by omega)]
    iintro H; iexists d; iexact H
  · rw [if_pos h2, decide_eq_false (by omega), after_13]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t ∗ (dats m 0 c).leavesExact 13 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [in_0, in_1, in_2, in_3, in_4, in_5, in_6, in_7, in_8, in_9, in_10, in_11]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    _ _ _ ((stores t).imp (fun h => ⟨h.1, h.2.1⟩) fun h => ⟨h.1, h.2.1⟩))
  isplitl [H0 H1 H2 H3 H4 H5 H6 H7 H8 H9 H10 H11]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [H13]; · iexact H13
  unfold ins
  iintro ⟨⟨H0, H1, H2, H3, H4, H5, H6, H7, H8, H9, H10, H11⟩, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (leave12 m c t d12); iexact H12
  · iapply (leave13 m c t d13); iexact H13

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
set_option maxHeartbeats 800000 in
/-- Every execution ends, with the arrays at what the proof data leaves in them and the counters at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the counters at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.Last

end
-- ==== Proof.LastBits.lean ====
module

public import proofs.«01_k».proof.Proof.LastFrame
public import proofs.«01_k».proof.Proof.Gen.KernelLast
public import proofs.«01_k».proof.Defs

/-! The last FFN's kernel as compiled: the same program, at the machine's words. -/

@[expose] public section

noncomputable section

namespace Cert.Proof.Last

open Idealize.ShloMosaic Idealize.SL.Sem

set_option maxRecDepth 100000 in
theorem main_eq : Cert.KernelLast.main (F := Bits) = Cert.KernelLastIdeal.main (F := Bits) := rfl

set_option maxRecDepth 100000 in
theorem defs₀_eq : Cert.KernelLast.defs₀ (F := Bits) = Cert.KernelLastIdeal.defs₀ (F := Bits) := by
  unfold Cert.KernelLast.defs₀ Cert.KernelLastIdeal.defs₀
  refine congrArg Defs.onTc (funext fun l => funext fun a => ?_)
  match l, a with
  | 0, (t, s) => rfl

set_option maxRecDepth 100000 in
theorem defs_eq : Cert.KernelLast.defs (F := Bits) = Cert.KernelLastIdeal.defs (F := Bits) :=
  congrArg (Pipeline.defs Cert.KernelLastIdeal.pcfgs) defs₀_eq

theorem frame_kernel : Cert.quiescent_KernelLast := fun m ρ _ => by
  rw [defs_eq, main_eq]
  exact unchanged (F := Bits) m ρ

end Cert.Proof.Last

end
-- ==== Proof.LastRead.lean ====
/- The last FFN's rows over the reals, and its block of a tile read at an index. -/
module

public import proofs.«01_k».proof.Proof.FfnTile
public import proofs.«01_k».proof.Proof.LastBlk

@[expose] public section

noncomputable section

namespace Cert.Proof.Last

open Cert.KernelFfnIdeal Cert.KernelFfnIdeal.Gen Cert.Proof.Ffn Idealize.ShloMosaic Idealize.ShloMosaic.TcCoe
open Idealize.ShloMosaic.Pointwise

/-- A row over its root mean square, by the norm's weights. -/
def rowNorm (y g : Fin 1024 → EReal) (k : Fin 1024) : EReal :=
  y k * Ideal.rsqrt (Ideal.div (∑ l : Fin 1024, y l * y l) (Ideal.ofBits FTy.f32 1149239296#32) + Ideal.ofBits FTy.f32 897988541#32) * g k

/-- Row `N` of the layer's result, normed with the weights `fg`. -/
def lastG (A : Args) (fg : FVec Ideal S1024 .f32) (N : ℕ) : Fin 1024 → EReal := rowNorm (outG A N) (fun k => fg (ix1 k))

/-- The rows of the context, and those of the latents. -/
def ctxA (A : Args) (fg : FVec Ideal S1024 .f32) : FVec Ideal ⟨2, ![8192, 1024]⟩ .f32 := fun i => lastG A fg (i 0).val (i 1)
def latA (A : Args) (fg : FVec Ideal S1024 .f32) : FVec Ideal ⟨2, ![8192, 1024]⟩ .f32 := fun i => lastG A fg (8192 + (i 0).val) (i 1)

theorem normRows_apply (y : FVec Ideal S1024x1024 .f32) (g : FVec Ideal S1x1024 .f32) (n j : Fin 1024) :
    normRows y g (ix2 n j) = rowNorm (fun l => y (ix2 n l)) (fun l => g (ix2 0 l)) j := by
  pointwise [normRows]
  unfold rowNorm
  rfl

/-- The block of tile `t`. -/
theorem last_tile {A : Args} {t : ℕ} {x0 : Vec Ideal S16x1024 .f32} {x1 : Vec Ideal S1024x1024 .f32} {x2 : Vec Ideal S16x1024 .f32}
    {x3 : Vec Ideal S1x1024 .f32} {x4 x5 x6 : Vec Ideal S1x1x1024 .f32} {x7 : Vec Ideal S1x1024x5632 .bf16} {x8 : Vec Ideal S3x5632 .f32}
    {x9 : Vec Ideal S1x5632 .f32} {x10 : Vec Ideal S1x2816x1024 .bf16} (T : IsTile A t x0 x1 x2 x3 x4 x5 x6 x7 x8 x9 x10)
    (x11 : Vec Ideal S1x1024 .f32) (fg : FVec Ideal S1024 .f32) (hg : ∀ k : Fin 1024, x11 (ix2 0 k) = fg (ix1 k)) (n j : Fin 1024) :
    lastBlk (BitVec.ofNat 32 t) x0 x1 x2 x3 x4 x5 x6 x7 x8 x9 x10 x11 (ix2 n j) = lastG A fg (1024 * t + n.val) j := by
  unfold lastBlk lastG
  rw [normRows_apply, View.ld_unit_lit _ _ (by decide), raw_block]
  exact congrArg₂ (rowNorm · · j) (funext fun l => out_tile T n l) (funext hg)

end Cert.Proof.Last

end
-- ==== Proof.LastRun.lean ====
/- The last FFN kernel's two results as functions of the argument arrays, over the reals: grid points 0 to 7 leave the
   context's rows, the rest the latents' rows. -/
module

public import proofs.«01_k».proof.Proof.LastRead
public import proofs.«01_k».proof.Proof.LastFrame
public import Idealize.ShloMosaic.Lib.StableHlo.Run

@[expose] public section

noncomputable section

namespace Cert.Proof.Last

open Cert.KernelLastIdeal Cert.KernelLastIdeal.Gen Cert.Proof.Ffn Idealize.ShloMosaic Idealize.ShloMosaic.TcCoe Idealize.SL.Sem
open Idealize.ShloMosaic.Pointwise

variable (m : (ℓ : Loc nD τ sig) → Buf (Elt Ideal) ℓ) (ρ : Dev nD → PrngReg)

/-- The arguments a core's buffers hold. -/
def args (c : Dev nD) : Args where
  x := m ((c : Thread nD τ).loc main_arg0)
  g := m ((c : Thread nD τ).loc main_arg1)
  sh := m ((c : Thread nD τ).loc main_arg2)
  sc := m ((c : Thread nD τ).loc main_arg3)
  ga := m ((c : Thread nD τ).loc main_arg4)
  wu := m ((c : Thread nD τ).loc main_arg5)
  cw := m ((c : Thread nD τ).loc main_arg6)
  cb := m ((c : Thread nD τ).loc main_arg7)
  wd := m ((c : Thread nD τ).loc main_arg8)
  layer := 3

/-- The last norm's weights. -/
def fin (c : Dev nD) : FVec Ideal S1024 .f32 := m ((c : Thread nD τ).loc main_arg9)

/-- The three reshaped arguments. -/
theorem V_v0 (c : Dev nD) (f : Fin 5632) : V m c main_v0 (ix2 (n0 := 1) (n1 := 5632) 0 f) = (args m c).cb (ix1 f) := by
  have h : V m c main_v0 = shapeCast S1x5632 (m ((c : Thread nD τ).loc main_arg7)) shapeCasts_S5632_S1x5632 := by
    show StableHlo.after hostOps0 (fun b => m (c, b)) (Proc.devRef .tc main_v0) = _
    unfold hostOps0
    after_results_simp
    rfl
  rw [h]
  exact shapeCast_apply _ shapeCasts_S5632_S1x5632 _ (ix1 (n0 := 5632) f)
    (by rw [Shape.rowMajor_val_one, Shape.rowMajor_val_two]; show f.val = 0 * 5632 + f.val; omega)
theorem V_v1 (c : Dev nD) (k : Fin 1024) : V m c main_v1 (ix2 (n0 := 1) (n1 := 1024) 0 k) = (args m c).g (ix1 k) := by
  have h : V m c main_v1 = shapeCast S1x1024 (m ((c : Thread nD τ).loc main_arg1)) shapeCasts_S1024_S1x1024 := by
    show StableHlo.after hostOps0 (fun b => m (c, b)) (Proc.devRef .tc main_v1) = _
    unfold hostOps0
    after_results_simp
    rfl
  rw [h]
  pointwise
  rfl
theorem V_v2 (c : Dev nD) (k : Fin 1024) : V m c main_v2 (ix2 (n0 := 1) (n1 := 1024) 0 k) = fin m c (ix1 k) := by
  have h : V m c main_v2 = shapeCast S1x1024 (m ((c : Thread nD τ).loc main_arg9)) shapeCasts_S1024_S1x1024 := by
    show StableHlo.after hostOps0 (fun b => m (c, b)) (Proc.devRef .tc main_v2) = _
    unfold hostOps0
    after_results_simp
    rfl
  rw [h]
  pointwise
  rfl

theorem idx0 : ∀ t : Fin cfg0.N, win0_0.index t (0 : Fin 2) = 64 * t.val - 1 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = min (64 * t.val + 64) 1023 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = segT t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = segT t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = segT t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = 3 ∧ win0_7.index t (1 : Fin 3) = 0 ∧ win0_7.index t (2 : Fin 3) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = 3 ∧ win0_10.index t (1 : Fin 3) = 0 ∧ win0_10.index t (2 : Fin 3) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = min t.val 7 ∧ win0_12.index t (1 : Fin 2) = 0 :=
  (by decide +kernel : ∀ t : Fin grid0.N, _)
theorem idx13 : ∀ t : Fin cfg0.N, win0_13.index t (0 : Fin 2) = t.val - 8 ∧ win0_13.index t (1 : Fin 2) = 0 :=
  (by decide +kernel : ∀ t : Fin grid0.N, _)
theorem coord : ∀ t : Fin cfg0.N, (grid0.coords t 0).val = t.val :=
  (by decide +kernel : ∀ t : Fin grid0.N, _)

theorem t_lt (t : Fin cfg0.N) : t.val < 16 := t.isLt

/-- The blocks at an index. -/
theorem blk0 (c : Dev nD) (t : Fin cfg0.N) (r : Fin 16) (k : Fin 1024) :
    (iblk m c 0 t : Vec Ideal S16x1024 .f32) (ix2 r k) = xG (args m c) (16 * (64 * t.val - 1) + r.val) k := by
  obtain ⟨e0, e1⟩ := idx0 t
  have h := t_lt t
  refine (congrFun (V_main_arg0 m c) _).trans (congrArg (args m c).x (funext fun a => Fin.ext ?_))
  match a with
  | ⟨0, _⟩ => show win0_0.index t (0 : Fin 2) * 16 + 1 * r.val = min (16 * (64 * t.val - 1) + r.val) 16383; omega
  | ⟨1, _⟩ => show win0_0.index t (1 : Fin 2) * 1024 + 1 * k.val = k.val; omega
theorem blk1 (c : Dev nD) (t : Fin cfg0.N) (r : Fin 1024) (k : Fin 1024) :
    (iblk m c 1 t : Vec Ideal S1024x1024 .f32) (ix2 r k) = xG (args m c) (1024 * t.val + r.val) k := by
  obtain ⟨e0, e1⟩ := idx1 t
  have h := t_lt t
  refine (congrFun (V_main_arg0 m c) _).trans (congrArg (args m c).x (funext fun a => Fin.ext ?_))
  match a with
  | ⟨0, _⟩ => show win0_1.index t (0 : Fin 2) * 1024 + 1 * r.val = min (1024 * t.val + r.val) 16383; omega
  | ⟨1, _⟩ => show win0_1.index t (1 : Fin 2) * 1024 + 1 * k.val = k.val; omega
theorem blk2 (c : Dev nD) (t : Fin cfg0.N) (r : Fin 16) (k : Fin 1024) :
    (iblk m c 2 t : Vec Ideal S16x1024 .f32) (ix2 r k) = xG (args m c) (16 * min (64 * t.val + 64) 1023 + r.val) k := by
  obtain ⟨e0, e1⟩ := idx2 t
  have h := t_lt t
  refine (congrFun (V_main_arg0 m c) _).trans (congrArg (args m c).x (funext fun a => Fin.ext ?_))
  match a with
  | ⟨0, _⟩ => show win0_2.index t (0 : Fin 2) * 16 + 1 * r.val = min (16 * min (64 * t.val + 64) 1023 + r.val) 16383; omega
  | ⟨1, _⟩ => show win0_2.index t (1 : Fin 2) * 1024 + 1 * k.val = k.val; omega
theorem blk3 (c : Dev nD) (t : Fin cfg0.N) (k : Fin 1024) :
    (iblk m c 3 t : Vec Ideal S1x1024 .f32) (ix2 0 k) = (args m c).g (ix1 k) := by
  obtain ⟨e0, e1⟩ := idx3 t
  refine Eq.trans (congrArg (V m c main_v1) (funext fun a => Fin.ext ?_)) (V_v1 m c k)
  match a with
  | ⟨0, _⟩ => show win0_3.index t (0 : Fin 2) * 1 + 1 * 0 = 0; omega
  | ⟨1, _⟩ => show win0_3.index t (1 : Fin 2) * 1024 + 1 * k.val = k.val; omega
theorem blk4 (c : Dev nD) (t : Fin cfg0.N) (n : ℕ) (hn : n < 1024) (k : Fin 1024) :
    (iblk m c 4 t : Vec Ideal S1x1x1024 .f32) (ix3 0 0 k) = (args m c).sh (ix3 (segOf (1024 * t.val + n)) 0 k) := by
  obtain ⟨e0, e1, e2⟩ := idx4 t
  have h := segT_eq t.val n hn
  refine (congrFun (V_main_arg2 m c) _).trans (congrArg (args m c).sh (funext fun a => Fin.ext ?_))
  match a with
  | ⟨0, _⟩ => show win0_4.index t (0 : Fin 3) * 1 + 1 * 0 = (segOf (1024 * t.val + n)).val; omega
  | ⟨1, _⟩ => show win0_4.index t (1 : Fin 3) * 1 + 1 * 0 = 0; omega
  | ⟨2, _⟩ => show win0_4.index t (2 : Fin 3) * 1024 + 1 * k.val = k.val; omega
theorem blk5 (c : Dev nD) (t : Fin cfg0.N) (n : ℕ) (hn : n < 1024) (k : Fin 1024) :
    (iblk m c 5 t : Vec Ideal S1x1x1024 .f32) (ix3 0 0 k) = (args m c).sc (ix3 (segOf (1024 * t.val + n)) 0 k) := by
  obtain ⟨e0, e1, e2⟩ := idx5 t
  have h := segT_eq t.val n hn
  refine (congrFun (V_main_arg3 m c) _).trans (congrArg (args m c).sc (funext fun a => Fin.ext ?_))
  match a with
  | ⟨0, _⟩ => show win0_5.index t (0 : Fin 3) * 1 + 1 * 0 = (segOf (1024 * t.val + n)).val; omega
  | ⟨1, _⟩ => show win0_5.index t (1 : Fin 3) * 1 + 1 * 0 = 0; omega
  | ⟨2, _⟩ => show win0_5.index t (2 : Fin 3) * 1024 + 1 * k.val = k.val; omega
theorem blk6 (c : Dev nD) (t : Fin cfg0.N) (n : ℕ) (hn : n < 1024) (k : Fin 1024) :
    (iblk m c 6 t : Vec Ideal S1x1x1024 .f32) (ix3 0 0 k) = (args m c).ga (ix3 (segOf (1024 * t.val + n)) 0 k) := by
  obtain ⟨e0, e1, e2⟩ := idx6 t
  have h := segT_eq t.val n hn
  refine (congrFun (V_main_arg4 m c) _).trans (congrArg (args m c).ga (funext fun a => Fin.ext ?_))
  match a with
  | ⟨0, _⟩ => show win0_6.index t (0 : Fin 3) * 1 + 1 * 0 = (segOf (1024 * t.val + n)).val; omega
  | ⟨1, _⟩ => show win0_6.index t (1 : Fin 3) * 1 + 1 * 0 = 0; omega
  | ⟨2, _⟩ => show win0_6.index t (2 : Fin 3) * 1024 + 1 * k.val = k.val; omega
theorem blk7 (c : Dev nD) (t : Fin cfg0.N) (k : Fin 1024) (f : Fin 5632) :
    (iblk m c 7 t : Vec Ideal S1x1024x5632 .bf16) (ix3 0 k f) = (args m c).wu (ix3 (args m c).layer k f) := by
  obtain ⟨e0, e1, e2⟩ := idx7 t
  refine (congrFun (V_main_arg5 m c) _).trans (congrArg (args m c).wu (funext fun a => Fin.ext ?_))
  match a with
  | ⟨0, _⟩ => show win0_7.index t (0 : Fin 3) * 1 + 1 * 0 = 3; omega
  | ⟨1, _⟩ => show win0_7.index t (1 : Fin 3) * 1024 + 1 * k.val = k.val; omega
  | ⟨2, _⟩ => show win0_7.index t (2 : Fin 3) * 5632 + 1 * f.val = f.val; omega
theorem blk8 (c : Dev nD) (t : Fin cfg0.N) (k : Fin 3) (f : Fin 5632) :
    (iblk m c 8 t : Vec Ideal S3x5632 .f32) (ix2 k f) = (args m c).cw (ix2 k f) := by
  obtain ⟨e0, e1⟩ := idx8 t
  refine (congrFun (V_main_arg6 m c) _).trans (congrArg (args m c).cw (funext fun a => Fin.ext ?_))
  match a with
  | ⟨0, _⟩ => show win0_8.index t (0 : Fin 2) * 3 + 1 * k.val = k.val; omega
  | ⟨1, _⟩ => show win0_8.index t (1 : Fin 2) * 5632 + 1 * f.val = f.val; omega
theorem blk9 (c : Dev nD) (t : Fin cfg0.N) (f : Fin 5632) :
    (iblk m c 9 t : Vec Ideal S1x5632 .f32) (ix2 0 f) = (args m c).cb (ix1 f) := by
  obtain ⟨e0, e1⟩ := idx9 t
  refine Eq.trans (congrArg (V m c main_v0) (funext fun a => Fin.ext ?_)) (V_v0 m c f)
  match a with
  | ⟨0, _⟩ => show win0_9.index t (0 : Fin 2) * 1 + 1 * 0 = 0; omega
  | ⟨1, _⟩ => show win0_9.index t (1 : Fin 2) * 5632 + 1 * f.val = f.val; omega
theorem blk10 (c : Dev nD) (t : Fin cfg0.N) (f : Fin 2816) (k : Fin 1024) :
    (iblk m c 10 t : Vec Ideal S1x2816x1024 .bf16) (ix3 0 f k) = (args m c).wd (ix3 (args m c).layer f k) := by
  obtain ⟨e0, e1, e2⟩ := idx10 t
  refine (congrFun (V_main_arg8 m c) _).trans (congrArg (args m c).wd (funext fun a => Fin.ext ?_))
  match a with
  | ⟨0, _⟩ => show win0_10.index t (0 : Fin 3) * 1 + 1 * 0 = 3; omega
  | ⟨1, _⟩ => show win0_10.index t (1 : Fin 3) * 2816 + 1 * f.val = f.val; omega
  | ⟨2, _⟩ => show win0_10.index t (2 : Fin 3) * 1024 + 1 * k.val = k.val; omega

theorem blk11 (c : Dev nD) (t : Fin cfg0.N) (k : Fin 1024) :
    (iblk m c 11 t : Vec Ideal S1x1024 .f32) (ix2 0 k) = fin m c (ix1 k) := by
  obtain ⟨e0, e1⟩ := idx11 t
  refine Eq.trans (congrArg (V m c main_v2) (funext fun a => Fin.ext ?_)) (V_v2 m c k)
  match a with
  | ⟨0, _⟩ => show win0_11.index t (0 : Fin 2) * 1 + 1 * 0 = 0; omega
  | ⟨1, _⟩ => show win0_11.index t (1 : Fin 2) * 1024 + 1 * k.val = k.val; omega

/-- They are the blocks of its tile. -/
theorem tile (c : Dev nD) (t : Fin cfg0.N) : IsTile (args m c) t.val (iblk m c 0 t) (iblk m c 1 t) (iblk m c 2 t) (iblk m c 3 t) (iblk m c 4 t)
    (iblk m c 5 t) (iblk m c 6 t) (iblk m c 7 t) (iblk m c 8 t) (iblk m c 9 t) (iblk m c 10 t) :=
  ⟨t_lt t, blk0 m c t, blk1 m c t, blk2 m c t, blk3 m c t, blk4 m c t, blk5 m c t, blk6 m c t, blk7 m c t, blk8 m c t, blk9 m c t, blk10 m c t⟩

/-- A grid point's block, read at an index. -/
theorem blk_apply (c : Dev nD) (t : Fin cfg0.N) (j : S1024x1024.Idx) :
    blk m c t j = lastG (args m c) (fin m c) (1024 * t.val + (j 0).val) (j 1) := by
  unfold blk
  rw [coord t]
  refine Eq.trans (congrArg _ ?_) (last_tile (tile m c t) (iblk m c 11 t) (fin m c) (blk11 m c t) (j 0) (j 1))
  funext a; match a with | ⟨0, _⟩ => rfl | ⟨1, _⟩ => rfl

/-- Where an index of a grid point's block lies in its array. -/
theorem emb12 (t : Fin cfg0.N) (j : S1024x1024.Idx) : ((cfg0.win 12).blk t).view.emb j
    = ix2 (n0 := 8192) (n1 := 1024) ⟨1024 * min t.val 7 + (j 0).val, by have : (j 0).val < 1024 := (j 0).isLt; omega⟩ (j 1) := by
  obtain ⟨e0, e1⟩ := idx12 t
  funext a; apply Fin.ext
  match a with
  | ⟨0, _⟩ => show win0_12.index t (0 : Fin 2) * 1024 + 1 * (j 0).val = 1024 * min t.val 7 + (j 0).val; omega
  | ⟨1, _⟩ => show win0_12.index t (1 : Fin 2) * 1024 + 1 * (j 1).val = (j 1).val; omega
theorem emb13 (t : Fin cfg0.N) (j : S1024x1024.Idx) : ((cfg0.win 13).blk t).view.emb j
    = ix2 (n0 := 8192) (n1 := 1024) ⟨1024 * (t.val - 8) + (j 0).val, by have : (j 0).val < 1024 := (j 0).isLt; have := t_lt t; omega⟩ (j 1) := by
  obtain ⟨e0, e1⟩ := idx13 t
  funext a; apply Fin.ext
  match a with
  | ⟨0, _⟩ => show win0_13.index t (0 : Fin 2) * 1024 + 1 * (j 0).val = 1024 * (t.val - 8) + (j 0).val; omega
  | ⟨1, _⟩ => show win0_13.index t (1 : Fin 2) * 1024 + 1 * (j 1).val = (j 1).val; omega

/-- When the two results are written back. -/
theorem flush_12 (t : Fin cfg0.N) : (cfg0.win 12).flush t = decide (t.val < 7 ∨ t.val = 15) := (Pipeline.Window.flush_eq_flushF win0_12 t).trans (flush12 t)
theorem flush_13 (t : Fin cfg0.N) : (cfg0.win 13).flush t = decide (8 ≤ t.val) := (Pipeline.Window.flush_eq_flushF win0_13 t).trans (flush13 t)

/-- What a grid point writes back is its block of the result. -/
theorem flushed_12 (c : Dev nD) (t : Fin cfg0.N) :
    (dats m 0 c).flushed 12 t = ((cfg0.win 12).blk t).view.read (Elt Ideal) (ctxA (args m c) (fin m c)) := by
  show (cfg0.win 12).cut (grid0.coords t) ((dats m 0 c).after 12 t) = _
  rw [after_12]
  refine funext fun (j : S1024x1024.Idx) => ?_
  refine Eq.trans ?_ (congrArg (ctxA (args m c) (fin m c)) (emb12 t j)).symm
  exact blk_apply m c (ctxPt t) j
theorem flushed_13 (c : Dev nD) (t : Fin cfg0.N) (hf : (cfg0.win 13).flush t = true) :
    (dats m 0 c).flushed 13 t = ((cfg0.win 13).blk t).view.read (Elt Ideal) (latA (args m c) (fin m c)) := by
  have ht : 8 ≤ t.val := of_decide_eq_true ((flush_13 t).symm.trans hf)
  show (cfg0.win 13).cut (grid0.coords t) ((dats m 0 c).after 13 t) = _
  rw [after_13]
  refine funext fun (j : S1024x1024.Idx) => ?_
  refine Eq.trans ?_ (congrArg (latA (args m c) (fin m c)) (emb13 t j)).symm
  refine (blk_apply m c t j).trans ?_
  show lastG _ _ (1024 * t.val + (j 0).val) (j 1) = lastG _ _ (8192 + (1024 * (t.val - 8) + (j 0).val)) (j 1)
  rw [show 1024 * t.val + (j 0).val = 8192 + (1024 * (t.val - 8) + (j 0).val) by omega]

/-- Every index of a result is in a block written back. -/
theorem covered_12 (i : S8192x1024.Idx) :
    ∃ t : Fin cfg0.N, (cfg0.win 12).flush t = true ∧ i ∈ ((cfg0.win 12).blk t).view.set := by
  have h0 : (i 0).val < 8192 := (i 0).isLt
  obtain ⟨t, hf, ht⟩ : ∃ t : Fin cfg0.N, (t.val < 7 ∨ t.val = 15) ∧ min t.val 7 = (i 0).val / 1024 := by
    by_cases h : (i 0).val / 1024 < 7
    · exact ⟨⟨(i 0).val / 1024, show (i 0).val / 1024 < 16 by omega⟩, .inl h, by show min ((i 0).val / 1024) 7 = _; omega⟩
    · exact ⟨⟨15, show 15 < 16 by decide⟩, .inr rfl, by show min 15 7 = _; omega⟩
  refine ⟨t, (flush_12 t).trans (decide_eq_true hf), ?_⟩
  have h := ((cfg0.win 12).blk t).view.emb_mem_set (ix2 (n0 := 1024) (n1 := 1024) ⟨(i 0).val % 1024, Nat.mod_lt _ (by decide)⟩ (i 1) : S1024x1024.Idx)
  rw [emb12] at h
  refine (congrArg (· ∈ _) (funext fun a => Fin.ext ?_)).mp h
  match a with
  | ⟨0, _⟩ => show 1024 * min t.val 7 + (i 0).val % 1024 = (i 0).val; omega
  | ⟨1, _⟩ => rfl
theorem covered_13 (i : S8192x1024.Idx) :
    ∃ t : Fin cfg0.N, (cfg0.win 13).flush t = true ∧ i ∈ ((cfg0.win 13).blk t).view.set := by
  have h0 : (i 0).val < 8192 := (i 0).isLt
  obtain ⟨t, ht⟩ : ∃ t : Fin cfg0.N, t.val = 8 + (i 0).val / 1024 :=
    ⟨⟨8 + (i 0).val / 1024, show 8 + (i 0).val / 1024 < 16 by omega⟩, rfl⟩
  refine ⟨t, (flush_13 t).trans (decide_eq_true (by omega)), ?_⟩
  have h := ((cfg0.win 13).blk t).view.emb_mem_set (ix2 (n0 := 1024) (n1 := 1024) ⟨(i 0).val % 1024, Nat.mod_lt _ (by decide)⟩ (i 1) : S1024x1024.Idx)
  rw [emb13] at h
  refine (congrArg (· ∈ _) (funext fun a => Fin.ext ?_)).mp h
  match a with
  | ⟨0, _⟩ => show 1024 * (t.val - 8) + (i 0).val % 1024 = (i 0).val; omega
  | ⟨1, _⟩ => rfl

/-- The kernel's run with its results as functions of its arguments. -/
theorem run_value : θ_run defs (onTc (τ := τ) (main (F := Ideal))) ⟨m, fun _ => 0, ρ⟩ fun r => ∀ c : Dev nD,
      r.2.mem ((c : Thread nD τ).loc main_v3_0) = ctxA (args m c) (fin m c)
      ∧ r.2.mem ((c : Thread nD τ).loc main_v3_1) = latA (args m c) (fin m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1.1 c).1 12).trans ((dats m 0 c).arrAt_eq_of_cover 12 _ (fun t _ => flushed_12 m c t) covered_12),
    ((h.1.1 c).1 13).trans ((dats m 0 c).arrAt_eq_of_cover 13 _ (flushed_13 m c) covered_13), h.2.1 c⟩) (θ_run_and (run m ρ) (unchanged m ρ))

end Cert.Proof.Last

end
-- ==== Proof.LastRef.lean ====
/- The plain last layer's results as arrays: the layer's rows, each normed once more, the context's and the latents' apart. -/
module

public import proofs.«01_k».proof.Proof.Gen.ReferenceLastIdeal.Run
public import proofs.«01_k».proof.Proof.Gen.ReferenceLastIdeal.Read
public import proofs.«01_k».proof.Proof.FfnRef
public import proofs.«01_k».proof.Proof.LastRead

@[expose] public section

noncomputable section

namespace Cert.Proof.Last

open Cert.ReferenceLastIdeal Cert.ReferenceLastIdeal.Gen Cert.ReferenceLastIdeal.Read Cert.Proof.Ffn Idealize.ShloMosaic Idealize.ShloMosaic.TcCoe
open Idealize.ShloMosaic.Pointwise

/-- The last norm on whole arrays. -/
def finC (y : FVec Ideal S32x256x1024 .f32) (g : FVec Ideal S1024 .f32) : FVec Ideal S32x256x1024 .f32 :=
  mulf (mulf y (broadcastInDim S32x256x1024 ![0, 1, 2] bcast_S32x256x1_S32x256x1024_0_1_2
      (Host.rsqrt (addf (Host.divf
        (broadcastInDim S32x256x1 ![0, 1] bcast_S32x256_S32x256x1_0_1 (Host.reduceAdd (mulf y y) zeroS reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
    (broadcastInDim S32x256x1024 ![0, 1, 2] bcast_S1x1x1024_S32x256x1024_0_1_2 (broadcastInDim S1x1x1024 ![2] bcast_S1024_S1x1x1024_2 g))
def finL (y : FVec Ideal S2x4096x1024 .f32) (g : FVec Ideal S1024 .f32) : FVec Ideal S2x4096x1024 .f32 :=
  mulf (mulf y (broadcastInDim S2x4096x1024 ![0, 1, 2] bcast_S2x4096x1_S2x4096x1024_0_1_2
      (Host.rsqrt (addf (Host.divf
        (broadcastInDim S2x4096x1 ![0, 1] bcast_S2x4096_S2x4096x1_0_1 (Host.reduceAdd (mulf y y) zeroS reducesTo_S2x4096x1024_S2x4096_d2 h_S_))
        (broadcastInDim S2x4096x1 ![] bcast_S_S2x4096x1 (constant S_ .f32 0x44800000#32)))
        (broadcastInDim S2x4096x1 ![] bcast_S_S2x4096x1 (constant S_ .f32 0x358637BD#32))))))
    (broadcastInDim S2x4096x1024 ![0, 1, 2] bcast_S1x1x1024_S2x4096x1024_0_1_2 (broadcastInDim S1x1x1024 ![2] bcast_S1024_S1x1x1024_2 g))

theorem finC_apply (y : FVec Ideal S32x256x1024 .f32) (g : FVec Ideal S1024 .f32) (b : Fin 32) (p : Fin 256) (k : Fin 1024) :
    finC y g (ix3 b p k) = rowNorm (fun l => y (ix3 b p l)) (fun l => g (ix1 l)) k := by
  pointwise [finC, zeroS]
  unfold rowNorm
  rfl
theorem finL_apply (y : FVec Ideal S2x4096x1024 .f32) (g : FVec Ideal S1024 .f32) (b : Fin 2) (p : Fin 4096) (k : Fin 1024) :
    finL y g (ix3 b p k) = rowNorm (fun l => y (ix3 b p l)) (fun l => g (ix1 l)) k := by
  pointwise [finL, zeroS]
  unfold rowNorm
  rfl

variable (A : Args) (fg : FVec Ideal S1024 .f32)

/-- A normed half as rows, when its rows before the norm are the layer's. -/
theorem ctx_eq (y : FVec Ideal S32x256x1024 .f32) (hy : ∀ b p j, y (ix3 b p j) = outG A (256 * b.val + p.val) j) :
    (shapeCast _ (finC y fg) shapeCasts_S32x256x1024_S8192x1024 : FVec Ideal S8192x1024 .f32) = ctxA A fg := by
  funext i
  obtain ⟨n, j, rfl⟩ : ∃ (n : Fin 8192) (j : Fin 1024), i = ix2 n j := ⟨i 0, i 1, by funext a; match a with | ⟨0, _⟩ => rfl | ⟨1, _⟩ => rfl⟩
  refine (flatC_apply _ n j).trans ((finC_apply _ _ _ _ _).trans ?_)
  show _ = lastG A fg n.val j
  refine congrArg (rowNorm · _ j) (funext fun l => (hy _ _ l).trans (congrArg (outG A · l) ?_))
  show 256 * (n.val / 256) + n.val % 256 = n.val; omega
theorem lat_eq (y : FVec Ideal S2x4096x1024 .f32) (hy : ∀ b p j, y (ix3 b p j) = outG A (8192 + 4096 * b.val + p.val) j) :
    (shapeCast _ (finL y fg) shapeCasts_S2x4096x1024_S8192x1024 : FVec Ideal S8192x1024 .f32) = latA A fg := by
  funext i
  obtain ⟨n, j, rfl⟩ : ∃ (n : Fin 8192) (j : Fin 1024), i = ix2 n j := ⟨i 0, i 1, by funext a; match a with | ⟨0, _⟩ => rfl | ⟨1, _⟩ => rfl⟩
  refine (flatL_apply _ n j).trans ((finL_apply _ _ _ _ _).trans ?_)
  show _ = lastG A fg (8192 + n.val) j
  refine congrArg (rowNorm · _ j) (funext fun l => (hy _ _ l).trans (congrArg (outG A · l) ?_))
  show 8192 + 4096 * (n.val / 4096) + n.val % 4096 = 8192 + n.val; omega

/-- The plain layer's two results, with the weights of layer 3. -/
theorem ref_ctx (hl : A.layer = 3) :
    val_main_v135 (F := Ideal) A.x A.g A.sh A.sc A.ga A.wu A.cw A.cb A.wd fg = ctxA A fg := by
  have h3 : A.layer = ⟨3, by decide⟩ := hl
  exact ctx_eq A fg
    (resC (val_main_v5 A.x) A.g (val_main_v6 A.sh) (val_main_v7 A.sc) (val_main_v8 A.ga) (val_main_v28 A.wu) A.cw A.cb (val_main_v58 A.wd))
    (resC_apply A _ _ _ _ _ _ (rowsC_apply A.x) (modC_apply A.sh) (modC_apply A.sc) (modC_apply A.ga)
      (fun k f => (upLayer_apply 3 _ slices_S4x1024x5632_S1x1024x5632_3_0_0 A.wu k f).trans (by rw [h3])) (fun f j => (dnLayer_apply 3 _ slices_S4x2816x1024_S1x2816x1024_3_0_0 A.wd f j).trans (by rw [h3])))
theorem ref_lat (hl : A.layer = 3) :
    val_main_v149 (F := Ideal) A.x A.g A.sh A.sc A.ga A.wu A.cw A.cb A.wd fg = latA A fg := by
  have h3 : A.layer = ⟨3, by decide⟩ := hl
  exact lat_eq A fg
    (resL (val_main_v64 A.x) A.g (val_main_v65 A.sh) (val_main_v66 A.sc) (val_main_v67 A.ga) (val_main_v87 A.wu) A.cw A.cb (val_main_v117 A.wd))
    (resL_apply A _ _ _ _ _ _ (rowsL_apply A.x) (modL_apply A.sh) (modL_apply A.sc) (modL_apply A.ga)
      (fun k f => (upLayer_apply 3 _ slices_S4x1024x5632_S1x1024x5632_3_0_0 A.wu k f).trans (by rw [h3])) (fun f j => (dnLayer_apply 3 _ slices_S4x2816x1024_S1x2816x1024_3_0_0 A.wd f j).trans (by rw [h3])))

end Cert.Proof.Last

end
-- ==== Proof.LastClaim.lean ====
/- The last feed-forward claim: kernel and reference both run and end with equal rows, the context's and the latents'. -/
module

public import proofs.«01_k».proof.Defs
public import proofs.«01_k».proof.Proof.LastRun
public import proofs.«01_k».proof.Proof.LastRef

@[expose] public section

noncomputable section

namespace Cert.Proof.Last

open Idealize.ShloMosaic Idealize.SL.Sem

theorem algebraic : Cert.algebraic_KernelLastIdeal_ReferenceLastIdeal := by
  intro m g m' g' _ heq
  refine ⟨fun c => ctxA (args m c) (fin m c), fun c => latA (args m c) (fin m c), run_value m g,
    (θ_run Cert.ReferenceLastIdeal.defs _ _).mono (fun r h c => ?_) (Cert.ReferenceLastIdeal.Value.run m' g')⟩
  obtain ⟨e0, e1, e2, e3, e4, e5, e6, e7, e8, e9⟩ := heq c
  refine ⟨((h c).1.trans (Cert.ReferenceLastIdeal.Read.val_main_v135_eq _)).trans (Eq.trans ?_ (ref_ctx (args m c) (fin m c) rfl)),
    ((h c).2.1.trans (Cert.ReferenceLastIdeal.Read.val_main_v149_eq _)).trans (Eq.trans ?_ (ref_lat (args m c) (fin m c) rfl)), (h c).2.2⟩
  all_goals rw [show (args m c).x = _ from e0.symm, show (args m c).g = _ from e1.symm, show (args m c).sh = _ from e2.symm,
    show (args m c).sc = _ from e3.symm, show (args m c).ga = _ from e4.symm, show (args m c).wu = _ from e5.symm,
    show (args m c).cw = _ from e6.symm, show (args m c).cb = _ from e7.symm, show (args m c).wd = _ from e8.symm, show fin m c = _ from e9.symm]

/-- The reference of the last layer runs and leaves its arguments alone; it has no semaphore. -/
theorem frame_reference : Cert.quiescent_ReferenceLastIdeal := fun m ρ _ =>
  (θ_run Cert.ReferenceLastIdeal.defs _ _).mono (fun r h => ⟨fun c => (h c).2.2,
    Idealize.ShloMosaic.sem_eq_zero_of_no_sems (by decide) r.2⟩) (Cert.ReferenceLastIdeal.Value.run (F := Ideal) m ρ)

end Cert.Proof.Last

end
-- ==== Proof.lean ====
/- The claims of nine calls: the retention and its output stage, the feed-forward layer, the last such layer with its norm, the
   normed projections of three layers, and the differential attention's output projection and its preparation of the context. The
   frames of their programs; over the reals the retention's mixed values and states are the reference's wherever the projection it
   reads is finite, and the results of the other calls are the reference's everywhere. -/
module

public import proofs.«01_k».proof.Proof.RetClaim
public import proofs.«01_k».proof.Proof.FfnClaim
public import proofs.«01_k».proof.Proof.ProjClaim
public import proofs.«01_k».proof.Proof.QkvClaim
public import proofs.«01_k».proof.Proof.GateClaim
public import proofs.«01_k».proof.Proof.ResClaim
public import proofs.«01_k».proof.Proof.AttnClaim
public import proofs.«01_k».proof.Proof.KvdClaim
public import proofs.«01_k».proof.Proof.LastBits
public import proofs.«01_k».proof.Proof.LastClaim
public import proofs.«01_k».proof.Proof.Gen.Kernel.Frame
public import proofs.«01_k».proof.Proof.Gen.KernelIdeal.Frame
public import proofs.«01_k».proof.Proof.Gen.Pre_finite
public import proofs.«01_k».proof.Proof.Gen.KernelFfn.Frame
public import proofs.«01_k».proof.Proof.Gen.KernelProj.Frame
public import proofs.«01_k».proof.Proof.Gen.KernelProjIdeal.Frame
public import proofs.«01_k».proof.Proof.Gen.KernelFfnIdeal.Frame
public import proofs.«01_k».proof.Proof.Gen.KernelQkv.Frame
public import proofs.«01_k».proof.Proof.Gen.KernelQkvIdeal.Frame
public import proofs.«01_k».proof.Proof.Gen.KernelGate.Frame
public import proofs.«01_k».proof.Proof.Gen.KernelGateIdeal.Frame
public import proofs.«01_k».proof.Proof.Gen.KernelRes.Frame
public import proofs.«01_k».proof.Proof.Gen.KernelResIdeal.Frame
public import proofs.«01_k».proof.Proof.Gen.KernelAttn.Frame
public import proofs.«01_k».proof.Proof.Gen.KernelAttnIdeal.Frame
public import proofs.«01_k».proof.Proof.Gen.KernelKvd.Frame
public import proofs.«01_k».proof.Proof.Gen.KernelKvdIdeal.Frame

@[expose] public section

noncomputable section

namespace Cert.Proof

open Idealize.ShloMosaic Idealize.SL.Sem

/-- The reference of the retention runs and leaves its arguments alone; it has no semaphore. -/
theorem frame_reference : Cert.quiescent_ReferenceIdeal := fun m ρ _ =>
  (θ_run Cert.ReferenceIdeal.defs _ _).mono (fun r h => ⟨fun c => ⟨(h c).2.2.1, (h c).2.2.2⟩,
    Idealize.ShloMosaic.sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts,
    Cert.KernelFfn.Gen.facts, Cert.KernelFfnIdeal.Gen.facts, Cert.ReferenceFfnIdeal.Gen.facts,
    Cert.KernelProj.Gen.facts, Cert.KernelProjIdeal.Gen.facts, Cert.ReferenceProjIdeal.Gen.facts,
    Cert.KernelLast.Gen.facts, Cert.KernelLastIdeal.Gen.facts, Cert.ReferenceLastIdeal.Gen.facts,
    Cert.KernelQkv.Gen.facts, Cert.KernelQkvIdeal.Gen.facts, Cert.ReferenceQkvIdeal.Gen.facts,
    Cert.KernelGate.Gen.facts, Cert.KernelGateIdeal.Gen.facts, Cert.ReferenceGateIdeal.Gen.facts,
    Cert.KernelRes.Gen.facts, Cert.KernelResIdeal.Gen.facts, Cert.ReferenceResIdeal.Gen.facts,
    Cert.KernelAttn.Gen.facts, Cert.KernelAttnIdeal.Gen.facts, Cert.ReferenceAttnIdeal.Gen.facts,
    Cert.KernelKvd.Gen.facts, Cert.KernelKvdIdeal.Gen.facts, Cert.ReferenceKvdIdeal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.KernelFfn.Gen.frame m ρ, fun m ρ _ => Cert.KernelFfnIdeal.Gen.frame m ρ, Ffn.frame_reference,
    fun m ρ _ => Cert.KernelProj.Gen.frame m ρ, fun m ρ _ => Cert.KernelProjIdeal.Gen.frame m ρ, Proj.frame_reference,
    Last.frame_kernel, fun m ρ _ => Last.unchanged m ρ, Last.frame_reference,
    fun m ρ _ => Cert.KernelQkv.Gen.frame m ρ, fun m ρ _ => Cert.KernelQkvIdeal.Gen.frame m ρ, Qkv.frame_reference,
    fun m ρ _ => Cert.KernelGate.Gen.frame m ρ, fun m ρ _ => Cert.KernelGateIdeal.Gen.frame m ρ, Gate.frame_reference,
    fun m ρ _ => Cert.KernelRes.Gen.frame m ρ, fun m ρ _ => Cert.KernelResIdeal.Gen.frame m ρ, Res.frame_reference,
    fun m ρ _ => Cert.KernelAttn.Gen.frame m ρ, fun m ρ _ => Cert.KernelAttnIdeal.Gen.frame m ρ, Attn.frame_reference,
    fun m ρ _ => Cert.KernelKvd.Gen.frame m ρ, fun m ρ _ => Cert.KernelKvdIdeal.Gen.frame m ρ, Kvd.frame_reference,
    trivial, Ret.algebraic, trivial, Ffn.algebraic, trivial, Proj.algebraic, trivial, Last.algebraic,
    trivial, Qkv.algebraic, trivial, Gate.algebraic, trivial, Res.algebraic, trivial, Attn.algebraic,
    trivial, Kvd.algebraic⟩

end Cert.Proof

end
